-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v204) = v1 c
          ∧ r.2.mem ((c.tc : Thread Cert.ReferenceIdeal.nD Cert.ReferenceIdeal.τ).loc Cert.ReferenceIdeal.main_v203) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x512x512 : Shape := ⟨4, ![4, 3, 512, 512]⟩
abbrev S3x255 : Shape := ⟨2, ![3, 255]⟩
abbrev S255 : Shape := ⟨1, ![255]⟩
abbrev S4x3x64x8x64x8 : Shape := ⟨6, ![4, 3, 64, 8, 64, 8]⟩
abbrev S_ : Shape := ⟨0, ![]⟩
abbrev S4x3x64x64 : Shape := ⟨4, ![4, 3, 64, 64]⟩
abbrev S4x64x64x255 : Shape := ⟨4, ![4, 64, 64, 255]⟩
abbrev S1x1x1x255 : Shape := ⟨4, ![1, 1, 1, 255]⟩
abbrev S4x12288x85 : Shape := ⟨3, ![4, 12288, 85]⟩
abbrev S4x12288x2 : Shape := ⟨3, ![4, 12288, 2]⟩
abbrev S4x12288x1 : Shape := ⟨3, ![4, 12288, 1]⟩
abbrev S4x12288 : Shape := ⟨2, ![4, 12288]⟩
abbrev S4x12288x80 : Shape := ⟨3, ![4, 12288, 80]⟩
abbrev S4x1024 : Shape := ⟨2, ![4, 1024]⟩
abbrev S4x1024x1 : Shape := ⟨3, ![4, 1024, 1]⟩
abbrev S1 : Shape := ⟨1, ![1]⟩
abbrev S1x1x1 : Shape := ⟨3, ![1, 1, 1]⟩
abbrev S4x1024x4 : Shape := ⟨3, ![4, 1024, 4]⟩
abbrev S4x1x1024 : Shape := ⟨3, ![4, 1, 1024]⟩
abbrev S4x4x1024 : Shape := ⟨3, ![4, 4, 1024]⟩
abbrev S4x300x4 : Shape := ⟨3, ![4, 300, 4]⟩
abbrev S4x300x1 : Shape := ⟨3, ![4, 300, 1]⟩
abbrev S4x300 : Shape := ⟨2, ![4, 300]⟩
abbrev S1x1x1024 : Shape := ⟨3, ![1, 1, 1024]⟩
abbrev S1x4x1024 : Shape := ⟨3, ![1, 4, 1024]⟩
abbrev S1x1024x4 : Shape := ⟨3, ![1, 1024, 4]⟩
abbrev S1x1024x1 : Shape := ⟨3, ![1, 1024, 1]⟩
abbrev S1x300x4 : Shape := ⟨3, ![1, 300, 4]⟩
abbrev S1x300x1 : Shape := ⟨3, ![1, 300, 1]⟩
abbrev S1024x1024 : Shape := ⟨2, ![1024, 1024]⟩
abbrev S1x1024 : Shape := ⟨2, ![1, 1024]⟩
abbrev S1x128x1 : Shape := ⟨3, ![1, 128, 1]⟩
abbrev S128x1 : Shape := ⟨2, ![128, 1]⟩
abbrev S128x1024 : Shape := ⟨2, ![128, 1024]⟩
abbrev S300x4 : Shape := ⟨2, ![300, 4]⟩
abbrev S300x1 : Shape := ⟨2, ![300, 1]⟩
abbrev S1x1x4 : Shape := ⟨3, ![1, 1, 4]⟩
abbrev S1x4 : Shape := ⟨2, ![1, 4]⟩
abbrev S1x1 : Shape := ⟨2, ![1, 1]⟩

abbrev nBuf : Space → Nat
  | .hbm => 242
  | .vmem => 18
  | .smem => 0
  | _ => 0

abbrev hbmTy0_0 (i : Nat) : BufTy := match i % 128 with
  | 0 => ⟨S4x3x512x512, .f32⟩
  | 1 => ⟨S3x255, .f32⟩
  | 2 => ⟨S255, .f32⟩
  | 3 => ⟨S4x3x64x8x64x8, .f32⟩
  | 4 => ⟨S_, .f32⟩
  | 5 => ⟨S4x3x64x64, .f32⟩
  | 6 => ⟨S_, .f32⟩
  | 7 => ⟨S4x3x64x64, .f32⟩
  | 8 => ⟨S4x3x64x64, .f32⟩
  | 9 => ⟨S4x64x64x255, .f32⟩
  | 10 => ⟨S1x1x1x255, .f32⟩
  | 11 => ⟨S4x64x64x255, .f32⟩
  | 12 => ⟨S4x64x64x255, .f32⟩
  | 13 => ⟨S4x12288x85, .f32⟩
  | 14 => ⟨S4x12288x2, .f32⟩
  | 15 => ⟨S4x12288x2, .f32⟩
  | 16 => ⟨S4x12288x2, .f32⟩
  | 17 => ⟨S_, .f32⟩
  | 18 => ⟨S4x12288x2, .f32⟩
  | 19 => ⟨S4x12288x2, .f32⟩
  | 20 => ⟨S_, .f32⟩
  | 21 => ⟨S4x12288x2, .f32⟩
  | 22 => ⟨S4x12288x2, .f32⟩
  | 23 => ⟨S_, .f32⟩
  | 24 => ⟨S4x12288x2, .f32⟩
  | 25 => ⟨S4x12288x2, .f32⟩
  | 26 => ⟨S4x12288x2, .f32⟩
  | 27 => ⟨S4x12288x2, .f32⟩
  | 28 => ⟨S4x12288x2, .f32⟩
  | 29 => ⟨S_, .f32⟩
  | 30 => ⟨S4x12288x2, .f32⟩
  | 31 => ⟨S4x12288x2, .f32⟩
  | 32 => ⟨S_, .f32⟩
  | 33 => ⟨S4x12288x2, .f32⟩
  | 34 => ⟨S4x12288x2, .f32⟩
  | 35 => ⟨S_, .f32⟩
  | 36 => ⟨S4x12288x2, .f32⟩
  | 37 => ⟨S4x12288x2, .f32⟩
  | 38 => ⟨S4x12288x1, .f32⟩
  | 39 => ⟨S4x12288, .f32⟩
  | 40 => ⟨S4x12288, .f32⟩
  | 41 => ⟨S4x12288, .f32⟩
  | 42 => ⟨S_, .f32⟩
  | 43 => ⟨S4x12288, .f32⟩
  | 44 => ⟨S4x12288, .f32⟩
  | 45 => ⟨S_, .f32⟩
  | 46 => ⟨S4x12288, .f32⟩
  | 47 => ⟨S4x12288, .f32⟩
  | 48 => ⟨S4x12288x80, .f32⟩
  | 49 => ⟨S4x12288x80, .f32⟩
  | 50 => ⟨S4x12288x80, .f32⟩
  | 51 => ⟨S_, .f32⟩
  | 52 => ⟨S4x12288x80, .f32⟩
  | 53 => ⟨S4x12288x80, .f32⟩
  | 54 => ⟨S_, .f32⟩
  | 55 => ⟨S4x12288x80, .f32⟩
  | 56 => ⟨S4x12288x80, .f32⟩
  | 57 => ⟨S4x12288x1, .f32⟩
  | 58 => ⟨S4x12288x80, .f32⟩
  | 59 => ⟨S4x12288x80, .f32⟩
  | 60 => ⟨S_, .f32⟩
  | 61 => ⟨S4x12288, .f32⟩
  | 62 => ⟨S4x12288x80, .i32⟩
  | 63 => ⟨S_, .f32⟩
  | 64 => ⟨S_, .i32⟩
  | 65 => ⟨S4x12288, .f32⟩
  | 66 => ⟨S4x12288, .i32⟩
  | 67 => ⟨S4x12288, .f32⟩
  | 68 => ⟨S_, .f32⟩
  | 69 => ⟨S4x12288, .f32⟩
  | 70 => ⟨S4x12288, .i1⟩
  | 71 => ⟨S_, .f32⟩
  | 72 => ⟨S4x12288, .f32⟩
  | 73 => ⟨S4x12288, .i1⟩
  | 74 => ⟨S4x12288, .i1⟩
  | 75 => ⟨S_, .f32⟩
  | 76 => ⟨S_, .f32⟩
  | 77 => ⟨S4x12288, .f32⟩
  | 78 => ⟨S4x12288, .f32⟩
  | 79 => ⟨S4x12288x1, .f32⟩
  | 80 => ⟨S4x12288, .f32⟩
  | 81 => ⟨S4x12288x1, .f32⟩
  | 82 => ⟨S4x12288, .f32⟩
  | 83 => ⟨S_, .f32⟩
  | 84 => ⟨S4x12288, .f32⟩
  | 85 => ⟨S4x12288, .f32⟩
  | 86 => ⟨S4x12288, .f32⟩
  | 87 => ⟨S4x12288x1, .f32⟩
  | 88 => ⟨S4x12288, .f32⟩
  | 89 => ⟨S4x12288x1, .f32⟩
  | 90 => ⟨S4x12288, .f32⟩
  | 91 => ⟨S_, .f32⟩
  | 92 => ⟨S4x12288, .f32⟩
  | 93 => ⟨S4x12288, .f32⟩
  | 94 => ⟨S4x12288, .f32⟩
  | 95 => ⟨S4x12288x1, .f32⟩
  | 96 => ⟨S4x12288, .f32⟩
  | 97 => ⟨S4x12288x1, .f32⟩
  | 98 => ⟨S4x12288, .f32⟩
  | 99 => ⟨S_, .f32⟩
  | 100 => ⟨S4x12288, .f32⟩
  | 101 => ⟨S4x12288, .f32⟩
  | 102 => ⟨S4x12288, .f32⟩
  | 103 => ⟨S4x12288x1, .f32⟩
  | 104 => ⟨S4x12288, .f32⟩
  | 105 => ⟨S4x12288x1, .f32⟩
  | 106 => ⟨S4x12288, .f32⟩
  | 107 => ⟨S_, .f32⟩
  | 108 => ⟨S4x12288, .f32⟩
  | 109 => ⟨S4x12288, .f32⟩
  | 110 => ⟨S4x12288, .f32⟩
  | 111 => ⟨S4x1024, .f32⟩
  | 112 => ⟨S4x1024, .i32⟩
  | 113 => ⟨S_, .i32⟩
  | 114 => ⟨S4x1024, .i32⟩
  | 115 => ⟨S4x1024, .i1⟩
  | 116 => ⟨S_, .i32⟩
  | 117 => ⟨S4x1024, .i32⟩
  | 118 => ⟨S4x1024, .i32⟩
  | 119 => ⟨S4x1024, .i32⟩
  | 120 => ⟨S4x1024x1, .i32⟩
  | 121 => ⟨S1, .i32⟩
  | 122 => ⟨S_, .i32⟩
  | 123 => ⟨S4x1024x1, .i32⟩
  | 124 => ⟨S4x1024x1, .i1⟩
  | 125 => ⟨S1x1x1, .i32⟩
  | 126 => ⟨S4x1024x1, .i32⟩
  | 127 => ⟨S4x1024x1, .i1⟩
  | _ => ⟨S4x3x512x512, .f32⟩

abbrev hbmTy0_1 (i : Nat) : BufTy := match i % 128 with
  | 0 => ⟨S4x1024x1, .i1⟩
  | 1 => ⟨S_, .i1⟩
  | 2 => ⟨S4x1024, .i1⟩
  | 3 => ⟨S4x1024, .f32⟩
  | 4 => ⟨S_, .f32⟩
  | 5 => ⟨S4x1024, .f32⟩
  | 6 => ⟨S4x1024, .f32⟩
  | 7 => ⟨S_, .i32⟩
  | 8 => ⟨S4x1024, .i32⟩
  | 9 => ⟨S4x1024, .i1⟩
  | 10 => ⟨S_, .i32⟩
  | 11 => ⟨S4x1024, .i32⟩
  | 12 => ⟨S4x1024, .i32⟩
  | 13 => ⟨S4x1024, .i32⟩
  | 14 => ⟨S4x1024x1, .i32⟩
  | 15 => ⟨S1, .i32⟩
  | 16 => ⟨S_, .i32⟩
  | 17 => ⟨S4x1024x1, .i32⟩
  | 18 => ⟨S4x1024x1, .i1⟩
  | 19 => ⟨S1x1x1, .i32⟩
  | 20 => ⟨S4x1024x1, .i32⟩
  | 21 => ⟨S4x1024x1, .i1⟩
  | 22 => ⟨S4x1024x1, .i1⟩
  | 23 => ⟨S_, .i1⟩
  | 24 => ⟨S4x1024, .i1⟩
  | 25 => ⟨S4x1024, .f32⟩
  | 26 => ⟨S_, .f32⟩
  | 27 => ⟨S4x1024, .f32⟩
  | 28 => ⟨S4x1024, .f32⟩
  | 29 => ⟨S_, .i32⟩
  | 30 => ⟨S4x1024, .i32⟩
  | 31 => ⟨S4x1024, .i1⟩
  | 32 => ⟨S_, .i32⟩
  | 33 => ⟨S4x1024, .i32⟩
  | 34 => ⟨S4x1024, .i32⟩
  | 35 => ⟨S4x1024, .i32⟩
  | 36 => ⟨S4x1024x1, .i32⟩
  | 37 => ⟨S1, .i32⟩
  | 38 => ⟨S_, .i32⟩
  | 39 => ⟨S4x1024x1, .i32⟩
  | 40 => ⟨S4x1024x1, .i1⟩
  | 41 => ⟨S1x1x1, .i32⟩
  | 42 => ⟨S4x1024x1, .i32⟩
  | 43 => ⟨S4x1024x1, .i1⟩
  | 44 => ⟨S4x1024x1, .i1⟩
  | 45 => ⟨S_, .i1⟩
  | 46 => ⟨S4x1024, .i1⟩
  | 47 => ⟨S4x1024, .f32⟩
  | 48 => ⟨S_, .f32⟩
  | 49 => ⟨S4x1024, .f32⟩
  | 50 => ⟨S4x1024, .f32⟩
  | 51 => ⟨S_, .i32⟩
  | 52 => ⟨S4x1024, .i32⟩
  | 53 => ⟨S4x1024, .i1⟩
  | 54 => ⟨S_, .i32⟩
  | 55 => ⟨S4x1024, .i32⟩
  | 56 => ⟨S4x1024, .i32⟩
  | 57 => ⟨S4x1024, .i32⟩
  | 58 => ⟨S4x1024x1, .i32⟩
  | 59 => ⟨S1, .i32⟩
  | 60 => ⟨S_, .i32⟩
  | 61 => ⟨S4x1024x1, .i32⟩
  | 62 => ⟨S4x1024x1, .i1⟩
  | 63 => ⟨S1x1x1, .i32⟩
  | 64 => ⟨S4x1024x1, .i32⟩
  | 65 => ⟨S4x1024x1, .i1⟩
  | 66 => ⟨S4x1024x1, .i1⟩
  | 67 => ⟨S_, .i1⟩
  | 68 => ⟨S4x1024, .i1⟩
  | 69 => ⟨S4x1024, .f32⟩
  | 70 => ⟨S_, .f32⟩
  | 71 => ⟨S4x1024, .f32⟩
  | 72 => ⟨S4x1024, .f32⟩
  | 73 => ⟨S_, .i32⟩
  | 74 => ⟨S4x1024, .i32⟩
  | 75 => ⟨S4x1024, .i1⟩
  | 76 => ⟨S_, .i32⟩
  | 77 => ⟨S4x1024, .i32⟩
  | 78 => ⟨S4x1024, .i32⟩
  | 79 => ⟨S4x1024, .i32⟩
  | 80 => ⟨S4x1024x1, .i32⟩
  | 81 => ⟨S1, .i32⟩
  | 82 => ⟨S_, .i32⟩
  | 83 => ⟨S4x1024x1, .i32⟩
  | 84 => ⟨S4x1024x1, .i1⟩
  | 85 => ⟨S1x1x1, .i32⟩
  | 86 => ⟨S4x1024x1, .i32⟩
  | 87 => ⟨S4x1024x1, .i1⟩
  | 88 => ⟨S4x1024x1, .i1⟩
  | 89 => ⟨S_, .i1⟩
  | 90 => ⟨S4x1024, .i1⟩
  | 91 => ⟨S4x1024, .f32⟩
  | 92 => ⟨S_, .f32⟩
  | 93 => ⟨S4x1024, .f32⟩
  | 94 => ⟨S4x1024, .f32⟩
  | 95 => ⟨S4x1024x1, .f32⟩
  | 96 => ⟨S4x1024x1, .f32⟩
  | 97 => ⟨S4x1024x1, .f32⟩
  | 98 => ⟨S4x1024x1, .f32⟩
  | 99 => ⟨S4x1024x4, .f32⟩
  | 100 => ⟨S4x1x1024, .f32⟩
  | 101 => ⟨S4x1x1024, .f32⟩
  | 102 => ⟨S4x1x1024, .f32⟩
  | 103 => ⟨S4x1x1024, .f32⟩
  | 104 => ⟨S4x4x1024, .f32⟩
  | 105 => ⟨S4x1024x1, .f32⟩
  | 106 => ⟨S4x1x1024, .f32⟩
  | 107 => ⟨S4x1x1024, .f32⟩
  | 108 => ⟨S4x300x4, .f32⟩
  | 109 => ⟨S4x300x1, .f32⟩
  | 110 => ⟨S4x300x1, .f32⟩
  | 111 => ⟨S4x300, .f32⟩
  | 112 => ⟨S4x300, .f32⟩
  | 113 => ⟨S4x300, .i32⟩
  | _ => ⟨S4x3x512x512, .f32⟩

abbrev hbmTy (i : Nat) : BufTy := match i / 128 with
  | 0 => hbmTy0_0 i
  | 1 => hbmTy0_1 i
  | _ => ⟨S4x3x512x512, .f32⟩

abbrev bufTy : (tb : Table) → Fin (tcTables nBuf tb) → BufTy
  | .hbm, ⟨i, _⟩ => hbmTy i
  | .local _ .vmem, ⟨0, _⟩ => ⟨S1x1x1024, .f32⟩
  | .local _ .vmem, ⟨1, _⟩ => ⟨S1x1x1024, .f32⟩
  | .local _ .vmem, ⟨2, _⟩ => ⟨S1x4x1024, .f32⟩
  | .local _ .vmem, ⟨3, _⟩ => ⟨S1x4x1024, .f32⟩
  | .local _ .vmem, ⟨4, _⟩ => ⟨S1x1024x4, .f32⟩
  | .local _ .vmem, ⟨5, _⟩ => ⟨S1x1024x4, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1, .f32⟩
  | .local _ .vmem, ⟨9, _⟩ => ⟨S1x1024x1, .f32⟩
  | .local _ .vmem, ⟨10, _⟩ => ⟨S1x300x4, .f32⟩
  | .local _ .vmem, ⟨11, _⟩ => ⟨S1x300x4, .f32⟩
  | .local _ .vmem, ⟨12, _⟩ => ⟨S1x300x1, .f32⟩
  | .local _ .vmem, ⟨13, _⟩ => ⟨S1x300x1, .f32⟩
  | .local _ .vmem, ⟨14, _⟩ => ⟨S1x300x1, .f32⟩
  | .local _ .vmem, ⟨15, _⟩ => ⟨S1x300x1, .f32⟩
  | .local _ .vmem, ⟨16, _⟩ => ⟨S1024x1024, .f32⟩
  | .local _ .vmem, ⟨17, _⟩ => ⟨S1x1024, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_cst_1 : Ref sig .tc := ⟨.hbm, 17, rfl⟩
abbrev main_call0_v12 : Ref sig .tc := ⟨.hbm, 18, rfl⟩
abbrev main_call0_v13 : Ref sig .tc := ⟨.hbm, 19, rfl⟩
abbrev main_call0_cst_2 : Ref sig .tc := ⟨.hbm, 20, rfl⟩
abbrev main_call0_v14 : Ref sig .tc := ⟨.hbm, 21, rfl⟩
abbrev main_call0_v15 : Ref sig .tc := ⟨.hbm, 22, rfl⟩
abbrev main_call0_cst_3 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_cst_4 : Ref sig .tc := ⟨.hbm, 29, rfl⟩
abbrev main_call0_v21 : Ref sig .tc := ⟨.hbm, 30, rfl⟩
abbrev main_call0_v22 : Ref sig .tc := ⟨.hbm, 31, rfl⟩
abbrev main_call0_cst_5 : Ref sig .tc := ⟨.hbm, 32, rfl⟩
abbrev main_call0_v23 : Ref sig .tc := ⟨.hbm, 33, rfl⟩
abbrev main_call0_v24 : Ref sig .tc := ⟨.hbm, 34, rfl⟩
abbrev main_call0_cst_6 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_v30 : Ref sig .tc := ⟨.hbm, 41, rfl⟩
abbrev main_call0_cst_7 : Ref sig .tc := ⟨.hbm, 42, rfl⟩
abbrev main_call0_v31 : Ref sig .tc := ⟨.hbm, 43, rfl⟩
abbrev main_call0_v32 : Ref sig .tc := ⟨.hbm, 44, rfl⟩
abbrev main_call0_cst_8 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_cst_9 : Ref sig .tc := ⟨.hbm, 51, rfl⟩
abbrev main_call0_v38 : Ref sig .tc := ⟨.hbm, 52, rfl⟩
abbrev main_call0_v39 : Ref sig .tc := ⟨.hbm, 53, rfl⟩
abbrev main_call0_cst_10 : Ref sig .tc := ⟨.hbm, 54, rfl⟩
abbrev main_call0_v40 : Ref sig .tc := ⟨.hbm, 55, rfl⟩
abbrev main_call0_v41 : Ref sig .tc := ⟨.hbm, 56, rfl⟩
abbrev main_call0_v42 : Ref sig .tc := ⟨.hbm, 57, rfl⟩
abbrev main_call0_v43 : Ref sig .tc := ⟨.hbm, 58, rfl⟩
abbrev main_call0_v44 : Ref sig .tc := ⟨.hbm, 59, rfl⟩
abbrev main_call0_cst_11 : Ref sig .tc := ⟨.hbm, 60, rfl⟩
abbrev main_call0_v45 : Ref sig .tc := ⟨.hbm, 61, rfl⟩
abbrev main_call0_call0_v0 : Ref sig .tc := ⟨.hbm, 62, rfl⟩
abbrev main_call0_call0_cst : Ref sig .tc := ⟨.hbm, 63, rfl⟩
abbrev main_call0_call0_c : Ref sig .tc := ⟨.hbm, 64, rfl⟩
abbrev main_call0_call0_v1_0 : Ref sig .tc := ⟨.hbm, 65, rfl⟩
abbrev main_call0_v46 : Ref sig .tc := ⟨.hbm, 66, rfl⟩
abbrev main_call0_v47 : Ref sig .tc := ⟨.hbm, 67, rfl⟩
abbrev main_call0_cst_12 : Ref sig .tc := ⟨.hbm, 68, rfl⟩
abbrev main_call0_v48 : Ref sig .tc := ⟨.hbm, 69, rfl⟩
abbrev main_call0_v49 : Ref sig .tc := ⟨.hbm, 70, rfl⟩
abbrev main_call0_cst_13 : Ref sig .tc := ⟨.hbm, 71, rfl⟩
abbrev main_call0_v50 : Ref sig .tc := ⟨.hbm, 72, rfl⟩
abbrev main_call0_v51 : Ref sig .tc := ⟨.hbm, 73, rfl⟩
abbrev main_call0_v52 : Ref sig .tc := ⟨.hbm, 74, rfl⟩
abbrev main_call0_cst_14 : Ref sig .tc := ⟨.hbm, 75, rfl⟩
abbrev main_call0_call1_v0 : Ref sig .tc := ⟨.hbm, 76, rfl⟩
abbrev main_call0_call1_v1 : Ref sig .tc := ⟨.hbm, 77, rfl⟩
abbrev main_call0_v53 : Ref sig .tc := ⟨.hbm, 78, rfl⟩
abbrev main_call0_v54 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_cst_15 : Ref sig .tc := ⟨.hbm, 83, rfl⟩
abbrev main_call0_v58 : Ref sig .tc := ⟨.hbm, 84, rfl⟩
abbrev main_call0_v59 : Ref sig .tc := ⟨.hbm, 85, rfl⟩
abbrev main_call0_v60 : Ref sig .tc := ⟨.hbm, 86, rfl⟩
abbrev main_call0_v61 : Ref sig .tc := ⟨.hbm, 87, rfl⟩
abbrev main_call0_v62 : Ref sig .tc := ⟨.hbm, 88, rfl⟩
abbrev main_call0_v63 : Ref sig .tc := ⟨.hbm, 89, rfl⟩
abbrev main_call0_v64 : Ref sig .tc := ⟨.hbm, 90, rfl⟩
abbrev main_call0_cst_16 : Ref sig .tc := ⟨.hbm, 91, rfl⟩
abbrev main_call0_v65 : Ref sig .tc := ⟨.hbm, 92, rfl⟩
abbrev main_call0_v66 : Ref sig .tc := ⟨.hbm, 93, rfl⟩
abbrev main_call0_v67 : Ref sig .tc := ⟨.hbm, 94, rfl⟩
abbrev main_call0_v68 : Ref sig .tc := ⟨.hbm, 95, rfl⟩
abbrev main_call0_v69 : Ref sig .tc := ⟨.hbm, 96, rfl⟩
abbrev main_call0_v70 : Ref sig .tc := ⟨.hbm, 97, rfl⟩
abbrev main_call0_v71 : Ref sig .tc := ⟨.hbm, 98, rfl⟩
abbrev main_call0_cst_17 : Ref sig .tc := ⟨.hbm, 99, rfl⟩
abbrev main_call0_v72 : Ref sig .tc := ⟨.hbm, 100, rfl⟩
abbrev main_call0_v73 : Ref sig .tc := ⟨.hbm, 101, rfl⟩
abbrev main_call0_v74 : Ref sig .tc := ⟨.hbm, 102, rfl⟩
abbrev main_call0_v75 : Ref sig .tc := ⟨.hbm, 103, rfl⟩
abbrev main_call0_v76 : Ref sig .tc := ⟨.hbm, 104, rfl⟩
abbrev main_call0_v77 : Ref sig .tc := ⟨.hbm, 105, rfl⟩
abbrev main_call0_v78 : Ref sig .tc := ⟨.hbm, 106, rfl⟩
abbrev main_call0_cst_18 : Ref sig .tc := ⟨.hbm, 107, rfl⟩
abbrev main_call0_v79 : Ref sig .tc := ⟨.hbm, 108, rfl⟩
abbrev main_call0_v80 : Ref sig .tc := ⟨.hbm, 109, rfl⟩
abbrev main_call0_v81 : Ref sig .tc := ⟨.hbm, 110, rfl⟩
abbrev main_call0_values : Ref sig .tc := ⟨.hbm, 111, rfl⟩
abbrev main_call0_indices : Ref sig .tc := ⟨.hbm, 112, rfl⟩
abbrev main_call0_call2_c : Ref sig .tc := ⟨.hbm, 113, rfl⟩
abbrev main_call0_call2_v0 : Ref sig .tc := ⟨.hbm, 114, rfl⟩
abbrev main_call0_call2_v1 : Ref sig .tc := ⟨.hbm, 115, rfl⟩
abbrev main_call0_call2_c_0 : Ref sig .tc := ⟨.hbm, 116, rfl⟩
abbrev main_call0_call2_v2 : Ref sig .tc := ⟨.hbm, 117, rfl⟩
abbrev main_call0_call2_v3 : Ref sig .tc := ⟨.hbm, 118, rfl⟩
abbrev main_call0_call2_v4 : Ref sig .tc := ⟨.hbm, 119, rfl⟩
abbrev main_call0_call2_v5 : Ref sig .tc := ⟨.hbm, 120, rfl⟩
abbrev main_call0_call2_c_1 : Ref sig .tc := ⟨.hbm, 121, rfl⟩
abbrev main_call0_call2_c_2 : Ref sig .tc := ⟨.hbm, 122, rfl⟩
abbrev main_call0_call2_v6 : Ref sig .tc := ⟨.hbm, 123, rfl⟩
abbrev main_call0_call2_v7 : Ref sig .tc := ⟨.hbm, 124, rfl⟩
abbrev main_call0_call2_v8 : Ref sig .tc := ⟨.hbm, 125, rfl⟩
abbrev main_call0_call2_v9 : Ref sig .tc := ⟨.hbm, 126, rfl⟩
abbrev main_call0_call2_v10 : Ref sig .tc := ⟨.hbm, 127, rfl⟩
abbrev main_call0_call2_v11 : Ref sig .tc := ⟨.hbm, 128, rfl⟩
abbrev main_call0_call2_c_3 : Ref sig .tc := ⟨.hbm, 129, rfl⟩
abbrev main_call0_call2_v12 : Ref sig .tc := ⟨.hbm, 130, rfl⟩
abbrev main_call0_call2_v13 : Ref sig .tc := ⟨.hbm, 131, rfl⟩
abbrev main_call0_call2_cst : Ref sig .tc := ⟨.hbm, 132, rfl⟩
abbrev main_call0_call2_v14 : Ref sig .tc := ⟨.hbm, 133, rfl⟩
abbrev main_call0_v82 : Ref sig .tc := ⟨.hbm, 134, rfl⟩
abbrev main_call0_call3_c : Ref sig .tc := ⟨.hbm, 135, rfl⟩
abbrev main_call0_call3_v0 : Ref sig .tc := ⟨.hbm, 136, rfl⟩
abbrev main_call0_call3_v1 : Ref sig .tc := ⟨.hbm, 137, rfl⟩
abbrev main_call0_call3_c_0 : Ref sig .tc := ⟨.hbm, 138, rfl⟩
abbrev main_call0_call3_v2 : Ref sig .tc := ⟨.hbm, 139, rfl⟩
abbrev main_call0_call3_v3 : Ref sig .tc := ⟨.hbm, 140, rfl⟩
abbrev main_call0_call3_v4 : Ref sig .tc := ⟨.hbm, 141, rfl⟩
abbrev main_call0_call3_v5 : Ref sig .tc := ⟨.hbm, 142, rfl⟩
abbrev main_call0_call3_c_1 : Ref sig .tc := ⟨.hbm, 143, rfl⟩
abbrev main_call0_call3_c_2 : Ref sig .tc := ⟨.hbm, 144, rfl⟩
abbrev main_call0_call3_v6 : Ref sig .tc := ⟨.hbm, 145, rfl⟩
abbrev main_call0_call3_v7 : Ref sig .tc := ⟨.hbm, 146, rfl⟩
abbrev main_call0_call3_v8 : Ref sig .tc := ⟨.hbm, 147, rfl⟩
abbrev main_call0_call3_v9 : Ref sig .tc := ⟨.hbm, 148, rfl⟩
abbrev main_call0_call3_v10 : Ref sig .tc := ⟨.hbm, 149, rfl⟩
abbrev main_call0_call3_v11 : Ref sig .tc := ⟨.hbm, 150, rfl⟩
abbrev main_call0_call3_c_3 : Ref sig .tc := ⟨.hbm, 151, rfl⟩
abbrev main_call0_call3_v12 : Ref sig .tc := ⟨.hbm, 152, rfl⟩
abbrev main_call0_call3_v13 : Ref sig .tc := ⟨.hbm, 153, rfl⟩
abbrev main_call0_call3_cst : Ref sig .tc := ⟨.hbm, 154, rfl⟩
abbrev main_call0_call3_v14 : Ref sig .tc := ⟨.hbm, 155, rfl⟩
abbrev main_call0_v83 : Ref sig .tc := ⟨.hbm, 156, rfl⟩
abbrev main_call0_call4_c : Ref sig .tc := ⟨.hbm, 157, rfl⟩
abbrev main_call0_call4_v0 : Ref sig .tc := ⟨.hbm, 158, rfl⟩
abbrev main_call0_call4_v1 : Ref sig .tc := ⟨.hbm, 159, rfl⟩
abbrev main_call0_call4_c_0 : Ref sig .tc := ⟨.hbm, 160, rfl⟩
abbrev main_call0_call4_v2 : Ref sig .tc := ⟨.hbm, 161, rfl⟩
abbrev main_call0_call4_v3 : Ref sig .tc := ⟨.hbm, 162, rfl⟩
abbrev main_call0_call4_v4 : Ref sig .tc := ⟨.hbm, 163, rfl⟩
abbrev main_call0_call4_v5 : Ref sig .tc := ⟨.hbm, 164, rfl⟩
abbrev main_call0_call4_c_1 : Ref sig .tc := ⟨.hbm, 165, rfl⟩
abbrev main_call0_call4_c_2 : Ref sig .tc := ⟨.hbm, 166, rfl⟩
abbrev main_call0_call4_v6 : Ref sig .tc := ⟨.hbm, 167, rfl⟩
abbrev main_call0_call4_v7 : Ref sig .tc := ⟨.hbm, 168, rfl⟩
abbrev main_call0_call4_v8 : Ref sig .tc := ⟨.hbm, 169, rfl⟩
abbrev main_call0_call4_v9 : Ref sig .tc := ⟨.hbm, 170, rfl⟩
abbrev main_call0_call4_v10 : Ref sig .tc := ⟨.hbm, 171, rfl⟩
abbrev main_call0_call4_v11 : Ref sig .tc := ⟨.hbm, 172, rfl⟩
abbrev main_call0_call4_c_3 : Ref sig .tc := ⟨.hbm, 173, rfl⟩
abbrev main_call0_call4_v12 : Ref sig .tc := ⟨.hbm, 174, rfl⟩
abbrev main_call0_call4_v13 : Ref sig .tc := ⟨.hbm, 175, rfl⟩
abbrev main_call0_call4_cst : Ref sig .tc := ⟨.hbm, 176, rfl⟩
abbrev main_call0_call4_v14 : Ref sig .tc := ⟨.hbm, 177, rfl⟩
abbrev main_call0_v84 : Ref sig .tc := ⟨.hbm, 178, rfl⟩
abbrev main_call0_call5_c : Ref sig .tc := ⟨.hbm, 179, rfl⟩
abbrev main_call0_call5_v0 : Ref sig .tc := ⟨.hbm, 180, rfl⟩
abbrev main_call0_call5_v1 : Ref sig .tc := ⟨.hbm, 181, rfl⟩
abbrev main_call0_call5_c_0 : Ref sig .tc := ⟨.hbm, 182, rfl⟩
abbrev main_call0_call5_v2 : Ref sig .tc := ⟨.hbm, 183, rfl⟩
abbrev main_call0_call5_v3 : Ref sig .tc := ⟨.hbm, 184, rfl⟩
abbrev main_call0_call5_v4 : Ref sig .tc := ⟨.hbm, 185, rfl⟩
abbrev main_call0_call5_v5 : Ref sig .tc := ⟨.hbm, 186, rfl⟩
abbrev main_call0_call5_c_1 : Ref sig .tc := ⟨.hbm, 187, rfl⟩
abbrev main_call0_call5_c_2 : Ref sig .tc := ⟨.hbm, 188, rfl⟩
abbrev main_call0_call5_v6 : Ref sig .tc := ⟨.hbm, 189, rfl⟩
abbrev main_call0_call5_v7 : Ref sig .tc := ⟨.hbm, 190, rfl⟩
abbrev main_call0_call5_v8 : Ref sig .tc := ⟨.hbm, 191, rfl⟩
abbrev main_call0_call5_v9 : Ref sig .tc := ⟨.hbm, 192, rfl⟩
abbrev main_call0_call5_v10 : Ref sig .tc := ⟨.hbm, 193, rfl⟩
abbrev main_call0_call5_v11 : Ref sig .tc := ⟨.hbm, 194, rfl⟩
abbrev main_call0_call5_c_3 : Ref sig .tc := ⟨.hbm, 195, rfl⟩
abbrev main_call0_call5_v12 : Ref sig .tc := ⟨.hbm, 196, rfl⟩
abbrev main_call0_call5_v13 : Ref sig .tc := ⟨.hbm, 197, rfl⟩
abbrev main_call0_call5_cst : Ref sig .tc := ⟨.hbm, 198, rfl⟩
abbrev main_call0_call5_v14 : Ref sig .tc := ⟨.hbm, 199, rfl⟩
abbrev main_call0_v85 : Ref sig .tc := ⟨.hbm, 200, rfl⟩
abbrev main_call0_call6_c : Ref sig .tc := ⟨.hbm, 201, rfl⟩
abbrev main_call0_call6_v0 : Ref sig .tc := ⟨.hbm, 202, rfl⟩
abbrev main_call0_call6_v1 : Ref sig .tc := ⟨.hbm, 203, rfl⟩
abbrev main_call0_call6_c_0 : Ref sig .tc := ⟨.hbm, 204, rfl⟩
abbrev main_call0_call6_v2 : Ref sig .tc := ⟨.hbm, 205, rfl⟩
abbrev main_call0_call6_v3 : Ref sig .tc := ⟨.hbm, 206, rfl⟩
abbrev main_call0_call6_v4 : Ref sig .tc := ⟨.hbm, 207, rfl⟩
abbrev main_call0_call6_v5 : Ref sig .tc := ⟨.hbm, 208, rfl⟩
abbrev main_call0_call6_c_1 : Ref sig .tc := ⟨.hbm, 209, rfl⟩
abbrev main_call0_call6_c_2 : Ref sig .tc := ⟨.hbm, 210, rfl⟩
abbrev main_call0_call6_v6 : Ref sig .tc := ⟨.hbm, 211, rfl⟩
abbrev main_call0_call6_v7 : Ref sig .tc := ⟨.hbm, 212, rfl⟩
abbrev main_call0_call6_v8 : Ref sig .tc := ⟨.hbm, 213, rfl⟩
abbrev main_call0_call6_v9 : Ref sig .tc := ⟨.hbm, 214, rfl⟩
abbrev main_call0_call6_v10 : Ref sig .tc := ⟨.hbm, 215, rfl⟩
abbrev main_call0_call6_v11 : Ref sig .tc := ⟨.hbm, 216, rfl⟩
abbrev main_call0_call6_c_3 : Ref sig .tc := ⟨.hbm, 217, rfl⟩
abbrev main_call0_call6_v12 : Ref sig .tc := ⟨.hbm, 218, rfl⟩
abbrev main_call0_call6_v13 : Ref sig .tc := ⟨.hbm, 219, rfl⟩
abbrev main_call0_call6_cst : Ref sig .tc := ⟨.hbm, 220, rfl⟩
abbrev main_call0_call6_v14 : Ref sig .tc := ⟨.hbm, 221, rfl⟩
abbrev main_call0_v86 : Ref sig .tc := ⟨.hbm, 222, rfl⟩
abbrev main_call0_v87 : Ref sig .tc := ⟨.hbm, 223, rfl⟩
abbrev main_call0_v88 : Ref sig .tc := ⟨.hbm, 224, rfl⟩
abbrev main_call0_v89 : Ref sig .tc := ⟨.hbm, 225, rfl⟩
abbrev main_call0_v90 : Ref sig .tc := ⟨.hbm, 226, rfl⟩
abbrev main_call0_v91 : Ref sig .tc := ⟨.hbm, 227, rfl⟩
abbrev main_call0_v92 : Ref sig .tc := ⟨.hbm, 228, rfl⟩
abbrev main_call0_v93 : Ref sig .tc := ⟨.hbm, 229, rfl⟩
abbrev main_call0_v94 : Ref sig .tc := ⟨.hbm, 230, rfl⟩
abbrev main_call0_v95 : Ref sig .tc := ⟨.hbm, 231, rfl⟩
abbrev main_call0_v96 : Ref sig .tc := ⟨.hbm, 232, rfl⟩
abbrev main_call0_v97 : Ref sig .tc := ⟨.hbm, 233, rfl⟩
abbrev main_call0_v98 : Ref sig .tc := ⟨.hbm, 234, rfl⟩
abbrev main_call0_v99 : Ref sig .tc := ⟨.hbm, 235, rfl⟩
abbrev main_v0_0 : Ref sig .tc := ⟨.hbm, 236, rfl⟩
abbrev main_call0_v100_1 : Ref sig .tc := ⟨.hbm, 237, rfl⟩
abbrev main_call0_v100_2 : Ref sig .tc := ⟨.hbm, 238, rfl⟩
abbrev main_v0_2 : Ref sig .tc := ⟨.hbm, 239, rfl⟩
abbrev main_call0_v102 : Ref sig .tc := ⟨.hbm, 240, rfl⟩
abbrev main_v0_1 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_192 : BitVec 32 := 0#32
  let c1024_i32 : BitVec 32 := 1024#32
  let v426 : BitVec 32 := Scalar.addi c0_i32_192 c1024_i32
  let c1_i32 : BitVec 32 := 1#32
  ⟨c0_i32_192, v426, c1_i32⟩
def k0_off1 (k0_t1 : Fin k0_t1_loop.trips) : Fin 2 → Nat :=
  let c0_i32_192 : BitVec 32 := 0#32
  let c1_i32 : BitVec 32 := 1#32
  let arg11 : BitVec 32 := Scf.iv c0_i32_192 c1_i32 k0_t1
  let v489 : Index := Scalar.indexCast arg11
  let c0_223 : Index := 0#32
  ![v489.toNat, 0]
def k0_off2 (k0_t1 : Fin k0_t1_loop.trips) : Fin 3 → Nat :=
  let c0_240 : Index := 0#32
  let c0_i32_192 : BitVec 32 := 0#32
  let c1_i32 : BitVec 32 := 1#32
  let arg11 : BitVec 32 := Scf.iv c0_i32_192 c1_i32 k0_t1
  let v529 : Index := Scalar.indexCast arg11
  let c0_241 : Index := 0#32
  ![0, v529.toNat, 0]
def k0_off3 (arg12 : BitVec 32) : Fin 3 → Nat :=
  let c0_242 : Index := 0#32
  let v532 : Index := Scalar.indexCast arg12
  let c0_243 : Index := 0#32
  ![0, v532.toNat, 0]
def k0_cond1 (arg12 : BitVec 32) (v506 : BitVec 1) : BitVec 1 :=
  let c300_i32 : BitVec 32 := 300#32
  let v507 : BitVec 1 := Scalar.cmpi .slt arg12 c300_i32
  let v508 : BitVec 1 := Scalar.andi v506 v507
  let v509 : BitVec 32 := Scalar.extui v508
  let c0_i32_229 : BitVec 32 := 0#32
  let v510 : BitVec 1 := Scalar.cmpi .ne v509 c0_i32_229
  v510

def k0_off4 (arg12 : BitVec 32) : Fin 3 → Nat :=
  let c0_244 : Index := 0#32
  let v537 : Index := Scalar.indexCast arg12
  let c0_245 : Index := 0#32
  ![0, v537.toNat, 0]

def k0_chk1 (arg12 : BitVec 32) (v506 : BitVec 1) : Prop :=
  (∀ (k0_h1 : k0_cond1 arg12 v506 = 1#1), ∀ a, (k0_off3 arg12) a + S1x1x4.size a ≤ S1x300x4.size a) ∧
  (∀ (k0_h1 : k0_cond1 arg12 v506 = 1#1), ∀ a, (k0_off4 arg12) a + S1x1x1.size a ≤ S1x300x1.size a)
theorem k0_off3_inb : ∀ (arg12 : BitVec 32) (v506 : BitVec 1) (k0_hw1 : k0_chk1 arg12 v506), ∀ (k0_h1 : k0_cond1 arg12 v506 = 1#1), ∀ a, (k0_off3 arg12) a + S1x1x4.size a ≤ S1x300x4.size a := fun arg12 v506 k0_hw1 k0_h1 => k0_hw1.1 k0_h1
theorem k0_off4_inb : ∀ (arg12 : BitVec 32) (v506 : BitVec 1) (k0_hw1 : k0_chk1 arg12 v506), ∀ (k0_h1 : k0_cond1 arg12 v506 = 1#1), ∀ a, (k0_off4 arg12) a + S1x1x1.size a ≤ S1x300x1.size a := fun arg12 v506 k0_hw1 k0_h1 => k0_hw1.2 k0_h1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x300x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x300x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x300x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x3x512x512 : Shape := ⟨4, ![4, 3, 512, 512]⟩
abbrev S3x255 : Shape := ⟨2, ![3, 255]⟩
abbrev S255 : Shape := ⟨1, ![255]⟩
abbrev S4x3x64x8x64x8 : Shape := ⟨6, ![4, 3, 64, 8, 64, 8]⟩
abbrev S_ : Shape := ⟨0, ![]⟩
abbrev S4x3x64x64 : Shape := ⟨4, ![4, 3, 64, 64]⟩
abbrev S4x64x64x255 : Shape := ⟨4, ![4, 64, 64, 255]⟩
abbrev S1x1x1x255 : Shape := ⟨4, ![1, 1, 1, 255]⟩
abbrev S4x12288x85 : Shape := ⟨3, ![4, 12288, 85]⟩
abbrev S4x12288x2 : Shape := ⟨3, ![4, 12288, 2]⟩
abbrev S4x12288x1 : Shape := ⟨3, ![4, 12288, 1]⟩
abbrev S4x12288x80 : Shape := ⟨3, ![4, 12288, 80]⟩
abbrev S4x12288 : Shape := ⟨2, ![4, 12288]⟩
abbrev S4x12288x4 : Shape := ⟨3, ![4, 12288, 4]⟩
abbrev S4x1024 : Shape := ⟨2, ![4, 1024]⟩
abbrev S4x1024x1 : Shape := ⟨3, ![4, 1024, 1]⟩
abbrev S1 : Shape := ⟨1, ![1]⟩
abbrev S1x1x1 : Shape := ⟨3, ![1, 1, 1]⟩
abbrev S4x1024x4 : Shape := ⟨3, ![4, 1024, 4]⟩
abbrev S4x1024x2 : Shape := ⟨3, ![4, 1024, 2]⟩
abbrev S4x1024x1x2 : Shape := ⟨4, ![4, 1024, 1, 2]⟩
abbrev S4x1x1024x2 : Shape := ⟨4, ![4, 1, 1024, 2]⟩
abbrev S4x1024x1024x2 : Shape := ⟨4, ![4, 1024, 1024, 2]⟩
abbrev S4x1024x1024x1 : Shape := ⟨4, ![4, 1024, 1024, 1]⟩
abbrev S4x1024x1024 : Shape := ⟨3, ![4, 1024, 1024]⟩
abbrev S4x1x1024 : Shape := ⟨3, ![4, 1, 1024]⟩
abbrev S1024 : Shape := ⟨1, ![1024]⟩
abbrev S4x1 : Shape := ⟨2, ![4, 1]⟩
abbrev S1x1024 : Shape := ⟨2, ![1, 1024]⟩
abbrev S4x300 : Shape := ⟨2, ![4, 300]⟩
abbrev S4x300x1 : Shape := ⟨3, ![4, 300, 1]⟩
abbrev S4x300x4 : Shape := ⟨3, ![4, 300, 4]⟩
abbrev S4x300x2 : Shape := ⟨3, ![4, 300, 2]⟩

abbrev nBuf : Space → Nat
  | .hbm => 418
  | .vmem => 0
  | .smem => 0
  | _ => 0

abbrev hbmTy0_0 (i : Nat) : BufTy := match i % 128 with
  | 0 => ⟨S4x3x512x512, .f32⟩
  | 1 => ⟨S3x255, .f32⟩
  | 2 => ⟨S255, .f32⟩
  | 3 => ⟨S4x3x64x8x64x8, .f32⟩
  | 4 => ⟨S_, .f32⟩
  | 5 => ⟨S4x3x64x64, .f32⟩
  | 6 => ⟨S_, .f32⟩
  | 7 => ⟨S4x3x64x64, .f32⟩
  | 8 => ⟨S4x3x64x64, .f32⟩
  | 9 => ⟨S4x64x64x255, .f32⟩
  | 10 => ⟨S1x1x1x255, .f32⟩
  | 11 => ⟨S4x64x64x255, .f32⟩
  | 12 => ⟨S4x64x64x255, .f32⟩
  | 13 => ⟨S4x12288x85, .f32⟩
  | 14 => ⟨S4x12288x2, .f32⟩
  | 15 => ⟨S4x12288x2, .f32⟩
  | 16 => ⟨S4x12288x2, .f32⟩
  | 17 => ⟨S_, .f32⟩
  | 18 => ⟨S4x12288x2, .f32⟩
  | 19 => ⟨S4x12288x2, .f32⟩
  | 20 => ⟨S_, .f32⟩
  | 21 => ⟨S4x12288x2, .f32⟩
  | 22 => ⟨S4x12288x2, .f32⟩
  | 23 => ⟨S_, .f32⟩
  | 24 => ⟨S4x12288x2, .f32⟩
  | 25 => ⟨S4x12288x2, .f32⟩
  | 26 => ⟨S4x12288x2, .f32⟩
  | 27 => ⟨S4x12288x2, .f32⟩
  | 28 => ⟨S4x12288x2, .f32⟩
  | 29 => ⟨S_, .f32⟩
  | 30 => ⟨S4x12288x2, .f32⟩
  | 31 => ⟨S4x12288x2, .f32⟩
  | 32 => ⟨S_, .f32⟩
  | 33 => ⟨S4x12288x2, .f32⟩
  | 34 => ⟨S4x12288x2, .f32⟩
  | 35 => ⟨S_, .f32⟩
  | 36 => ⟨S4x12288x2, .f32⟩
  | 37 => ⟨S4x12288x2, .f32⟩
  | 38 => ⟨S4x12288x1, .f32⟩
  | 39 => ⟨S4x12288x1, .f32⟩
  | 40 => ⟨S4x12288x1, .f32⟩
  | 41 => ⟨S_, .f32⟩
  | 42 => ⟨S4x12288x1, .f32⟩
  | 43 => ⟨S4x12288x1, .f32⟩
  | 44 => ⟨S_, .f32⟩
  | 45 => ⟨S4x12288x1, .f32⟩
  | 46 => ⟨S4x12288x1, .f32⟩
  | 47 => ⟨S4x12288x80, .f32⟩
  | 48 => ⟨S4x12288x80, .f32⟩
  | 49 => ⟨S4x12288x80, .f32⟩
  | 50 => ⟨S_, .f32⟩
  | 51 => ⟨S4x12288x80, .f32⟩
  | 52 => ⟨S4x12288x80, .f32⟩
  | 53 => ⟨S_, .f32⟩
  | 54 => ⟨S4x12288x80, .f32⟩
  | 55 => ⟨S4x12288x80, .f32⟩
  | 56 => ⟨S4x12288x85, .f32⟩
  | 57 => ⟨S4x12288x1, .f32⟩
  | 58 => ⟨S4x12288, .f32⟩
  | 59 => ⟨S_, .f32⟩
  | 60 => ⟨S4x12288, .f32⟩
  | 61 => ⟨S4x12288, .i1⟩
  | 62 => ⟨S4x12288x80, .f32⟩
  | 63 => ⟨S4x12288x1, .f32⟩
  | 64 => ⟨S4x12288x80, .f32⟩
  | 65 => ⟨S4x12288x80, .f32⟩
  | 66 => ⟨S_, .f32⟩
  | 67 => ⟨S4x12288, .f32⟩
  | 68 => ⟨S4x12288x80, .i32⟩
  | 69 => ⟨S_, .f32⟩
  | 70 => ⟨S_, .i32⟩
  | 71 => ⟨S4x12288, .f32⟩
  | 72 => ⟨S4x12288, .i32⟩
  | 73 => ⟨S_, .f32⟩
  | 74 => ⟨S4x12288, .f32⟩
  | 75 => ⟨S4x12288, .i1⟩
  | 76 => ⟨S4x12288, .i1⟩
  | 77 => ⟨S4x12288x4, .f32⟩
  | 78 => ⟨S4x12288x1, .f32⟩
  | 79 => ⟨S4x12288, .f32⟩
  | 80 => ⟨S4x12288x1, .f32⟩
  | 81 => ⟨S4x12288, .f32⟩
  | 82 => ⟨S4x12288x1, .f32⟩
  | 83 => ⟨S4x12288, .f32⟩
  | 84 => ⟨S4x12288x1, .f32⟩
  | 85 => ⟨S4x12288, .f32⟩
  | 86 => ⟨S_, .f32⟩
  | 87 => ⟨S4x12288, .f32⟩
  | 88 => ⟨S4x12288, .f32⟩
  | 89 => ⟨S4x12288, .f32⟩
  | 90 => ⟨S_, .f32⟩
  | 91 => ⟨S4x12288, .f32⟩
  | 92 => ⟨S4x12288, .f32⟩
  | 93 => ⟨S4x12288, .f32⟩
  | 94 => ⟨S_, .f32⟩
  | 95 => ⟨S4x12288, .f32⟩
  | 96 => ⟨S4x12288, .f32⟩
  | 97 => ⟨S4x12288, .f32⟩
  | 98 => ⟨S_, .f32⟩
  | 99 => ⟨S4x12288, .f32⟩
  | 100 => ⟨S4x12288, .f32⟩
  | 101 => ⟨S4x12288, .f32⟩
  | 102 => ⟨S4x12288x1, .f32⟩
  | 103 => ⟨S4x12288x1, .f32⟩
  | 104 => ⟨S4x12288x1, .f32⟩
  | 105 => ⟨S4x12288x1, .f32⟩
  | 106 => ⟨S4x12288x4, .f32⟩
  | 107 => ⟨S_, .f32⟩
  | 108 => ⟨S_, .f32⟩
  | 109 => ⟨S4x12288, .f32⟩
  | 110 => ⟨S4x12288, .f32⟩
  | 111 => ⟨S4x1024, .f32⟩
  | 112 => ⟨S4x1024, .i32⟩
  | 113 => ⟨S4x1024x1, .i32⟩
  | 114 => ⟨S_, .i32⟩
  | 115 => ⟨S4x1024x1, .i32⟩
  | 116 => ⟨S4x1024x1, .i1⟩
  | 117 => ⟨S_, .i32⟩
  | 118 => ⟨S4x1024x1, .i32⟩
  | 119 => ⟨S4x1024x1, .i32⟩
  | 120 => ⟨S4x1024x1, .i32⟩
  | 121 => ⟨S1, .i32⟩
  | 122 => ⟨S_, .i32⟩
  | 123 => ⟨S4x1024x1, .i32⟩
  | 124 => ⟨S4x1024x1, .i1⟩
  | 125 => ⟨S1x1x1, .i32⟩
  | 126 => ⟨S4x1024x1, .i32⟩
  | 127 => ⟨S4x1024x1, .i1⟩
  | _ => ⟨S4x3x512x512, .f32⟩

abbrev hbmTy0_1 (i : Nat) : BufTy := match i % 128 with
  | 0 => ⟨S4x1024x1, .i1⟩
  | 1 => ⟨S_, .i1⟩
  | 2 => ⟨S4x1024, .i1⟩
  | 3 => ⟨S4x1024x4, .f32⟩
  | 4 => ⟨S4x1024x4, .i1⟩
  | 5 => ⟨S_, .f32⟩
  | 6 => ⟨S4x1024x4, .f32⟩
  | 7 => ⟨S4x1024x4, .f32⟩
  | 8 => ⟨S_, .i32⟩
  | 9 => ⟨S4x1024, .i32⟩
  | 10 => ⟨S4x1024, .i1⟩
  | 11 => ⟨S_, .i32⟩
  | 12 => ⟨S4x1024, .i32⟩
  | 13 => ⟨S4x1024, .i32⟩
  | 14 => ⟨S4x1024, .i32⟩
  | 15 => ⟨S4x1024x1, .i32⟩
  | 16 => ⟨S1, .i32⟩
  | 17 => ⟨S_, .i32⟩
  | 18 => ⟨S4x1024x1, .i32⟩
  | 19 => ⟨S4x1024x1, .i1⟩
  | 20 => ⟨S1x1x1, .i32⟩
  | 21 => ⟨S4x1024x1, .i32⟩
  | 22 => ⟨S4x1024x1, .i1⟩
  | 23 => ⟨S4x1024x1, .i1⟩
  | 24 => ⟨S_, .i1⟩
  | 25 => ⟨S4x1024, .i1⟩
  | 26 => ⟨S4x1024, .i32⟩
  | 27 => ⟨S_, .i32⟩
  | 28 => ⟨S4x1024, .i32⟩
  | 29 => ⟨S4x1024, .i32⟩
  | 30 => ⟨S_, .f32⟩
  | 31 => ⟨S4x1024, .f32⟩
  | 32 => ⟨S4x1024, .i1⟩
  | 33 => ⟨S4x1024, .f32⟩
  | 34 => ⟨S_, .f32⟩
  | 35 => ⟨S4x1024, .f32⟩
  | 36 => ⟨S4x1024, .f32⟩
  | 37 => ⟨S4x1024x1, .f32⟩
  | 38 => ⟨S4x1024x4, .f32⟩
  | 39 => ⟨S4x1024x4, .f32⟩
  | 40 => ⟨S4x1024x1, .f32⟩
  | 41 => ⟨S4x1024, .f32⟩
  | 42 => ⟨S4x1024x1, .f32⟩
  | 43 => ⟨S4x1024, .f32⟩
  | 44 => ⟨S4x1024, .f32⟩
  | 45 => ⟨S4x1024x1, .f32⟩
  | 46 => ⟨S4x1024, .f32⟩
  | 47 => ⟨S4x1024x1, .f32⟩
  | 48 => ⟨S4x1024, .f32⟩
  | 49 => ⟨S4x1024, .f32⟩
  | 50 => ⟨S4x1024, .f32⟩
  | 51 => ⟨S4x1024x1, .f32⟩
  | 52 => ⟨S4x1024, .f32⟩
  | 53 => ⟨S4x1024x1, .f32⟩
  | 54 => ⟨S4x1024, .f32⟩
  | 55 => ⟨S4x1024, .f32⟩
  | 56 => ⟨S4x1024x1, .f32⟩
  | 57 => ⟨S4x1024, .f32⟩
  | 58 => ⟨S4x1024x1, .f32⟩
  | 59 => ⟨S4x1024, .f32⟩
  | 60 => ⟨S4x1024, .f32⟩
  | 61 => ⟨S4x1024, .f32⟩
  | 62 => ⟨S4x1024x2, .f32⟩
  | 63 => ⟨S4x1024x1x2, .f32⟩
  | 64 => ⟨S4x1024x2, .f32⟩
  | 65 => ⟨S4x1x1024x2, .f32⟩
  | 66 => ⟨S4x1024x1024x2, .f32⟩
  | 67 => ⟨S4x1024x1024x2, .f32⟩
  | 68 => ⟨S4x1024x1024x2, .f32⟩
  | 69 => ⟨S4x1024x2, .f32⟩
  | 70 => ⟨S4x1024x1x2, .f32⟩
  | 71 => ⟨S4x1024x2, .f32⟩
  | 72 => ⟨S4x1x1024x2, .f32⟩
  | 73 => ⟨S4x1024x1024x2, .f32⟩
  | 74 => ⟨S4x1024x1024x2, .f32⟩
  | 75 => ⟨S4x1024x1024x2, .f32⟩
  | 76 => ⟨S4x1024x1024x2, .f32⟩
  | 77 => ⟨S_, .f32⟩
  | 78 => ⟨S_, .f32⟩
  | 79 => ⟨S4x1024x1024x2, .f32⟩
  | 80 => ⟨S4x1024x1024x2, .f32⟩
  | 81 => ⟨S4x1024x1024x1, .f32⟩
  | 82 => ⟨S4x1024x1024, .f32⟩
  | 83 => ⟨S4x1024x1024x1, .f32⟩
  | 84 => ⟨S4x1024x1024, .f32⟩
  | 85 => ⟨S4x1024x1024, .f32⟩
  | 86 => ⟨S4x1024x1, .f32⟩
  | 87 => ⟨S4x1x1024, .f32⟩
  | 88 => ⟨S4x1024x1024, .f32⟩
  | 89 => ⟨S4x1024x1024, .f32⟩
  | 90 => ⟨S4x1024x1024, .f32⟩
  | 91 => ⟨S4x1024x1024, .f32⟩
  | 92 => ⟨S_, .f32⟩
  | 93 => ⟨S4x1024x1024, .f32⟩
  | 94 => ⟨S4x1024x1024, .f32⟩
  | 95 => ⟨S4x1024x1024, .f32⟩
  | 96 => ⟨S1024, .i32⟩
  | 97 => ⟨S_, .i32⟩
  | 98 => ⟨S_, .i32⟩
  | 99 => ⟨S4x1024x1024, .f32⟩
  | 100 => ⟨S1024, .i32⟩
  | 101 => ⟨S_, .i32⟩
  | 102 => ⟨S_, .i32⟩
  | 103 => ⟨S4x1024, .i1⟩
  | 104 => ⟨S_, .i32⟩
  | 105 => ⟨S_, .i1⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S4x1x1024, .f32⟩
  | 117 => ⟨S4x1024, .f32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S4x1, .i1⟩
  | 126 => ⟨S_, .f32⟩
  | 127 => ⟨S4x1024, .f32⟩
  | _ => ⟨S4x3x512x512, .f32⟩

abbrev hbmTy0_2 (i : Nat) : BufTy := match i % 128 with
  | 0 => ⟨S4x1024, .i1⟩
  | 1 => ⟨S4x1024, .i1⟩
  | 2 => ⟨S4x1024, .i1⟩
  | 3 => ⟨S_, .i32⟩
  | 4 => ⟨S1024, .i32⟩
  | 5 => ⟨S1024, .i1⟩
  | 6 => ⟨S1x1024, .i1⟩
  | 7 => ⟨S4x1024, .i1⟩
  | 8 => ⟨S4x1024, .i1⟩
  | 9 => ⟨S4x1024, .i1⟩
  | 10 => ⟨S4x1024, .i1⟩
  | 11 => ⟨S_, .i32⟩
  | 12 => ⟨S_, .i32⟩
  | 13 => ⟨S_, .f32⟩
  | 14 => ⟨S_, .f32⟩
  | 15 => ⟨S4x1024, .f32⟩
  | 16 => ⟨S4x1024, .f32⟩
  | 17 => ⟨S4x300, .f32⟩
  | 18 => ⟨S4x300, .i32⟩
  | 19 => ⟨S4x300x1, .i32⟩
  | 20 => ⟨S_, .i32⟩
  | 21 => ⟨S4x300x1, .i32⟩
  | 22 => ⟨S4x300x1, .i1⟩
  | 23 => ⟨S_, .i32⟩
  | 24 => ⟨S4x300x1, .i32⟩
  | 25 => ⟨S4x300x1, .i32⟩
  | 26 => ⟨S4x300x1, .i32⟩
  | 27 => ⟨S1, .i32⟩
  | 28 => ⟨S_, .i32⟩
  | 29 => ⟨S4x300x1, .i32⟩
  | 30 => ⟨S4x300x1, .i1⟩
  | 31 => ⟨S1x1x1, .i32⟩
  | 32 => ⟨S4x300x1, .i32⟩
  | 33 => ⟨S4x300x1, .i1⟩
  | 34 => ⟨S4x300x1, .i1⟩
  | 35 => ⟨S_, .i1⟩
  | 36 => ⟨S4x300, .i1⟩
  | 37 => ⟨S4x300x4, .f32⟩
  | 38 => ⟨S4x300x4, .i1⟩
  | 39 => ⟨S_, .f32⟩
  | 40 => ⟨S4x300x4, .f32⟩
  | 41 => ⟨S4x300x4, .f32⟩
  | 42 => ⟨S_, .i32⟩
  | 43 => ⟨S4x300, .i32⟩
  | 44 => ⟨S4x300, .i1⟩
  | 45 => ⟨S_, .i32⟩
  | 46 => ⟨S4x300, .i32⟩
  | 47 => ⟨S4x300, .i32⟩
  | 48 => ⟨S4x300, .i32⟩
  | 49 => ⟨S4x300x1, .i32⟩
  | 50 => ⟨S1, .i32⟩
  | 51 => ⟨S_, .i32⟩
  | 52 => ⟨S4x300x1, .i32⟩
  | 53 => ⟨S4x300x1, .i1⟩
  | 54 => ⟨S1x1x1, .i32⟩
  | 55 => ⟨S4x300x1, .i32⟩
  | 56 => ⟨S4x300x1, .i1⟩
  | 57 => ⟨S4x300x1, .i1⟩
  | 58 => ⟨S_, .i1⟩
  | 59 => ⟨S4x300, .i1⟩
  | 60 => ⟨S4x300, .i32⟩
  | 61 => ⟨S_, .i32⟩
  | 62 => ⟨S4x300, .i32⟩
  | 63 => ⟨S4x300, .i32⟩
  | 64 => ⟨S_, .f32⟩
  | 65 => ⟨S4x300, .f32⟩
  | 66 => ⟨S4x300, .i1⟩
  | 67 => ⟨S4x300x1, .f32⟩
  | 68 => ⟨S4x300, .f32⟩
  | 69 => ⟨S_, .f32⟩
  | 70 => ⟨S_, .f32⟩
  | 71 => ⟨S_, .f32⟩
  | 72 => ⟨S4x300, .f32⟩
  | 73 => ⟨S4x300, .f32⟩
  | 74 => ⟨S_, .f32⟩
  | 75 => ⟨S4x300, .f32⟩
  | 76 => ⟨S4x300, .f32⟩
  | 77 => ⟨S4x300x1, .f32⟩
  | 78 => ⟨S4x300, .f32⟩
  | 79 => ⟨S_, .f32⟩
  | 80 => ⟨S_, .f32⟩
  | 81 => ⟨S_, .f32⟩
  | 82 => ⟨S4x300, .f32⟩
  | 83 => ⟨S4x300, .f32⟩
  | 84 => ⟨S_, .f32⟩
  | 85 => ⟨S4x300, .f32⟩
  | 86 => ⟨S4x300, .f32⟩
  | 87 => ⟨S4x300x1, .f32⟩
  | 88 => ⟨S4x300, .f32⟩
  | 89 => ⟨S_, .f32⟩
  | 90 => ⟨S_, .f32⟩
  | 91 => ⟨S_, .f32⟩
  | 92 => ⟨S4x300, .f32⟩
  | 93 => ⟨S4x300, .f32⟩
  | 94 => ⟨S_, .f32⟩
  | 95 => ⟨S4x300, .f32⟩
  | 96 => ⟨S4x300, .f32⟩
  | 97 => ⟨S4x300x1, .f32⟩
  | 98 => ⟨S4x300, .f32⟩
  | 99 => ⟨S_, .f32⟩
  | 100 => ⟨S_, .f32⟩
  | 101 => ⟨S_, .f32⟩
  | 102 => ⟨S4x300, .f32⟩
  | 103 => ⟨S4x300, .f32⟩
  | 104 => ⟨S_, .f32⟩
  | 105 => ⟨S4x300, .f32⟩
  | 106 => ⟨S4x300, .f32⟩
  | 107 => ⟨S4x300, .i1⟩
  | 108 => ⟨S4x300, .i1⟩
  | 109 => ⟨S4x300, .i1⟩
  | 110 => ⟨S4x300, .f32⟩
  | 111 => ⟨S_, .f32⟩
  | 112 => ⟨S4x300, .f32⟩
  | 113 => ⟨S4x300, .i1⟩
  | 114 => ⟨S4x300, .i1⟩
  | 115 => ⟨S4x300, .f32⟩
  | 116 => ⟨S_, .f32⟩
  | 117 => ⟨S4x300, .f32⟩
  | 118 => ⟨S4x300, .i1⟩
  | 119 => ⟨S4x300, .i1⟩
  | 120 => ⟨S4x300, .i1⟩
  | 121 => ⟨S_, .i32⟩
  | 122 => ⟨S_, .i32⟩
  | 123 => ⟨S_, .i32⟩
  | 124 => ⟨S4x300, .i32⟩
  | 125 => ⟨S4x300, .i32⟩
  | 126 => ⟨S_, .i32⟩
  | 127 => ⟨S4x300, .i32⟩
  | _ => ⟨S4x3x512x512, .f32⟩

abbrev hbmTy0_3 (i : Nat) : BufTy := match i % 128 with
  | 0 => ⟨S4x300, .i32⟩
  | 1 => ⟨S4x300x1, .f32⟩
  | 2 => ⟨S4x300x1, .f32⟩
  | 3 => ⟨S4x300x2, .f32⟩
  | 4 => ⟨S4x300x2, .f32⟩
  | 5 => ⟨S4x300x1, .f32⟩
  | 6 => ⟨S4x300x1, .f32⟩
  | 7 => ⟨S4x300x2, .f32⟩
  | 8 => ⟨S4x300x2, .f32⟩
  | 9 => ⟨S4x300x1, .f32⟩
  | 10 => ⟨S4x300, .f32⟩
  | 11 => ⟨S4x300x1, .f32⟩
  | 12 => ⟨S4x300, .f32⟩
  | 13 => ⟨S4x300x1, .f32⟩
  | 14 => ⟨S4x300, .f32⟩
  | 15 => ⟨S4x300x1, .f32⟩
  | 16 => ⟨S4x300, .f32⟩
  | 17 => ⟨S4x300x1, .f32⟩
  | 18 => ⟨S4x300x1, .f32⟩
  | 19 => ⟨S4x300x1, .f32⟩
  | 20 => ⟨S4x300x1, .f32⟩
  | 21 => ⟨S4x300x4, .f32⟩
  | 22 => ⟨S4x300x1, .i1⟩
  | 23 => ⟨S4x300x1, .f32⟩
  | 24 => ⟨S4x300x4, .f32⟩
  | 25 => ⟨S4x300x4, .f32⟩
  | 26 => ⟨S_, .f32⟩
  | 27 => ⟨S_, .f32⟩
  | 28 => ⟨S4x300, .f32⟩
  | 29 => ⟨S4x300, .f32⟩
  | 30 => ⟨S_, .i32⟩
  | 31 => ⟨S_, .i32⟩
  | 32 => ⟨S4x300, .i32⟩
  | 33 => ⟨S4x300, .i32⟩
  | _ => ⟨S4x3x512x512, .f32⟩

abbrev hbmTy (i : Nat) : BufTy := match i / 128 with
  | 0 => hbmTy0_0 i
  | 1 => hbmTy0_1 i
  | 2 => hbmTy0_2 i
  | 3 => hbmTy0_3 i
  | _ => ⟨S4x3x512x512, .f32⟩

abbrev bufTy : (tb : Table) → Fin (tcTables nBuf tb) → BufTy
  | .hbm, ⟨i, _⟩ => hbmTy i
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_12 : Ref sig .tc := ⟨.hbm, 66, rfl⟩
abbrev main_v50 : Ref sig .tc := ⟨.hbm, 67, rfl⟩
abbrev main_call0_v0 : Ref sig .tc := ⟨.hbm, 68, rfl⟩
abbrev main_call0_cst : Ref sig .tc := ⟨.hbm, 69, rfl⟩
abbrev main_call0_c : Ref sig .tc := ⟨.hbm, 70, rfl⟩
abbrev main_call0_v1_0 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_18 : Ref sig .tc := ⟨.hbm, 107, rfl⟩
abbrev main_call1_v0 : Ref sig .tc := ⟨.hbm, 108, rfl⟩
abbrev main_call1_v1 : Ref sig .tc := ⟨.hbm, 109, rfl⟩
abbrev main_v81 : Ref sig .tc := ⟨.hbm, 110, rfl⟩
abbrev main_values : Ref sig .tc := ⟨.hbm, 111, rfl⟩
abbrev main_indices : Ref sig .tc := ⟨.hbm, 112, rfl⟩
abbrev main_v82 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_c_1 : Ref sig .tc := ⟨.hbm, 121, rfl⟩
abbrev main_call2_c_2 : Ref sig .tc := ⟨.hbm, 122, rfl⟩
abbrev main_call2_v5 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_c_3 : Ref sig .tc := ⟨.hbm, 129, rfl⟩
abbrev main_call2_v11 : Ref sig .tc := ⟨.hbm, 130, rfl⟩
abbrev main_call2_v12 : Ref sig .tc := ⟨.hbm, 131, rfl⟩
abbrev main_call2_v13 : Ref sig .tc := ⟨.hbm, 132, rfl⟩
abbrev main_call2_cst : Ref sig .tc := ⟨.hbm, 133, rfl⟩
abbrev main_call2_v14 : Ref sig .tc := ⟨.hbm, 134, rfl⟩
abbrev main_v83 : Ref sig .tc := ⟨.hbm, 135, rfl⟩
abbrev main_call3_c : Ref sig .tc := ⟨.hbm, 136, rfl⟩
abbrev main_call3_v0 : Ref sig .tc := ⟨.hbm, 137, rfl⟩
abbrev main_call3_v1 : Ref sig .tc := ⟨.hbm, 138, rfl⟩
abbrev main_call3_c_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_c_1 : Ref sig .tc := ⟨.hbm, 144, rfl⟩
abbrev main_call3_c_2 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_call3_v11 : Ref sig .tc := ⟨.hbm, 151, rfl⟩
abbrev main_call3_c_3 : Ref sig .tc := ⟨.hbm, 152, rfl⟩
abbrev main_call3_v12 : Ref sig .tc := ⟨.hbm, 153, rfl⟩
abbrev main_call3_v13 : Ref sig .tc := ⟨.hbm, 154, rfl⟩
abbrev main_call3_c_4 : Ref sig .tc := ⟨.hbm, 155, rfl⟩
abbrev main_call3_v14 : Ref sig .tc := ⟨.hbm, 156, rfl⟩
abbrev main_v84 : Ref sig .tc := ⟨.hbm, 157, rfl⟩
abbrev main_cst_19 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_cst_20 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_cst_21 : Ref sig .tc := ⟨.hbm, 205, rfl⟩
abbrev main_call4_v0 : Ref sig .tc := ⟨.hbm, 206, rfl⟩
abbrev main_call4_v1 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_cst_22 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_c : Ref sig .tc := ⟨.hbm, 225, rfl⟩
abbrev main_c_23 : Ref sig .tc := ⟨.hbm, 226, rfl⟩
abbrev main_v146_0 : Ref sig .tc := ⟨.hbm, 227, rfl⟩
abbrev main_v146_1 : Ref sig .tc := ⟨.hbm, 228, rfl⟩
abbrev main_v146_2 : Ref sig .tc := ⟨.hbm, 229, rfl⟩
abbrev main_v146_3 : Ref sig .tc := ⟨.hbm, 230, rfl⟩
abbrev main_v146_4 : Ref sig .tc := ⟨.hbm, 231, rfl⟩
abbrev main_while0c_c_46 : Ref sig .tc := ⟨.hbm, 232, rfl⟩
abbrev main_while0c_v205 : Ref sig .tc := ⟨.hbm, 233, rfl⟩
abbrev main_while0b_c_46 : Ref sig .tc := ⟨.hbm, 234, rfl⟩
abbrev main_while0b_v205 : Ref sig .tc := ⟨.hbm, 235, rfl⟩
abbrev main_while0b_c_47 : Ref sig .tc := ⟨.hbm, 236, rfl⟩
abbrev main_while0b_v206 : Ref sig .tc := ⟨.hbm, 237, rfl⟩
abbrev main_while0b_v207 : Ref sig .tc := ⟨.hbm, 238, rfl⟩
abbrev main_while0b_c_48 : Ref sig .tc := ⟨.hbm, 239, rfl⟩
abbrev main_while0b_v208 : Ref sig .tc := ⟨.hbm, 240, rfl⟩
abbrev main_while0b_v209 : Ref sig .tc := ⟨.hbm, 241, rfl⟩
abbrev main_while0b_c_49 : Ref sig .tc := ⟨.hbm, 242, rfl⟩
abbrev main_while0b_c_50 : Ref sig .tc := ⟨.hbm, 243, rfl⟩
abbrev main_while0b_v210 : Ref sig .tc := ⟨.hbm, 244, rfl⟩
abbrev main_while0b_v211 : Ref sig .tc := ⟨.hbm, 245, rfl⟩
abbrev main_while0b_c_51 : Ref sig .tc := ⟨.hbm, 246, rfl⟩
abbrev main_while0b_v212 : Ref sig .tc := ⟨.hbm, 247, rfl⟩
abbrev main_while0b_v213 : Ref sig .tc := ⟨.hbm, 248, rfl⟩
abbrev main_while0b_c_52 : Ref sig .tc := ⟨.hbm, 249, rfl⟩
abbrev main_while0b_v214 : Ref sig .tc := ⟨.hbm, 250, rfl⟩
abbrev main_while0b_v215 : Ref sig .tc := ⟨.hbm, 251, rfl⟩
abbrev main_while0b_c_53 : Ref sig .tc := ⟨.hbm, 252, rfl⟩
abbrev main_while0b_v216 : Ref sig .tc := ⟨.hbm, 253, rfl⟩
abbrev main_while0b_cst_54 : Ref sig .tc := ⟨.hbm, 254, rfl⟩
abbrev main_while0b_v217 : Ref sig .tc := ⟨.hbm, 255, rfl⟩
abbrev main_while0b_v218 : Ref sig .tc := ⟨.hbm, 256, rfl⟩
abbrev main_while0b_v219 : Ref sig .tc := ⟨.hbm, 257, rfl⟩
abbrev main_while0b_v220 : Ref sig .tc := ⟨.hbm, 258, rfl⟩
abbrev main_while0b_v221 : Ref sig .tc := ⟨.hbm, 259, rfl⟩
abbrev main_while0b_v222 : Ref sig .tc := ⟨.hbm, 260, rfl⟩
abbrev main_while0b_v223 : Ref sig .tc := ⟨.hbm, 261, rfl⟩
abbrev main_while0b_v224 : Ref sig .tc := ⟨.hbm, 262, rfl⟩
abbrev main_while0b_v225 : Ref sig .tc := ⟨.hbm, 263, rfl⟩
abbrev main_while0b_v226 : Ref sig .tc := ⟨.hbm, 264, rfl⟩
abbrev main_while0b_v227 : Ref sig .tc := ⟨.hbm, 265, rfl⟩
abbrev main_while0b_v228 : Ref sig .tc := ⟨.hbm, 266, rfl⟩
abbrev main_while0b_c_55 : Ref sig .tc := ⟨.hbm, 267, rfl⟩
abbrev main_while0b_v229 : Ref sig .tc := ⟨.hbm, 268, rfl⟩
abbrev main_cst_24 : Ref sig .tc := ⟨.hbm, 269, rfl⟩
abbrev main_call5_v0 : Ref sig .tc := ⟨.hbm, 270, rfl⟩
abbrev main_call5_v1 : Ref sig .tc := ⟨.hbm, 271, rfl⟩
abbrev main_v147 : Ref sig .tc := ⟨.hbm, 272, rfl⟩
abbrev main_values_25 : Ref sig .tc := ⟨.hbm, 273, rfl⟩
abbrev main_indices_26 : Ref sig .tc := ⟨.hbm, 274, rfl⟩
abbrev main_v148 : Ref sig .tc := ⟨.hbm, 275, rfl⟩
abbrev main_call6_c : Ref sig .tc := ⟨.hbm, 276, rfl⟩
abbrev main_call6_v0 : Ref sig .tc := ⟨.hbm, 277, rfl⟩
abbrev main_call6_v1 : Ref sig .tc := ⟨.hbm, 278, rfl⟩
abbrev main_call6_c_0 : Ref sig .tc := ⟨.hbm, 279, rfl⟩
abbrev main_call6_v2 : Ref sig .tc := ⟨.hbm, 280, rfl⟩
abbrev main_call6_v3 : Ref sig .tc := ⟨.hbm, 281, rfl⟩
abbrev main_call6_v4 : Ref sig .tc := ⟨.hbm, 282, rfl⟩
abbrev main_call6_c_1 : Ref sig .tc := ⟨.hbm, 283, rfl⟩
abbrev main_call6_c_2 : Ref sig .tc := ⟨.hbm, 284, rfl⟩
abbrev main_call6_v5 : Ref sig .tc := ⟨.hbm, 285, rfl⟩
abbrev main_call6_v6 : Ref sig .tc := ⟨.hbm, 286, rfl⟩
abbrev main_call6_v7 : Ref sig .tc := ⟨.hbm, 287, rfl⟩
abbrev main_call6_v8 : Ref sig .tc := ⟨.hbm, 288, rfl⟩
abbrev main_call6_v9 : Ref sig .tc := ⟨.hbm, 289, rfl⟩
abbrev main_call6_v10 : Ref sig .tc := ⟨.hbm, 290, rfl⟩
abbrev main_call6_c_3 : Ref sig .tc := ⟨.hbm, 291, rfl⟩
abbrev main_call6_v11 : Ref sig .tc := ⟨.hbm, 292, rfl⟩
abbrev main_call6_v12 : Ref sig .tc := ⟨.hbm, 293, rfl⟩
abbrev main_call6_v13 : Ref sig .tc := ⟨.hbm, 294, rfl⟩
abbrev main_call6_cst : Ref sig .tc := ⟨.hbm, 295, rfl⟩
abbrev main_call6_v14 : Ref sig .tc := ⟨.hbm, 296, rfl⟩
abbrev main_v149 : Ref sig .tc := ⟨.hbm, 297, rfl⟩
abbrev main_call7_c : Ref sig .tc := ⟨.hbm, 298, rfl⟩
abbrev main_call7_v0 : Ref sig .tc := ⟨.hbm, 299, rfl⟩
abbrev main_call7_v1 : Ref sig .tc := ⟨.hbm, 300, rfl⟩
abbrev main_call7_c_0 : Ref sig .tc := ⟨.hbm, 301, rfl⟩
abbrev main_call7_v2 : Ref sig .tc := ⟨.hbm, 302, rfl⟩
abbrev main_call7_v3 : Ref sig .tc := ⟨.hbm, 303, rfl⟩
abbrev main_call7_v4 : Ref sig .tc := ⟨.hbm, 304, rfl⟩
abbrev main_call7_v5 : Ref sig .tc := ⟨.hbm, 305, rfl⟩
abbrev main_call7_c_1 : Ref sig .tc := ⟨.hbm, 306, rfl⟩
abbrev main_call7_c_2 : Ref sig .tc := ⟨.hbm, 307, rfl⟩
abbrev main_call7_v6 : Ref sig .tc := ⟨.hbm, 308, rfl⟩
abbrev main_call7_v7 : Ref sig .tc := ⟨.hbm, 309, rfl⟩
abbrev main_call7_v8 : Ref sig .tc := ⟨.hbm, 310, rfl⟩
abbrev main_call7_v9 : Ref sig .tc := ⟨.hbm, 311, rfl⟩
abbrev main_call7_v10 : Ref sig .tc := ⟨.hbm, 312, rfl⟩
abbrev main_call7_v11 : Ref sig .tc := ⟨.hbm, 313, rfl⟩
abbrev main_call7_c_3 : Ref sig .tc := ⟨.hbm, 314, rfl⟩
abbrev main_call7_v12 : Ref sig .tc := ⟨.hbm, 315, rfl⟩
abbrev main_call7_v13 : Ref sig .tc := ⟨.hbm, 316, rfl⟩
abbrev main_call7_c_4 : Ref sig .tc := ⟨.hbm, 317, rfl⟩
abbrev main_call7_v14 : Ref sig .tc := ⟨.hbm, 318, rfl⟩
abbrev main_v150 : Ref sig .tc := ⟨.hbm, 319, rfl⟩
abbrev main_cst_27 : Ref sig .tc := ⟨.hbm, 320, rfl⟩
abbrev main_v151 : Ref sig .tc := ⟨.hbm, 321, rfl⟩
abbrev main_v152 : Ref sig .tc := ⟨.hbm, 322, rfl⟩
abbrev main_v153 : Ref sig .tc := ⟨.hbm, 323, rfl⟩
abbrev main_v154 : Ref sig .tc := ⟨.hbm, 324, rfl⟩
abbrev main_cst_28 : Ref sig .tc := ⟨.hbm, 325, rfl⟩
abbrev main_cst_29 : Ref sig .tc := ⟨.hbm, 326, rfl⟩
abbrev main_call8_v0 : Ref sig .tc := ⟨.hbm, 327, rfl⟩
abbrev main_call8_v1 : Ref sig .tc := ⟨.hbm, 328, rfl⟩
abbrev main_call8_v2 : Ref sig .tc := ⟨.hbm, 329, rfl⟩
abbrev main_call8_v3 : Ref sig .tc := ⟨.hbm, 330, rfl⟩
abbrev main_call8_v4 : Ref sig .tc := ⟨.hbm, 331, rfl⟩
abbrev main_v155 : Ref sig .tc := ⟨.hbm, 332, rfl⟩
abbrev main_v156 : Ref sig .tc := ⟨.hbm, 333, rfl⟩
abbrev main_v157 : Ref sig .tc := ⟨.hbm, 334, rfl⟩
abbrev main_cst_30 : Ref sig .tc := ⟨.hbm, 335, rfl⟩
abbrev main_cst_31 : Ref sig .tc := ⟨.hbm, 336, rfl⟩
abbrev main_call9_v0 : Ref sig .tc := ⟨.hbm, 337, rfl⟩
abbrev main_call9_v1 : Ref sig .tc := ⟨.hbm, 338, rfl⟩
abbrev main_call9_v2 : Ref sig .tc := ⟨.hbm, 339, rfl⟩
abbrev main_call9_v3 : Ref sig .tc := ⟨.hbm, 340, rfl⟩
abbrev main_call9_v4 : Ref sig .tc := ⟨.hbm, 341, rfl⟩
abbrev main_v158 : Ref sig .tc := ⟨.hbm, 342, rfl⟩
abbrev main_v159 : Ref sig .tc := ⟨.hbm, 343, rfl⟩
abbrev main_v160 : Ref sig .tc := ⟨.hbm, 344, rfl⟩
abbrev main_cst_32 : Ref sig .tc := ⟨.hbm, 345, rfl⟩
abbrev main_cst_33 : Ref sig .tc := ⟨.hbm, 346, rfl⟩
abbrev main_call10_v0 : Ref sig .tc := ⟨.hbm, 347, rfl⟩
abbrev main_call10_v1 : Ref sig .tc := ⟨.hbm, 348, rfl⟩
abbrev main_call10_v2 : Ref sig .tc := ⟨.hbm, 349, rfl⟩
abbrev main_call10_v3 : Ref sig .tc := ⟨.hbm, 350, rfl⟩
abbrev main_call10_v4 : Ref sig .tc := ⟨.hbm, 351, rfl⟩
abbrev main_v161 : Ref sig .tc := ⟨.hbm, 352, rfl⟩
abbrev main_v162 : Ref sig .tc := ⟨.hbm, 353, rfl⟩
abbrev main_v163 : Ref sig .tc := ⟨.hbm, 354, rfl⟩
abbrev main_cst_34 : Ref sig .tc := ⟨.hbm, 355, rfl⟩
abbrev main_cst_35 : Ref sig .tc := ⟨.hbm, 356, rfl⟩
abbrev main_call11_v0 : Ref sig .tc := ⟨.hbm, 357, rfl⟩
abbrev main_call11_v1 : Ref sig .tc := ⟨.hbm, 358, rfl⟩
abbrev main_call11_v2 : Ref sig .tc := ⟨.hbm, 359, rfl⟩
abbrev main_call11_v3 : Ref sig .tc := ⟨.hbm, 360, rfl⟩
abbrev main_call11_v4 : Ref sig .tc := ⟨.hbm, 361, rfl⟩
abbrev main_v164 : Ref sig .tc := ⟨.hbm, 362, rfl⟩
abbrev main_v165 : Ref sig .tc := ⟨.hbm, 363, rfl⟩
abbrev main_v166 : Ref sig .tc := ⟨.hbm, 364, rfl⟩
abbrev main_v167 : Ref sig .tc := ⟨.hbm, 365, rfl⟩
abbrev main_v168 : Ref sig .tc := ⟨.hbm, 366, rfl⟩
abbrev main_cst_36 : Ref sig .tc := ⟨.hbm, 367, rfl⟩
abbrev main_v169 : Ref sig .tc := ⟨.hbm, 368, rfl⟩
abbrev main_v170 : Ref sig .tc := ⟨.hbm, 369, rfl⟩
abbrev main_v171 : Ref sig .tc := ⟨.hbm, 370, rfl⟩
abbrev main_v172 : Ref sig .tc := ⟨.hbm, 371, rfl⟩
abbrev main_cst_37 : Ref sig .tc := ⟨.hbm, 372, rfl⟩
abbrev main_v173 : Ref sig .tc := ⟨.hbm, 373, rfl⟩
abbrev main_v174 : Ref sig .tc := ⟨.hbm, 374, rfl⟩
abbrev main_v175 : Ref sig .tc := ⟨.hbm, 375, rfl⟩
abbrev main_v176 : Ref sig .tc := ⟨.hbm, 376, rfl⟩
abbrev main_c_38 : Ref sig .tc := ⟨.hbm, 377, rfl⟩
abbrev main_c_39 : Ref sig .tc := ⟨.hbm, 378, rfl⟩
abbrev main_call12_v0 : Ref sig .tc := ⟨.hbm, 379, rfl⟩
abbrev main_call12_v1 : Ref sig .tc := ⟨.hbm, 380, rfl⟩
abbrev main_call12_v2 : Ref sig .tc := ⟨.hbm, 381, rfl⟩
abbrev main_call12_v3 : Ref sig .tc := ⟨.hbm, 382, rfl⟩
abbrev main_call12_v4 : Ref sig .tc := ⟨.hbm, 383, rfl⟩
abbrev main_v177 : Ref sig .tc := ⟨.hbm, 384, rfl⟩
abbrev main_v178 : Ref sig .tc := ⟨.hbm, 385, rfl⟩
abbrev main_v179 : Ref sig .tc := ⟨.hbm, 386, rfl⟩
abbrev main_v180 : Ref sig .tc := ⟨.hbm, 387, rfl⟩
abbrev main_v181 : Ref sig .tc := ⟨.hbm, 388, rfl⟩
abbrev main_v182 : Ref sig .tc := ⟨.hbm, 389, rfl⟩
abbrev main_v183 : Ref sig .tc := ⟨.hbm, 390, rfl⟩
abbrev main_v184 : Ref sig .tc := ⟨.hbm, 391, rfl⟩
abbrev main_v185 : Ref sig .tc := ⟨.hbm, 392, rfl⟩
abbrev main_v186 : Ref sig .tc := ⟨.hbm, 393, rfl⟩
abbrev main_v187 : Ref sig .tc := ⟨.hbm, 394, rfl⟩
abbrev main_v188 : Ref sig .tc := ⟨.hbm, 395, rfl⟩
abbrev main_v189 : Ref sig .tc := ⟨.hbm, 396, rfl⟩
abbrev main_v190 : Ref sig .tc := ⟨.hbm, 397, rfl⟩
abbrev main_v191 : Ref sig .tc := ⟨.hbm, 398, rfl⟩
abbrev main_v192 : Ref sig .tc := ⟨.hbm, 399, rfl⟩
abbrev main_v193 : Ref sig .tc := ⟨.hbm, 400, rfl⟩
abbrev main_v194 : Ref sig .tc := ⟨.hbm, 401, rfl⟩
abbrev main_v195 : Ref sig .tc := ⟨.hbm, 402, rfl⟩
abbrev main_v196 : Ref sig .tc := ⟨.hbm, 403, rfl⟩
abbrev main_v197 : Ref sig .tc := ⟨.hbm, 404, rfl⟩
abbrev main_v198 : Ref sig .tc := ⟨.hbm, 405, rfl⟩
abbrev main_v199 : Ref sig .tc := ⟨.hbm, 406, rfl⟩
abbrev main_v200 : Ref sig .tc := ⟨.hbm, 407, rfl⟩
abbrev main_v201 : Ref sig .tc := ⟨.hbm, 408, rfl⟩
abbrev main_v202 : Ref sig .tc := ⟨.hbm, 409, rfl⟩
abbrev main_cst_40 : Ref sig .tc := ⟨.hbm, 410, rfl⟩
abbrev main_call15_v0 : Ref sig .tc := ⟨.hbm, 411, rfl⟩
abbrev main_call15_v1 : Ref sig .tc := ⟨.hbm, 412, rfl⟩
abbrev main_v203 : Ref sig .tc := ⟨.hbm, 413, rfl⟩
abbrev main_c_41 : Ref sig .tc := ⟨.hbm, 414, rfl⟩
abbrev main_call16_v0 : Ref sig .tc := ⟨.hbm, 415, rfl⟩
abbrev main_call16_v1 : Ref sig .tc := ⟨.hbm, 416, rfl⟩
abbrev main_v204 : Ref sig .tc := ⟨.hbm, 417, rfl⟩

abbrev nD : Nat := 1
abbrev τ : Topo := Topo.v7x

variable {F : FTy → Type} [FloatOps F]

abbrev main_while0_count : Scf.Loop 32 := ⟨0#32, 1024#32, 1#32⟩
-- ==== Proof.Hand.KLoop.lean ====
/-
  One trip of the suppression loop of the kernel, and the loop's invariant.

  The state before a trip is the contents of the keep row, of the three result windows and the number of boxes
  written so far; a trip is a function of it (`nxt`), and the invariant says that the buffers hold the iterates
  (`stAt`). It holds for every float interpretation.
-/
module

public import proofs.«01_k».proof.Defs
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

/-! ## The row counter -/

theorem slt300 (r : BitVec 32) (hr : r.toNat ≤ 300) :
    Scalar.cmpi .slt r 300#32 = BitVec.ofBool (decide (r.toNat < 300)) := by
  have hs : (r.toInt : Int) = r.toNat := by rw [BitVec.toInt_eq_toNat_cond]; split <;> omega
  have h3 : (300#32 : BitVec 32).toInt = 300 := by decide
  show BitVec.ofBool (BitVec.slt r 300#32) = _
  rw [BitVec.slt_eq_decide, hs, h3]
  congr 1; apply decide_eq_decide.mpr; omega

theorem cond_iff (r : BitVec 32) (b : BitVec 1) (hr : r.toNat ≤ 300) :
    k0_cond1 r b = 1#1 ↔ b = 1#1 ∧ r.toNat < 300 := by
  unfold k0_cond1
  dsimp only
  rw [slt300 r hr]
  by_cases h : r.toNat < 300
  · rw [decide_eq_true h]
    rcases (show b = 0#1 ∨ b = 1#1 by revert b; decide) with rfl | rfl
    · simp [h]; decide
    · simp [h]; decide
  · rw [decide_eq_false h]
    rcases (show b = 0#1 ∨ b = 1#1 by revert b; decide) with rfl | rfl
    · simp [h]; decide
    · simp [h]; decide

theorem chk_of (r : BitVec 32) (b : BitVec 1) (hr : r.toNat ≤ 300) : k0_chk1 r b := by
  refine ⟨fun h a => ?_, fun h a => ?_⟩
  · have := ((cond_iff r b hr).mp h).2
    fin_cases a
    · show 0 + 1 ≤ 1; omega
    · show r.toNat + 1 ≤ 300; omega
    · show 0 + 4 ≤ 4; omega
  · have := ((cond_iff r b hr).mp h).2
    fin_cases a
    · show 0 + 1 ≤ 1; omega
    · show r.toNat + 1 ≤ 300; omega
    · show 0 + 1 ≤ 1; omega

/-- The counter after a trip. -/
def rNext (r : BitVec 32) (b : BitVec 1) : BitVec 32 :=
  Scalar.addi r (Scalar.extui (Scalar.andi b (Scalar.cmpi .slt r 300#32)))

theorem rNext_pos (r : BitVec 32) (b : BitVec 1) (hr : r.toNat ≤ 300) (h : k0_cond1 r b = 1#1) :
    (rNext r b).toNat = r.toNat + 1 := by
  obtain ⟨rfl, h'⟩ := (cond_iff r b hr).mp h
  unfold rNext
  rw [slt300 r hr, decide_eq_true h', show (Scalar.extui (Scalar.andi 1#1 (BitVec.ofBool true)) : BitVec 32) = 1#32 from by decide]
  show (r + 1#32).toNat = _
  rw [BitVec.toNat_add, show (1#32 : BitVec 32).toNat = 1 from rfl]; omega

theorem rNext_neg (r : BitVec 32) (b : BitVec 1) (hr : r.toNat ≤ 300) (h : ¬ k0_cond1 r b = 1#1) :
    rNext r b = r := by
  rw [cond_iff r b hr] at h
  unfold rNext
  rw [slt300 r hr]
  have e : Scalar.andi b (BitVec.ofBool (decide (r.toNat < 300))) = 0#1 := by
    by_cases h' : r.toNat < 300
    · have hb : b ≠ 1#1 := fun hb => h ⟨hb, h'⟩
      rw [decide_eq_true h']
      clear h; revert b; decide
    · rw [decide_eq_false h']
      clear h; revert b; decide
  rw [e, show (Scalar.extui 0#1 : BitVec 32) = 0#32 from by decide]
  exact BitVec.add_zero r

/-! ## One trip -/

section Trip

variable (c : Dev nD) (i : grid0.Coords)
  (arg1 : Memref sig .tc .vmem S1x1x1024 .f32) (harg1 : arg1.IsWhole) (arg2 : Memref sig .tc .vmem S1x4x1024 .f32) (harg2 : arg2.IsWhole)
  (arg3 : Memref sig .tc .vmem S1x1024x4 .f32) (harg3 : arg3.IsWhole) (arg4 : Memref sig .tc .vmem S1x1x1024 .f32) (harg4 : arg4.IsWhole)
  (arg5 : Memref sig .tc .vmem S1x1024x1 .f32) (harg5 : arg5.IsWhole) (arg6 : Memref sig .tc .vmem S1x300x4 .f32) (harg6 : arg6.IsWhole)
  (arg7 : Memref sig .tc .vmem S1x300x1 .f32) (harg7 : arg7.IsWhole) (arg8 : Memref sig .tc .vmem S1x300x1 .f32) (harg8 : arg8.IsWhole)
  (arg9 : Memref sig .tc .vmem S1024x1024 .f32) (harg9 : arg9.IsWhole) (arg10 : Memref sig .tc .vmem S1x1024 .f32) (harg10 : arg10.IsWhole)
  (v1 : FVec F S1x1024 .f32) (v404 : FVec F S128x1024 .f32)
  (X1 : Buf (Elt F) (arg1.view.loc (c : Thread nD τ))) (X3 : Buf (Elt F) (arg3.view.loc (c : Thread nD τ)))
  (X4 : Buf (Elt F) (arg4.view.loc (c : Thread nD τ))) (G9 : Buf (Elt F) (arg9.view.loc (c : Thread nD τ)))

/-- What changes from trip to trip. -/
structure St : Type where
  keep : Buf (Elt F) (arg10.view.loc (c : Thread nD τ))
  ob : Buf (Elt F) (arg6.view.loc (c : Thread nD τ))
  os : Buf (Elt F) (arg7.view.loc (c : Thread nD τ))
  ol : Buf (Elt F) (arg8.view.loc (c : Thread nD τ))
  r : BitVec 32

abbrev R10 : Rect S1x1024 := Rect.unit (s := S1x1024) ![0, 0] S1x1024.size inb_S1x1024_S1x1024_0_0
abbrev R1 : Rect S1x1x1024 := Rect.unit (s := S1x1x1024) ![0, 0, 0] S1x1x1024.size inb_S1x1x1024_S1x1x1024_0_0_0

/-- The keep row a trip reads. -/
abbrev kv (s : St (F := F) c arg6 arg7 arg8 arg10) : Vec F S1x1024 .f32 := arg10.view.readAt (Elt F) R10.toLoadRect s.keep
/-- Whether the trip's box is still kept. -/
abbrev kb (k : Fin k0_t1_loop.trips) (s : St (F := F) c arg6 arg7 arg8 arg10) : BitVec 1 :=
  Scalar.cmpf .ogt (k0_pay58 k (kv c arg6 arg7 arg8 arg10 s)) (Scalar.ofBits .f32 0x3F000000#32)
/-- The row of overlaps a trip reads. -/
abbrev gv (k : Fin k0_t1_loop.trips) : Vec F S1x1024 .f32 :=
  arg9.view.readAt (Elt F) (Rect.unit (s := S1024x1024) (k0_off1 k) S1x1024.size (k0_off1_inb k)).toLoadRect G9

abbrev R6 (r : BitVec 32) (b : BitVec 1) (hw : k0_chk1 r b) (h : k0_cond1 r b = 1#1) : Rect S1x300x4 :=
  Rect.unit (s := S1x300x4) (k0_off3 r) S1x1x4.size (k0_off3_inb r b hw h)
abbrev R7 (r : BitVec 32) (b : BitVec 1) (hw : k0_chk1 r b) (h : k0_cond1 r b = 1#1) : Rect S1x300x1 :=
  Rect.unit (s := S1x300x1) (k0_off4 r) S1x1x1.size (k0_off4_inb r b hw h)

/-- The keep row after a trip. -/
abbrev keepN (k : Fin k0_t1_loop.trips) (s : St (F := F) c arg6 arg7 arg8 arg10) : Buf (Elt F) (arg10.view.loc (c : Thread nD τ)) :=
  arg10.view.writes (Elt F) s.keep [⟨R10, k0_pay59 k (kv c arg6 arg7 arg8 arg10 s) (gv c arg9 G9 k)⟩]

/-- A trip. -/
def nxt (k : Fin k0_t1_loop.trips) (s : St (F := F) c arg6 arg7 arg8 arg10) : St (F := F) c arg6 arg7 arg8 arg10 :=
  if h : k0_chk1 s.r (kb c arg6 arg7 arg8 arg10 k s) ∧ k0_cond1 s.r (kb c arg6 arg7 arg8 arg10 k s) = 1#1 then
    { keep := keepN c arg6 arg7 arg8 arg9 arg10 G9 k s
      ob := arg6.view.writes (Elt F) s.ob [⟨R6 s.r _ h.1 h.2, k0_pay60 (arg3.view.readAt (Elt F) (Rect.unit (s := S1x1024x4) (k0_off2 k) S1x1x4.size (k0_off2_inb k)).toLoadRect X3)⟩]
      os := arg7.view.writes (Elt F) s.os [⟨R7 s.r _ h.1 h.2, k0_pay61 k (arg1.view.readAt (Elt F) R1.toLoadRect X1)⟩]
      ol := arg8.view.writes (Elt F) s.ol [⟨R7 s.r _ h.1 h.2, k0_pay62 k (arg4.view.readAt (Elt F) R1.toLoadRect X4)⟩]
      r := rNext s.r (kb c arg6 arg7 arg8 arg10 k s) }
  else
    { s with keep := keepN c arg6 arg7 arg8 arg9 arg10 G9 k s, r := rNext s.r (kb c arg6 arg7 arg8 arg10 k s) }

theorem nxt_r (k : Fin k0_t1_loop.trips) (s : St (F := F) c arg6 arg7 arg8 arg10) :
    (nxt c arg1 arg3 arg4 arg6 arg7 arg8 arg9 arg10 X1 X3 X4 G9 k s).r = rNext s.r (kb c arg6 arg7 arg8 arg10 k s) := by
  unfold nxt; split <;> rfl

theorem nxt_le (k : Fin k0_t1_loop.trips) (s : St (F := F) c arg6 arg7 arg8 arg10) (hs : s.r.toNat ≤ 300) :
    (nxt c arg1 arg3 arg4 arg6 arg7 arg8 arg9 arg10 X1 X3 X4 G9 k s).r.toNat ≤ 300 := by
  rw [nxt_r]
  by_cases h : k0_cond1 s.r (kb c arg6 arg7 arg8 arg10 k s) = 1#1
  · rw [rNext_pos _ _ hs h]; have := ((cond_iff _ _ hs).mp h).2; omega
  · rw [rNext_neg _ _ hs h]; exact hs

/-- The buffers before a trip in state `s`. -/
def resAt (s : St (F := F) c arg6 arg7 arg8 arg10) : sProp 𝕄 :=
  iprop((arg1.view.loc (c : Thread nD τ) ↦[arg1.view.set]{fullShare} X1)
    ∗ (arg3.view.loc (c : Thread nD τ) ↦[arg3.view.set]{fullShare} X3)
    ∗ (arg4.view.loc (c : Thread nD τ) ↦[arg4.view.set]{fullShare} X4)
    ∗ (arg6.view.loc (c : Thread nD τ) ↦[arg6.view.set]{fullShare} s.ob)
    ∗ (arg7.view.loc (c : Thread nD τ) ↦[arg7.view.set]{fullShare} s.os)
    ∗ (arg8.view.loc (c : Thread nD τ) ↦[arg8.view.set]{fullShare} s.ol)
    ∗ (arg9.view.loc (c : Thread nD τ) ↦[arg9.view.set]{fullShare} G9)
    ∗ (arg10.view.loc (c : Thread nD τ) ↦[arg10.view.set]{fullShare} s.keep))

set_option backward.proofsInPublic true in
theorem tripRun (k : Fin k0_t1_loop.trips) (s : St (F := F) c arg6 arg7 arg8 arg10) (hs : s.r.toNat ≤ 300) :
    resAt c arg1 arg3 arg4 arg6 arg7 arg8 arg9 arg10 X1 X3 X4 G9 s
      ⊢ wp frame (wpE (defs₀ (F := F)) 𝒱₀ (c : Thread nD τ) none) Set.univ
          (k0_t1_body (F := F) i arg1 harg1 arg2 harg2 arg3 harg3 arg4 harg4 arg5 harg5 arg6 harg6 arg7 harg7 arg8 harg8 arg9 harg9 arg10 harg10 v1 v404 k s.r)
          (fun r' => iprop(⌜r' = (nxt c arg1 arg3 arg4 arg6 arg7 arg8 arg9 arg10 X1 X3 X4 G9 k s).r⌝
            ∗ resAt c arg1 arg3 arg4 arg6 arg7 arg8 arg9 arg10 X1 X3 X4 G9 (nxt c arg1 arg3 arg4 arg6 arg7 arg8 arg9 arg10 X1 X3 X4 G9 k s))) := by
  have hw : k0_chk1 s.r (kb c arg6 arg7 arg8 arg10 k s) := chk_of _ _ hs
  by_cases h : k0_cond1 s.r (kb c arg6 arg7 arg8 arg10 k s) = 1#1
  · have e : nxt c arg1 arg3 arg4 arg6 arg7 arg8 arg9 arg10 X1 X3 X4 G9 k s = _ := dif_pos ⟨hw, h⟩
    rw [e]
    unfold resAt
    iintro ⟨H1, H3, H4, H6, H7, H8, H9, H10⟩
    sl_unfold [k0_t1_body]
    sl_exec
    sl_step
    isplitr; · ipureintro; rfl
    isplitl [H1]; · iexact H1
    isplitl [H3]; · iexact H3
    isplitl [H4]; · iexact H4
    isplitl [H6]; · iexact H6
    isplitl [H7]; · iexact H7
    isplitl [H8]; · iexact H8
    isplitl [H9]; · iexact H9
    iexact H10
  · have e : nxt c arg1 arg3 arg4 arg6 arg7 arg8 arg9 arg10 X1 X3 X4 G9 k s = _ := dif_neg (fun h' => h h'.2)
    rw [e]
    unfold resAt
    iintro ⟨H1, H3, H4, H6, H7, H8, H9, H10⟩
    sl_unfold [k0_t1_body]
    sl_exec
    sl_step
    isplitr; · ipureintro; rfl
    isplitl [H1]; · iexact H1
    isplitl [H3]; · iexact H3
    isplitl [H4]; · iexact H4
    isplitl [H6]; · iexact H6
    isplitl [H7]; · iexact H7
    isplitl [H8]; · iexact H8
    isplitl [H9]; · iexact H9
    iexact H10

/-- The state before trip `k`, from the state `s₀` at the loop's entry. -/
def stAt (s₀ : St (F := F) c arg6 arg7 arg8 arg10) : ℕ → St (F := F) c arg6 arg7 arg8 arg10
  | 0 => s₀
  | k + 1 => if h : k < k0_t1_loop.trips then nxt c arg1 arg3 arg4 arg6 arg7 arg8 arg9 arg10 X1 X3 X4 G9 ⟨k, h⟩ (stAt s₀ k) else stAt s₀ k

theorem stAt_zero (s₀ : St (F := F) c arg6 arg7 arg8 arg10) :
    stAt c arg1 arg3 arg4 arg6 arg7 arg8 arg9 arg10 X1 X3 X4 G9 s₀ 0 = s₀ := by rw [stAt]

theorem stAt_succ (s₀ : St (F := F) c arg6 arg7 arg8 arg10) (k : Fin k0_t1_loop.trips) :
    stAt c arg1 arg3 arg4 arg6 arg7 arg8 arg9 arg10 X1 X3 X4 G9 s₀ (k.val + 1)
      = nxt c arg1 arg3 arg4 arg6 arg7 arg8 arg9 arg10 X1 X3 X4 G9 k (stAt c arg1 arg3 arg4 arg6 arg7 arg8 arg9 arg10 X1 X3 X4 G9 s₀ k.val) := by
  rw [stAt, dif_pos k.isLt]

/-- The state at the loop's entry: no box written. -/
abbrev entry (f10 : Buf (Elt F) (arg10.view.loc (c : Thread nD τ))) (f6 : Buf (Elt F) (arg6.view.loc (c : Thread nD τ)))
    (f7 : Buf (Elt F) (arg7.view.loc (c : Thread nD τ))) (f8 : Buf (Elt F) (arg8.view.loc (c : Thread nD τ))) : St (F := F) c arg6 arg7 arg8 arg10 :=
  ⟨f10, f6, f7, f8, 0#32⟩

theorem stAt_le (f10 : Buf (Elt F) (arg10.view.loc (c : Thread nD τ))) (f6 : Buf (Elt F) (arg6.view.loc (c : Thread nD τ)))
    (f7 : Buf (Elt F) (arg7.view.loc (c : Thread nD τ))) (f8 : Buf (Elt F) (arg8.view.loc (c : Thread nD τ))) (k : ℕ) :
    (stAt c arg1 arg3 arg4 arg6 arg7 arg8 arg9 arg10 X1 X3 X4 G9 (entry c arg6 arg7 arg8 arg10 f10 f6 f7 f8) k).r.toNat ≤ 300 := by
  induction k with
  | zero => rw [stAt]; show (0#32 : BitVec 32).toNat ≤ 300; decide
  | succ k ih =>
    rw [stAt]; split
    · exact nxt_le _ _ _ _ _ _ _ _ _ _ _ _ _ _ _ ih
    · exact ih

/-- The loop's invariant. -/
def linv (f10 : Buf (Elt F) (arg10.view.loc (c : Thread nD τ))) (f6 : Buf (Elt F) (arg6.view.loc (c : Thread nD τ)))
    (f7 : Buf (Elt F) (arg7.view.loc (c : Thread nD τ))) (f8 : Buf (Elt F) (arg8.view.loc (c : Thread nD τ))) (k : ℕ) (acc : BitVec 32) : sProp 𝕄 :=
  iprop((arg1.view.loc (c : Thread nD τ) ↦[arg1.view.set]{fullShare} X1)
    ∗ (arg3.view.loc (c : Thread nD τ) ↦[arg3.view.set]{fullShare} X3)
    ∗ (arg4.view.loc (c : Thread nD τ) ↦[arg4.view.set]{fullShare} X4)
    ∗ (arg6.view.loc (c : Thread nD τ) ↦[arg6.view.set]{fullShare} (stAt c arg1 arg3 arg4 arg6 arg7 arg8 arg9 arg10 X1 X3 X4 G9 (entry c arg6 arg7 arg8 arg10 f10 f6 f7 f8) k).ob)
    ∗ (arg7.view.loc (c : Thread nD τ) ↦[arg7.view.set]{fullShare} (stAt c arg1 arg3 arg4 arg6 arg7 arg8 arg9 arg10 X1 X3 X4 G9 (entry c arg6 arg7 arg8 arg10 f10 f6 f7 f8) k).os)
    ∗ (arg8.view.loc (c : Thread nD τ) ↦[arg8.view.set]{fullShare} (stAt c arg1 arg3 arg4 arg6 arg7 arg8 arg9 arg10 X1 X3 X4 G9 (entry c arg6 arg7 arg8 arg10 f10 f6 f7 f8) k).ol)
    ∗ (arg9.view.loc (c : Thread nD τ) ↦[arg9.view.set]{fullShare} G9)
    ∗ (arg10.view.loc (c : Thread nD τ) ↦[arg10.view.set]{fullShare} (stAt c arg1 arg3 arg4 arg6 arg7 arg8 arg9 arg10 X1 X3 X4 G9 (entry c arg6 arg7 arg8 arg10 f10 f6 f7 f8) k).keep)
    ∗ ⌜acc = (stAt c arg1 arg3 arg4 arg6 arg7 arg8 arg9 arg10 X1 X3 X4 G9 (entry c arg6 arg7 arg8 arg10 f10 f6 f7 f8) k).r⌝)

/-- A trip takes the invariant to the next. -/
theorem linv_step (f10 : Buf (Elt F) (arg10.view.loc (c : Thread nD τ))) (f6 : Buf (Elt F) (arg6.view.loc (c : Thread nD τ)))
    (f7 : Buf (Elt F) (arg7.view.loc (c : Thread nD τ))) (f8 : Buf (Elt F) (arg8.view.loc (c : Thread nD τ))) (k : Fin k0_t1_loop.trips) (acc : BitVec 32) :
    linv c arg1 arg3 arg4 arg6 arg7 arg8 arg9 arg10 X1 X3 X4 G9 f10 f6 f7 f8 k.val acc
      ⊢ wp frame (wpE (defs₀ (F := F)) 𝒱₀ (c : Thread nD τ) none) Set.univ
          (k0_t1_body (F := F) i arg1 harg1 arg2 harg2 arg3 harg3 arg4 harg4 arg5 harg5 arg6 harg6 arg7 harg7 arg8 harg8 arg9 harg9 arg10 harg10 v1 v404 k acc)
          (linv c arg1 arg3 arg4 arg6 arg7 arg8 arg9 arg10 X1 X3 X4 G9 f10 f6 f7 f8 (k.val + 1)) := by
    unfold linv
    simp only [stAt_succ]
    iintro ⟨H1, H3, H4, H6, H7, H8, H9, H10, %e⟩
    subst e
    iapply (wp_wand_r Idealize.ShloMosaic.frame (wpE (defs₀ (F := F)) 𝒱₀ (c : Thread nD τ) none) Set.univ)
    isplitl
    · iapply (tripRun c i arg1 harg1 arg2 harg2 arg3 harg3 arg4 harg4 arg5 harg5 arg6 harg6 arg7 harg7 arg8 harg8 arg9 harg9 arg10 harg10 v1 v404 X1 X3 X4 G9 k _ (stAt_le c arg1 arg3 arg4 arg6 arg7 arg8 arg9 arg10 X1 X3 X4 G9 f10 f6 f7 f8 k.val))
      unfold resAt
      isplitl [H1]; · iexact H1
      isplitl [H3]; · iexact H3
      isplitl [H4]; · iexact H4
      isplitl [H6]; · iexact H6
      isplitl [H7]; · iexact H7
      isplitl [H8]; · iexact H8
      isplitl [H9]; · iexact H9
      iexact H10
    · iintro %r'
      unfold resAt
      iintro ⟨%e, H1, H3, H4, H6, H7, H8, H9, H10⟩
      isplitl [H1]; · iexact H1
      isplitl [H3]; · iexact H3
      isplitl [H4]; · iexact H4
      isplitl [H6]; · iexact H6
      isplitl [H7]; · iexact H7
      isplitl [H8]; · iexact H8
      isplitl [H9]; · iexact H9
      isplitl [H10]; · iexact H10
      ipureintro; exact e

end Trip

end Cert.KernelIdeal.Hand

end
-- ==== Proof.Hand.KOps.lean ====
/-
  What the kernel body computes, as functions of the contents of its operands: the overlap matrix and the keep row
  the suppression loop starts from, the loop's end state, and the three results.
-/
module

public import proofs.«01_k».proof.Proof.Hand.KLoop

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scores row. -/
def k_r (c : Dev nD) (arg1 : Memref sig .tc .vmem S1x1x1024 .f32) (X1 : Buf (Elt F) (arg1.view.loc (c : Thread nD τ))) : FVec F S1x1024 .f32 :=
  k0_pay2 (View.readAt (Elt F) arg1.view (Rect.unit (s := S1x1x1024) ![0, 0, 0] S1x1x1024.size inb_S1x1x1024_S1x1x1024_0_0_0).toLoadRect X1)

def k_r_1 (c : Dev nD) (arg2 : Memref sig .tc .vmem S1x4x1024 .f32) (arg4 : Memref sig .tc .vmem S1x1x1024 .f32) (X2 : Buf (Elt F) (arg2.view.loc (c : Thread nD τ))) (X4 : Buf (Elt F) (arg4.view.loc (c : Thread nD τ))) : FVec F S1x1024 .f32 :=
  k0_pay4 (View.readAt (Elt F) arg4.view (Rect.unit (s := S1x1x1024) ![0, 0, 0] S1x1x1024.size inb_S1x1x1024_S1x1x1024_0_0_0).toLoadRect X4) (View.readAt (Elt F) arg2.view (Rect.unit (s := S1x4x1024) ![0, 0, 0] S1x1x1024.size inb_S1x4x1024_S1x1x1024_0_0_0).toLoadRect X2)

def k_r_2 (c : Dev nD) (arg2 : Memref sig .tc .vmem S1x4x1024 .f32) (arg4 : Memref sig .tc .vmem S1x1x1024 .f32) (X2 : Buf (Elt F) (arg2.view.loc (c : Thread nD τ))) (X4 : Buf (Elt F) (arg4.view.loc (c : Thread nD τ))) : FVec F S1x1024 .f32 :=
  k0_pay5 (View.readAt (Elt F) arg4.view (Rect.unit (s := S1x1x1024) ![0, 0, 0] S1x1x1024.size inb_S1x1x1024_S1x1x1024_0_0_0).toLoadRect X4) (View.readAt (Elt F) arg2.view (Rect.unit (s := S1x4x1024) ![0, 1, 0] S1x1x1024.size inb_S1x4x1024_S1x1x1024_0_1_0).toLoadRect X2)

def k_r_3 (c : Dev nD) (arg2 : Memref sig .tc .vmem S1x4x1024 .f32) (arg4 : Memref sig .tc .vmem S1x1x1024 .f32) (X2 : Buf (Elt F) (arg2.view.loc (c : Thread nD τ))) (X4 : Buf (Elt F) (arg4.view.loc (c : Thread nD τ))) : FVec F S1x1024 .f32 :=
  k0_pay6 (View.readAt (Elt F) arg4.view (Rect.unit (s := S1x1x1024) ![0, 0, 0] S1x1x1024.size inb_S1x1x1024_S1x1x1024_0_0_0).toLoadRect X4) (View.readAt (Elt F) arg2.view (Rect.unit (s := S1x4x1024) ![0, 2, 0] S1x1x1024.size inb_S1x4x1024_S1x1x1024_0_2_0).toLoadRect X2)

def k_r_4 (c : Dev nD) (arg2 : Memref sig .tc .vmem S1x4x1024 .f32) (arg4 : Memref sig .tc .vmem S1x1x1024 .f32) (X2 : Buf (Elt F) (arg2.view.loc (c : Thread nD τ))) (X4 : Buf (Elt F) (arg4.view.loc (c : Thread nD τ))) : FVec F S1x1024 .f32 :=
  k0_pay7 (View.readAt (Elt F) arg4.view (Rect.unit (s := S1x1x1024) ![0, 0, 0] S1x1x1024.size inb_S1x1x1024_S1x1x1024_0_0_0).toLoadRect X4) (View.readAt (Elt F) arg2.view (Rect.unit (s := S1x4x1024) ![0, 3, 0] S1x1x1024.size inb_S1x4x1024_S1x1x1024_0_3_0).toLoadRect X2)

def k_r_5 (c : Dev nD) (arg2 : Memref sig .tc .vmem S1x4x1024 .f32) (arg4 : Memref sig .tc .vmem S1x1x1024 .f32) (X2 : Buf (Elt F) (arg2.view.loc (c : Thread nD τ))) (X4 : Buf (Elt F) (arg4.view.loc (c : Thread nD τ))) : FVec F S1x1024 .f32 :=
  k0_pay8 (View.readAt (Elt F) arg4.view (Rect.unit (s := S1x1x1024) ![0, 0, 0] S1x1x1024.size inb_S1x1x1024_S1x1x1024_0_0_0).toLoadRect X4) (View.readAt (Elt F) arg2.view (Rect.unit (s := S1x4x1024) ![0, 0, 0] S1x1x1024.size inb_S1x4x1024_S1x1x1024_0_0_0).toLoadRect X2) (View.readAt (Elt F) arg2.view (Rect.unit (s := S1x4x1024) ![0, 1, 0] S1x1x1024.size inb_S1x4x1024_S1x1x1024_0_1_0).toLoadRect X2) (View.readAt (Elt F) arg2.view (Rect.unit (s := S1x4x1024) ![0, 2, 0] S1x1x1024.size inb_S1x4x1024_S1x1x1024_0_2_0).toLoadRect X2) (View.readAt (Elt F) arg2.view (Rect.unit (s := S1x4x1024) ![0, 3, 0] S1x1x1024.size inb_S1x4x1024_S1x1x1024_0_3_0).toLoadRect X2)

def k_r_6 (c : Dev nD) (arg5 : Memref sig .tc .vmem S1x1024x1 .f32) (X5 : Buf (Elt F) (arg5.view.loc (c : Thread nD τ))) : FVec F S128x1 .f32 :=
  k0_pay9 (View.readAt (Elt F) arg5.view (Rect.unit (s := S1x1024x1) ![0, 0, 0] S1x128x1.size inb_S1x1024x1_S1x128x1_0_0_0).toLoadRect X5)

def k_r_7 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1 .f32 :=
  k0_pay10 (View.readAt (Elt F) arg5.view (Rect.unit (s := S1x1024x1) ![0, 0, 0] S1x128x1.size inb_S1x1024x1_S1x128x1_0_0_0).toLoadRect X5) (View.readAt (Elt F) arg3.view (Rect.unit (s := S1x1024x4) ![0, 0, 0] S1x128x1.size inb_S1x1024x4_S1x128x1_0_0_0).toLoadRect X3)

def k_r_8 (c : Dev nD) (arg3 : Memref sig .tc .vmem S1x1024x4 .f32) (X3 : Buf (Elt F) (arg3.view.loc (c : Thread nD τ))) : FVec F S128x1 .f32 :=
  k0_pay11 (View.readAt (Elt F) arg3.view (Rect.unit (s := S1x1024x4) ![0, 0, 1] S1x128x1.size inb_S1x1024x4_S1x128x1_0_0_1).toLoadRect X3)

def k_r_9 (c : Dev nD) (arg5 : Memref sig .tc .vmem S1x1024x1 .f32) (X5 : Buf (Elt F) (arg5.view.loc (c : Thread nD τ))) : FVec F S128x1 .f32 :=
  k0_pay13 (View.readAt (Elt F) arg5.view (Rect.unit (s := S1x1024x1) ![0, 128, 0] S1x128x1.size inb_S1x1024x1_S1x128x1_0_128_0).toLoadRect X5)

def k_r_10 (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) : FVec F S128x1024 .f32 :=
  k0_pay14 (k_r_1 c arg2 arg4 X2 X4) (k_r_2 c arg2 arg4 X2 X4) (k_r_3 c arg2 arg4 X2 X4) (k_r_4 c arg2 arg4 X2 X4) (k_r_5 c arg2 arg4 X2 X4) (k_r_9 c arg5 X5) (View.readAt (Elt F) arg3.view (Rect.unit (s := S1x1024x4) ![0, 128, 0] S1x128x1.size inb_S1x1024x4_S1x128x1_0_128_0).toLoadRect X3) (View.readAt (Elt F) arg3.view (Rect.unit (s := S1x1024x4) ![0, 128, 1] S1x128x1.size inb_S1x1024x4_S1x128x1_0_128_1).toLoadRect X3) (View.readAt (Elt F) arg3.view (Rect.unit (s := S1x1024x4) ![0, 128, 2] S1x128x1.size inb_S1x1024x4_S1x128x1_0_128_2).toLoadRect X3) (View.readAt (Elt F) arg3.view (Rect.unit (s := S1x1024x4) ![0, 128, 3] S1x128x1.size inb_S1x1024x4_S1x128x1_0_128_3).toLoadRect X3)

def k_r_11 (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) : FVec F S128x1024 .f32 :=
  k0_pay20 (k_r_1 c arg2 arg4 X2 X4) (k_r_2 c arg2 arg4 X2 X4) (k_r_3 c arg2 arg4 X2 X4) (k_r_4 c arg2 arg4 X2 X4) (View.readAt (Elt F) arg5.view (Rect.unit (s := S1x1024x1) ![0, 256, 0] S1x128x1.size inb_S1x1024x1_S1x128x1_0_256_0).toLoadRect X5) (View.readAt (Elt F) arg3.view (Rect.unit (s := S1x1024x4) ![0, 256, 0] S1x128x1.size inb_S1x1024x4_S1x128x1_0_256_0).toLoadRect X3) (View.readAt (Elt F) arg3.view (Rect.unit (s := S1x1024x4) ![0, 256, 1] S1x128x1.size inb_S1x1024x4_S1x128x1_0_256_1).toLoadRect X3) (View.readAt (Elt F) arg3.view (Rect.unit (s := S1x1024x4) ![0, 256, 2] S1x128x1.size inb_S1x1024x4_S1x128x1_0_256_2).toLoadRect X3) (View.readAt (Elt F) arg3.view (Rect.unit (s := S1x1024x4) ![0, 256, 3] S1x128x1.size inb_S1x1024x4_S1x128x1_0_256_3).toLoadRect X3)

def k_r_12 (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) : FVec F S128x1024 .f32 :=
  k0_pay21 (k_r_5 c arg2 arg4 X2 X4) (View.readAt (Elt F) arg5.view (Rect.unit (s := S1x1024x1) ![0, 256, 0] S1x128x1.size inb_S1x1024x1_S1x128x1_0_256_0).toLoadRect X5) (View.readAt (Elt F) arg3.view (Rect.unit (s := S1x1024x4) ![0, 256, 0] S1x128x1.size inb_S1x1024x4_S1x128x1_0_256_0).toLoadRect X3) (View.readAt (Elt F) arg3.view (Rect.unit (s := S1x1024x4) ![0, 256, 1] S1x128x1.size inb_S1x1024x4_S1x128x1_0_256_1).toLoadRect X3) (View.readAt (Elt F) arg3.view (Rect.unit (s := S1x1024x4) ![0, 256, 2] S1x128x1.size inb_S1x1024x4_S1x128x1_0_256_2).toLoadRect X3) (View.readAt (Elt F) arg3.view (Rect.unit (s := S1x1024x4) ![0, 256, 3] S1x128x1.size inb_S1x1024x4_S1x128x1_0_256_3).toLoadRect X3)

def k_r_13 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1 .f32 :=
  k0_pay28 (View.readAt (Elt F) arg5.view (Rect.unit (s := S1x1024x1) ![0, 384, 0] S1x128x1.size inb_S1x1024x1_S1x128x1_0_384_0).toLoadRect X5) (View.readAt (Elt F) arg3.view (Rect.unit (s := S1x1024x4) ![0, 384, 0] S1x128x1.size inb_S1x1024x4_S1x128x1_0_384_0).toLoadRect X3) (View.readAt (Elt F) arg3.view (Rect.unit (s := S1x1024x4) ![0, 384, 1] S1x128x1.size inb_S1x1024x4_S1x128x1_0_384_1).toLoadRect X3) (View.readAt (Elt F) arg3.view (Rect.unit (s := S1x1024x4) ![0, 384, 2] S1x128x1.size inb_S1x1024x4_S1x128x1_0_384_2).toLoadRect X3) (View.readAt (Elt F) arg3.view (Rect.unit (s := S1x1024x4) ![0, 384, 3] S1x128x1.size inb_S1x1024x4_S1x128x1_0_384_3).toLoadRect X3)

def k_r_14 (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) : FVec F S128x1024 .f32 :=
  k0_pay29 (k_r_2 c arg2 arg4 X2 X4) (View.readAt (Elt F) arg5.view (Rect.unit (s := S1x1024x1) ![0, 384, 0] S1x128x1.size inb_S1x1024x1_S1x128x1_0_384_0).toLoadRect X5) (View.readAt (Elt F) arg3.view (Rect.unit (s := S1x1024x4) ![0, 384, 1] S1x128x1.size inb_S1x1024x4_S1x128x1_0_384_1).toLoadRect X3)

def k_r_15 (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) : FVec F S128x1024 .f32 :=
  k0_pay30 (k_r_4 c arg2 arg4 X2 X4) (View.readAt (Elt F) arg5.view (Rect.unit (s := S1x1024x1) ![0, 384, 0] S1x128x1.size inb_S1x1024x1_S1x128x1_0_384_0).toLoadRect X5) (View.readAt (Elt F) arg3.view (Rect.unit (s := S1x1024x4) ![0, 384, 3] S1x128x1.size inb_S1x1024x4_S1x128x1_0_384_3).toLoadRect X3)

def k_r_16 (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) : FVec F S128x1024 .f32 :=
  k0_pay31 (k_r_1 c arg2 arg4 X2 X4) (k_r_3 c arg2 arg4 X2 X4) (View.readAt (Elt F) arg5.view (Rect.unit (s := S1x1024x1) ![0, 384, 0] S1x128x1.size inb_S1x1024x1_S1x128x1_0_384_0).toLoadRect X5) (View.readAt (Elt F) arg3.view (Rect.unit (s := S1x1024x4) ![0, 384, 0] S1x128x1.size inb_S1x1024x4_S1x128x1_0_384_0).toLoadRect X3) (View.readAt (Elt F) arg3.view (Rect.unit (s := S1x1024x4) ![0, 384, 2] S1x128x1.size inb_S1x1024x4_S1x128x1_0_384_2).toLoadRect X3)

def k_r_17 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1 .f32 :=
  k0_pay36 (View.readAt (Elt F) arg5.view (Rect.unit (s := S1x1024x1) ![0, 512, 0] S1x128x1.size inb_S1x1024x1_S1x128x1_0_512_0).toLoadRect X5) (View.readAt (Elt F) arg3.view (Rect.unit (s := S1x1024x4) ![0, 512, 2] S1x128x1.size inb_S1x1024x4_S1x128x1_0_512_2).toLoadRect X3)

def k_r_18 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1 .f32 :=
  k0_pay37 (View.readAt (Elt F) arg5.view (Rect.unit (s := S1x1024x1) ![0, 512, 0] S1x128x1.size inb_S1x1024x1_S1x128x1_0_512_0).toLoadRect X5) (View.readAt (Elt F) arg3.view (Rect.unit (s := S1x1024x4) ![0, 512, 3] S1x128x1.size inb_S1x1024x4_S1x128x1_0_512_3).toLoadRect X3)

def k_r_19 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1 .f32 :=
  k0_pay38 (View.readAt (Elt F) arg5.view (Rect.unit (s := S1x1024x1) ![0, 512, 0] S1x128x1.size inb_S1x1024x1_S1x128x1_0_512_0).toLoadRect X5) (View.readAt (Elt F) arg3.view (Rect.unit (s := S1x1024x4) ![0, 512, 0] S1x128x1.size inb_S1x1024x4_S1x128x1_0_512_0).toLoadRect X3) (View.readAt (Elt F) arg3.view (Rect.unit (s := S1x1024x4) ![0, 512, 1] S1x128x1.size inb_S1x1024x4_S1x128x1_0_512_1).toLoadRect X3) (View.readAt (Elt F) arg3.view (Rect.unit (s := S1x1024x4) ![0, 512, 2] S1x128x1.size inb_S1x1024x4_S1x128x1_0_512_2).toLoadRect X3) (View.readAt (Elt F) arg3.view (Rect.unit (s := S1x1024x4) ![0, 512, 3] S1x128x1.size inb_S1x1024x4_S1x128x1_0_512_3).toLoadRect X3)

def k_r_20 (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) : FVec F S128x1024 .f32 :=
  k0_pay39 (k_r_1 c arg2 arg4 X2 X4) (View.readAt (Elt F) arg5.view (Rect.unit (s := S1x1024x1) ![0, 512, 0] S1x128x1.size inb_S1x1024x1_S1x128x1_0_512_0).toLoadRect X5) (View.readAt (Elt F) arg3.view (Rect.unit (s := S1x1024x4) ![0, 512, 0] S1x128x1.size inb_S1x1024x4_S1x128x1_0_512_0).toLoadRect X3)

def k_r_21 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1024 .f32 :=
  k0_pay40 (View.readAt (Elt F) arg5.view (Rect.unit (s := S1x1024x1) ![0, 512, 0] S1x128x1.size inb_S1x1024x1_S1x128x1_0_512_0).toLoadRect X5) (View.readAt (Elt F) arg3.view (Rect.unit (s := S1x1024x4) ![0, 512, 1] S1x128x1.size inb_S1x1024x4_S1x128x1_0_512_1).toLoadRect X3)

def k_r_22 (c : Dev nD) (arg5 : Memref sig .tc .vmem S1x1024x1 .f32) (X5 : Buf (Elt F) (arg5.view.loc (c : Thread nD τ))) : FVec F S128x1 .f32 :=
  k0_pay42 (View.readAt (Elt F) arg5.view (Rect.unit (s := S1x1024x1) ![0, 640, 0] S1x128x1.size inb_S1x1024x1_S1x128x1_0_640_0).toLoadRect X5)

def k_r_23 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1 .f32 :=
  k0_pay43 (View.readAt (Elt F) arg5.view (Rect.unit (s := S1x1024x1) ![0, 640, 0] S1x128x1.size inb_S1x1024x1_S1x128x1_0_640_0).toLoadRect X5) (View.readAt (Elt F) arg3.view (Rect.unit (s := S1x1024x4) ![0, 640, 0] S1x128x1.size inb_S1x1024x4_S1x128x1_0_640_0).toLoadRect X3)

def k_r_24 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1 .f32 :=
  k0_pay44 (View.readAt (Elt F) arg5.view (Rect.unit (s := S1x1024x1) ![0, 640, 0] S1x128x1.size inb_S1x1024x1_S1x128x1_0_640_0).toLoadRect X5) (View.readAt (Elt F) arg3.view (Rect.unit (s := S1x1024x4) ![0, 640, 1] S1x128x1.size inb_S1x1024x4_S1x128x1_0_640_1).toLoadRect X3)

def k_r_25 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1 .f32 :=
  k0_pay45 (View.readAt (Elt F) arg5.view (Rect.unit (s := S1x1024x1) ![0, 640, 0] S1x128x1.size inb_S1x1024x1_S1x128x1_0_640_0).toLoadRect X5) (View.readAt (Elt F) arg3.view (Rect.unit (s := S1x1024x4) ![0, 640, 2] S1x128x1.size inb_S1x1024x4_S1x128x1_0_640_2).toLoadRect X3)

def k_r_26 (c : Dev nD) (arg5 : Memref sig .tc .vmem S1x1024x1 .f32) (X5 : Buf (Elt F) (arg5.view.loc (c : Thread nD τ))) : FVec F S128x1 .f32 :=
  k0_pay47 (View.readAt (Elt F) arg5.view (Rect.unit (s := S1x1024x1) ![0, 768, 0] S1x128x1.size inb_S1x1024x1_S1x128x1_0_768_0).toLoadRect X5)

def k_r_27 (c : Dev nD) (arg3 : Memref sig .tc .vmem S1x1024x4 .f32) (arg5 : Memref sig .tc .vmem S1x1024x1 .f32) (X3 : Buf (Elt F) (arg3.view.loc (c : Thread nD τ))) (X5 : Buf (Elt F) (arg5.view.loc (c : Thread nD τ))) : FVec F S128x1 .f32 :=
  k0_pay48 (View.readAt (Elt F) arg5.view (Rect.unit (s := S1x1024x1) ![0, 768, 0] S1x128x1.size inb_S1x1024x1_S1x128x1_0_768_0).toLoadRect X5) (View.readAt (Elt F) arg3.view (Rect.unit (s := S1x1024x4) ![0, 768, 0] S1x128x1.size inb_S1x1024x4_S1x128x1_0_768_0).toLoadRect X3)

def k_r_28 (c : Dev nD) (arg3 : Memref sig .tc .vmem S1x1024x4 .f32) (X3 : Buf (Elt F) (arg3.view.loc (c : Thread nD τ))) : FVec F S128x1 .f32 :=
  k0_pay49 (View.readAt (Elt F) arg3.view (Rect.unit (s := S1x1024x4) ![0, 768, 1] S1x128x1.size inb_S1x1024x4_S1x128x1_0_768_1).toLoadRect X3)

def k_r_29 (c : Dev nD) (arg5 : Memref sig .tc .vmem S1x1024x1 .f32) (X5 : Buf (Elt F) (arg5.view.loc (c : Thread nD τ))) : FVec F S128x1 .f32 :=
  k0_pay51 (View.readAt (Elt F) arg5.view (Rect.unit (s := S1x1024x1) ![0, 896, 0] S1x128x1.size inb_S1x1024x1_S1x128x1_0_896_0).toLoadRect X5)

def k_r_30 (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) : FVec F S128x1024 .f32 :=
  k0_pay52 (k_r_1 c arg2 arg4 X2 X4) (k_r_2 c arg2 arg4 X2 X4) (k_r_3 c arg2 arg4 X2 X4) (k_r_4 c arg2 arg4 X2 X4) (k_r_5 c arg2 arg4 X2 X4) (k_r_29 c arg5 X5) (View.readAt (Elt F) arg3.view (Rect.unit (s := S1x1024x4) ![0, 896, 0] S1x128x1.size inb_S1x1024x4_S1x128x1_0_896_0).toLoadRect X3) (View.readAt (Elt F) arg3.view (Rect.unit (s := S1x1024x4) ![0, 896, 1] S1x128x1.size inb_S1x1024x4_S1x128x1_0_896_1).toLoadRect X3) (View.readAt (Elt F) arg3.view (Rect.unit (s := S1x1024x4) ![0, 896, 2] S1x128x1.size inb_S1x1024x4_S1x128x1_0_896_2).toLoadRect X3) (View.readAt (Elt F) arg3.view (Rect.unit (s := S1x1024x4) ![0, 896, 3] S1x128x1.size inb_S1x1024x4_S1x128x1_0_896_3).toLoadRect X3)

def k_cst_90 : F .f32 :=
  FloatOps.ofBits FTy.f32 0#32

def k_H6_1 : List (View.Piece (Elt F) S1x300x4 .f32) :=
  [⟨Rect.unit (s := S1x300x4) ![0, 0, 0] S1x300x4.size inb_S1x300x4_S1x300x4_0_0_0, k0_pay54⟩]

def k_H7_1 : List (View.Piece (Elt F) S1x300x1 .f32) :=
  [⟨Rect.unit (s := S1x300x1) ![0, 0, 0] S1x300x1.size inb_S1x300x1_S1x300x1_0_0_0, k0_pay55⟩]

def k_H8_1 : List (View.Piece (Elt F) S1x300x1 .f32) :=
  [⟨Rect.unit (s := S1x300x1) ![0, 0, 0] S1x300x1.size inb_S1x300x1_S1x300x1_0_0_0, k0_pay56⟩]

/-- What the body stores into the overlap matrix, the latest first. -/
def k_H9_8 (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) : List (View.Piece (Elt F) S1024x1024 .f32) :=
  [⟨Rect.unit (s := S1024x1024) ![896, 0] S128x1024.size inb_S1024x1024_S128x1024_896_0, k_r_30 c arg2 arg3 arg4 arg5 X2 X3 X4 X5⟩,
   ⟨Rect.unit (s := S1024x1024) ![768, 0] S128x1024.size inb_S1024x1024_S128x1024_768_0, k0_pay50 (k_r_1 c arg2 arg4 X2 X4) (k_r_2 c arg2 arg4 X2 X4) (k_r_3 c arg2 arg4 X2 X4) (k_r_4 c arg2 arg4 X2 X4) (k_r_5 c arg2 arg4 X2 X4) (k_r_26 c arg5 X5) (k_r_27 c arg3 arg5 X3 X5) (k_r_28 c arg3 X3) (View.readAt (Elt F) arg3.view (Rect.unit (s := S1x1024x4) ![0, 768, 2] S1x128x1.size inb_S1x1024x4_S1x128x1_0_768_2).toLoadRect X3) (View.readAt (Elt F) arg3.view (Rect.unit (s := S1x1024x4) ![0, 768, 3] S1x128x1.size inb_S1x1024x4_S1x128x1_0_768_3).toLoadRect X3)⟩,
   ⟨Rect.unit (s := S1024x1024) ![640, 0] S128x1024.size inb_S1024x1024_S128x1024_640_0, k0_pay46 (k_r_1 c arg2 arg4 X2 X4) (k_r_2 c arg2 arg4 X2 X4) (k_r_3 c arg2 arg4 X2 X4) (k_r_4 c arg2 arg4 X2 X4) (k_r_5 c arg2 arg4 X2 X4) (k_r_22 c arg5 X5) (k_r_23 c arg3 arg5 X3 X5) (k_r_24 c arg3 arg5 X3 X5) (k_r_25 c arg3 arg5 X3 X5) (View.readAt (Elt F) arg3.view (Rect.unit (s := S1x1024x4) ![0, 640, 3] S1x128x1.size inb_S1x1024x4_S1x128x1_0_640_3).toLoadRect X3)⟩,
   ⟨Rect.unit (s := S1024x1024) ![512, 0] S128x1024.size inb_S1024x1024_S128x1024_512_0, k0_pay41 (k_r_2 c arg2 arg4 X2 X4) (k_r_3 c arg2 arg4 X2 X4) (k_r_4 c arg2 arg4 X2 X4) (k_r_5 c arg2 arg4 X2 X4) (k_r_17 c arg3 arg5 X3 X5) (k_r_18 c arg3 arg5 X3 X5) (k_r_19 c arg3 arg5 X3 X5) (k_r_20 c arg2 arg3 arg4 arg5 X2 X3 X4 X5) (k_r_21 c arg3 arg5 X3 X5)⟩,
   ⟨Rect.unit (s := S1024x1024) ![384, 0] S128x1024.size inb_S1024x1024_S128x1024_384_0, k0_pay32 (k_r_5 c arg2 arg4 X2 X4) (k_r_13 c arg3 arg5 X3 X5) (k_r_14 c arg2 arg3 arg4 arg5 X2 X3 X4 X5) (k_r_15 c arg2 arg3 arg4 arg5 X2 X3 X4 X5) (k_r_16 c arg2 arg3 arg4 arg5 X2 X3 X4 X5) k_cst_90⟩,
   ⟨Rect.unit (s := S1024x1024) ![256, 0] S128x1024.size inb_S1024x1024_S128x1024_256_0, k0_pay22 (k_r_11 c arg2 arg3 arg4 arg5 X2 X3 X4 X5) (k_r_12 c arg2 arg3 arg4 arg5 X2 X3 X4 X5)⟩,
   ⟨Rect.unit (s := S1024x1024) ![128, 0] S128x1024.size inb_S1024x1024_S128x1024_128_0, k_r_10 c arg2 arg3 arg4 arg5 X2 X3 X4 X5⟩,
   ⟨Rect.unit (s := S1024x1024) ![0, 0] S128x1024.size inb_S1024x1024_S128x1024_0_0, k0_pay12 (k_r_1 c arg2 arg4 X2 X4) (k_r_2 c arg2 arg4 X2 X4) (k_r_3 c arg2 arg4 X2 X4) (k_r_4 c arg2 arg4 X2 X4) (k_r_5 c arg2 arg4 X2 X4) (k_r_6 c arg5 X5) (k_r_7 c arg3 arg5 X3 X5) (k_r_8 c arg3 X3) (View.readAt (Elt F) arg3.view (Rect.unit (s := S1x1024x4) ![0, 0, 2] S1x128x1.size inb_S1x1024x4_S1x128x1_0_0_2).toLoadRect X3) (View.readAt (Elt F) arg3.view (Rect.unit (s := S1x1024x4) ![0, 0, 3] S1x128x1.size inb_S1x1024x4_S1x128x1_0_0_3).toLoadRect X3)⟩]

/-- What the body stores into the keep row before the loop. -/
def k_H10_1 (c : Dev nD) (arg1 : Memref sig .tc .vmem S1x1x1024 .f32) (X1 : Buf (Elt F) (arg1.view.loc (c : Thread nD τ))) : List (View.Piece (Elt F) S1x1024 .f32) :=
  [⟨Rect.unit (s := S1x1024) ![0, 0] S1x1024.size inb_S1x1024_S1x1024_0_0, k0_pay53 (k_r c arg1 X1)⟩]

section Body

variable (c : Dev nD)
  (arg1 : Memref sig .tc .vmem S1x1x1024 .f32) (arg2 : Memref sig .tc .vmem S1x4x1024 .f32)
  (arg3 : Memref sig .tc .vmem S1x1024x4 .f32) (arg4 : Memref sig .tc .vmem S1x1x1024 .f32)
  (arg5 : Memref sig .tc .vmem S1x1024x1 .f32) (arg6 : Memref sig .tc .vmem S1x300x4 .f32)
  (arg7 : Memref sig .tc .vmem S1x300x1 .f32) (arg8 : Memref sig .tc .vmem S1x300x1 .f32)
  (arg9 : Memref sig .tc .vmem S1024x1024 .f32) (arg10 : Memref sig .tc .vmem S1x1024 .f32)
  (X1 : Buf (Elt F) (arg1.view.loc (c : Thread nD τ))) (X2 : Buf (Elt F) (arg2.view.loc (c : Thread nD τ)))
  (X3 : Buf (Elt F) (arg3.view.loc (c : Thread nD τ)))
  (X4 : Buf (Elt F) (arg4.view.loc (c : Thread nD τ))) (X5 : Buf (Elt F) (arg5.view.loc (c : Thread nD τ)))

/-- The overlap matrix. -/
def iouB (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32)
    (arg9 : Memref sig .tc .vmem S1024x1024 .f32) (X2 : Buf (Elt F) (arg2.view.loc (c : Thread nD τ))) (X3 : Buf (Elt F) (arg3.view.loc (c : Thread nD τ)))
    (X4 : Buf (Elt F) (arg4.view.loc (c : Thread nD τ))) (X5 : Buf (Elt F) (arg5.view.loc (c : Thread nD τ))) : Buf (Elt F) (arg9.view.loc (c : Thread nD τ)) :=
  arg9.view.writes (Elt F) arg9.view.junk (k_H9_8 c arg2 arg3 arg4 arg5 X2 X3 X4 X5)

/-- The loop's state before trip `k`. -/
def lst (k : ℕ) : St (F := F) c arg6 arg7 arg8 arg10 :=
  stAt c arg1 arg3 arg4 arg6 arg7 arg8 arg9 arg10 X1 X3 X4 (iouB c arg2 arg3 arg4 arg5 arg9 X2 X3 X4 X5)
    (entry c arg6 arg7 arg8 arg10 (arg10.view.writes (Elt F) arg10.view.junk (k_H10_1 c arg1 X1)) (arg6.view.writes (Elt F) arg6.view.junk k_H6_1)
      (arg7.view.writes (Elt F) arg7.view.junk k_H7_1) (arg8.view.writes (Elt F) arg8.view.junk k_H8_1)) k

/-- What the three result windows hold after the loop. -/
def lb : S1x300x4.Idx → Elt F .f32 := arg6.view.readAt (Elt F) (Rect.unit (s := S1x300x4) ![0, 0, 0] S1x300x4.size inb_S1x300x4_S1x300x4_0_0_0).toLoadRect (lst c arg1 arg2 arg3 arg4 arg5 arg6 arg7 arg8 arg9 arg10 X1 X2 X3 X4 X5 k0_t1_loop.trips).ob
def ls : S1x300x1.Idx → Elt F .f32 := arg7.view.readAt (Elt F) (Rect.unit (s := S1x300x1) ![0, 0, 0] S1x300x1.size inb_S1x300x1_S1x300x1_0_0_0).toLoadRect (lst c arg1 arg2 arg3 arg4 arg5 arg6 arg7 arg8 arg9 arg10 X1 X2 X3 X4 X5 k0_t1_loop.trips).os
def ll : S1x300x1.Idx → Elt F .f32 := arg8.view.readAt (Elt F) (Rect.unit (s := S1x300x1) ![0, 0, 0] S1x300x1.size inb_S1x300x1_S1x300x1_0_0_0).toLoadRect (lst c arg1 arg2 arg3 arg4 arg5 arg6 arg7 arg8 arg9 arg10 X1 X2 X3 X4 X5 k0_t1_loop.trips).ol

/-- The boxes the body leaves. -/
def o6 : Buf (Elt F) (arg6.view.loc (c : Thread nD τ)) :=
  arg6.view.writes (Elt F) (lst c arg1 arg2 arg3 arg4 arg5 arg6 arg7 arg8 arg9 arg10 X1 X2 X3 X4 X5 k0_t1_loop.trips).ob [⟨Rect.unit (s := S1x300x4) ![0, 0, 0] S1x300x4.size inb_S1x300x4_S1x300x4_0_0_0,
    k0_pay72 (k0_pay63 (lb c arg1 arg2 arg3 arg4 arg5 arg6 arg7 arg8 arg9 arg10 X1 X2 X3 X4 X5)) k0_pay64 (ls c arg1 arg2 arg3 arg4 arg5 arg6 arg7 arg8 arg9 arg10 X1 X2 X3 X4 X5)⟩]
/-- The scores the body leaves. -/
def o7 : Buf (Elt F) (arg7.view.loc (c : Thread nD τ)) :=
  arg7.view.writes (Elt F) (lst c arg1 arg2 arg3 arg4 arg5 arg6 arg7 arg8 arg9 arg10 X1 X2 X3 X4 X5 k0_t1_loop.trips).os [⟨Rect.unit (s := S1x300x1) ![0, 0, 0] S1x300x1.size inb_S1x300x1_S1x300x1_0_0_0,
    k0_pay73 (k0_pay63 (lb c arg1 arg2 arg3 arg4 arg5 arg6 arg7 arg8 arg9 arg10 X1 X2 X3 X4 X5)) k0_pay64 (ls c arg1 arg2 arg3 arg4 arg5 arg6 arg7 arg8 arg9 arg10 X1 X2 X3 X4 X5)⟩]
/-- The labels the body leaves. -/
def o8 : Buf (Elt F) (arg8.view.loc (c : Thread nD τ)) :=
  arg8.view.writes (Elt F) (lst c arg1 arg2 arg3 arg4 arg5 arg6 arg7 arg8 arg9 arg10 X1 X2 X3 X4 X5 k0_t1_loop.trips).ol [⟨Rect.unit (s := S1x300x1) ![0, 0, 0] S1x300x1.size inb_S1x300x1_S1x300x1_0_0_0,
    k0_pay1 (k0_pay71 (k0_pay63 (lb c arg1 arg2 arg3 arg4 arg5 arg6 arg7 arg8 arg9 arg10 X1 X2 X3 X4 X5)) k0_pay64 (ls c arg1 arg2 arg3 arg4 arg5 arg6 arg7 arg8 arg9 arg10 X1 X2 X3 X4 X5)) (FloatOps.ofBits .f32 1100480512#32) (k0_pay74 (ll c arg1 arg2 arg3 arg4 arg5 arg6 arg7 arg8 arg9 arg10 X1 X2 X3 X4 X5))⟩]

end Body

end Cert.KernelIdeal.Hand

end
-- ==== Proof.Hand.KBody.lean ====
/-
  The kernel body run once at symbolic operands.
-/
module

public import proofs.«01_k».proof.Proof.Hand.KOps

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .vmem S1x1x1024 .f32) (harg1 : arg1.IsWhole) (arg2 : Memref sig .tc .vmem S1x4x1024 .f32) (harg2 : arg2.IsWhole)
  (arg3 : Memref sig .tc .vmem S1x1024x4 .f32) (harg3 : arg3.IsWhole) (arg4 : Memref sig .tc .vmem S1x1x1024 .f32) (harg4 : arg4.IsWhole)
  (arg5 : Memref sig .tc .vmem S1x1024x1 .f32) (harg5 : arg5.IsWhole) (arg6 : Memref sig .tc .vmem S1x300x4 .f32) (harg6 : arg6.IsWhole)
  (arg7 : Memref sig .tc .vmem S1x300x1 .f32) (harg7 : arg7.IsWhole) (arg8 : Memref sig .tc .vmem S1x300x1 .f32) (harg8 : arg8.IsWhole)
  (arg9 : Memref sig .tc .vmem S1024x1024 .f32) (harg9 : arg9.IsWhole) (arg10 : Memref sig .tc .vmem S1x1024 .f32) (harg10 : arg10.IsWhole)
  (X1 : Buf (Elt F) (arg1.view.loc (c : Thread nD τ))) (X2 : Buf (Elt F) (arg2.view.loc (c : Thread nD τ)))
  (X3 : Buf (Elt F) (arg3.view.loc (c : Thread nD τ)))
  (X4 : Buf (Elt F) (arg4.view.loc (c : Thread nD τ))) (X5 : Buf (Elt F) (arg5.view.loc (c : Thread nD τ)))
  (G6 : Buf (Elt F) (arg6.view.loc (c : Thread nD τ))) (G7 : Buf (Elt F) (arg7.view.loc (c : Thread nD τ)))
  (G8 : Buf (Elt F) (arg8.view.loc (c : Thread nD τ))) (G9 : Buf (Elt F) (arg9.view.loc (c : Thread nD τ)))
  (G10 : Buf (Elt F) (arg10.view.loc (c : Thread nD τ)))

/-- The buffers the body works on. -/
def resAll (G6 : Buf (Elt F) (arg6.view.loc (c : Thread nD τ))) (G7 : Buf (Elt F) (arg7.view.loc (c : Thread nD τ)))
    (G8 : Buf (Elt F) (arg8.view.loc (c : Thread nD τ))) (G9 : Buf (Elt F) (arg9.view.loc (c : Thread nD τ)))
    (G10 : Buf (Elt F) (arg10.view.loc (c : Thread nD τ))) : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} G6)
    ∗ (arg7.view.loc (c : Thread nD τ) ↦[arg7.view.set]{fullShare} G7)
    ∗ (arg8.view.loc (c : Thread nD τ) ↦[arg8.view.set]{fullShare} G8)
    ∗ (arg9.view.loc (c : Thread nD τ) ↦[arg9.view.set]{fullShare} G9)
    ∗ (arg10.view.loc (c : Thread nD τ) ↦[arg10.view.set]{fullShare} G10))

set_option maxHeartbeats 1000000 in
set_option backward.proofsInPublic true in
theorem bodyRun :
  resAll c arg1 arg2 arg3 arg4 arg5 arg6 arg7 arg8 arg9 arg10 X1 X2 X3 X4 X5 G6 G7 G8 G9 G10
    ⊢ wp frame (wpE (defs₀ (F := F)) 𝒱₀ (c : Thread nD τ) none) Set.univ
        (cc0__nms_kernel (F := F) i arg1 harg1 arg2 harg2 arg3 harg3 arg4 harg4 arg5 harg5 arg6 harg6 arg7 harg7 arg8 harg8 arg9 harg9 arg10 harg10)
        (fun _ => resAll c arg1 arg2 arg3 arg4 arg5 arg6 arg7 arg8 arg9 arg10 X1 X2 X3 X4 X5 (o6 c arg1 arg2 arg3 arg4 arg5 arg6 arg7 arg8 arg9 arg10 X1 X2 X3 X4 X5) (o7 c arg1 arg2 arg3 arg4 arg5 arg6 arg7 arg8 arg9 arg10 X1 X2 X3 X4 X5) (o8 c arg1 arg2 arg3 arg4 arg5 arg6 arg7 arg8 arg9 arg10 X1 X2 X3 X4 X5)
          (iouB c arg2 arg3 arg4 arg5 arg9 X2 X3 X4 X5) (lst c arg1 arg2 arg3 arg4 arg5 arg6 arg7 arg8 arg9 arg10 X1 X2 X3 X4 X5 k0_t1_loop.trips).keep) := by
  unfold resAll
  iintro ⟨H1, H2, H3, H4, H5, H6, H7, H8, H9, H10⟩
  sl_exec
  sl_for (linv c arg1 arg3 arg4 arg6 arg7 arg8 arg9 arg10 X1 X3 X4
    (arg9.view.writes (Elt F) arg9.view.junk (bodyRun.sl.H9_8 c arg2 arg3 arg4 arg5 X2 X3 X4 X5))
    (arg10.view.writes (Elt F) arg10.view.junk (bodyRun.sl.H10_1 c arg1 X1))
    (arg6.view.writes (Elt F) arg6.view.junk bodyRun.sl.H6_1)
    (arg7.view.writes (Elt F) arg7.view.junk bodyRun.sl.H7_1)
    (arg8.view.writes (Elt F) arg8.view.junk bodyRun.sl.H8_1)) $$ [H1 H3 H4 H6 H7 H8 H9 H10]
  case region =>
    intro k acc
    exact linv_step c i arg1 harg1 arg2 harg2 arg3 harg3 arg4 harg4 arg5 harg5 arg6 harg6 arg7 harg7 arg8 harg8 arg9 harg9 arg10 harg10 _ _ X1 X3 X4 _ _ _ _ _ k acc
  · unfold linv
    simp only [stAt_zero]
    isplitl [H1]; · iexact H1
    isplitl [H3]; · iexact H3
    isplitl [H4]; · iexact H4
    isplitl [H6]; · iexact H6
    isplitl [H7]; · iexact H7
    isplitl [H8]; · iexact H8
    isplitl [H9]; · iexact H9
    isplitl [H10]; · iexact H10
    ipureintro; trivial
  iintro %acc HI
  unfold linv
  icases HI with ⟨H1, H3, H4, H6, H7, H8, H9, H10, -⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Body

end Cert.KernelIdeal.Hand

end
-- ==== Proof.Hand.KRun.lean ====
/-
  The run of the kernel: the proof data of its pipeline, the body's obligation at each grid point, and what a run
  leaves in memory.
-/
module

public import proofs.«01_k».proof.Proof.Hand.KBody

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of an input window, holding its block. -/
abbrev S0 (c : Dev nD) (t : Fin cfg0.N) := (st0_0 t).view.rep (iblk m c 0 t)
abbrev S1 (c : Dev nD) (t : Fin cfg0.N) := (st0_1 t).view.rep (iblk m c 1 t)
abbrev S2 (c : Dev nD) (t : Fin cfg0.N) := (st0_2 t).view.rep (iblk m c 2 t)
abbrev S3 (c : Dev nD) (t : Fin cfg0.N) := (st0_3 t).view.rep (iblk m c 3 t)
abbrev S4 (c : Dev nD) (t : Fin cfg0.N) := (st0_4 t).view.rep (iblk m c 4 t)

/-- What the body leaves in the result windows at point `t`. -/
def oblk5 (c : Dev nD) (t : Fin cfg0.N) : (cfg0.win 5).block.Idx → Elt F (cfg0.win 5).elt :=
  (st0_5 t).view.read (Elt F) (o6 c (st0_0 t) (st0_1 t) (st0_2 t) (st0_3 t) (st0_4 t) (st0_5 t) (st0_6 t) (st0_7 t) (Memref.whole cc0_scratch0) (Memref.whole cc0_scratch1)
    (S0 m c t) (S1 m c t) (S2 m c t) (S3 m c t) (S4 m c t))
def oblk6 (c : Dev nD) (t : Fin cfg0.N) : (cfg0.win 6).block.Idx → Elt F (cfg0.win 6).elt :=
  (st0_6 t).view.read (Elt F) (o7 c (st0_0 t) (st0_1 t) (st0_2 t) (st0_3 t) (st0_4 t) (st0_5 t) (st0_6 t) (st0_7 t) (Memref.whole cc0_scratch0) (Memref.whole cc0_scratch1)
    (S0 m c t) (S1 m c t) (S2 m c t) (S3 m c t) (S4 m c t))
def oblk7 (c : Dev nD) (t : Fin cfg0.N) : (cfg0.win 7).block.Idx → Elt F (cfg0.win 7).elt :=
  (st0_7 t).view.read (Elt F) (o8 c (st0_0 t) (st0_1 t) (st0_2 t) (st0_3 t) (st0_4 t) (st0_5 t) (st0_6 t) (st0_7 t) (Memref.whole cc0_scratch0) (Memref.whole cc0_scratch1)
    (S0 m c t) (S1 m c t) (S2 m c t) (S3 m c t) (S4 m c t))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oblk5 m c t
    | ⟨6, _⟩ => oblk6 m c t
    | ⟨7, _⟩ => oblk7 m c t
  Φ _ := Pipeline.ΦA spec0 c
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = oblk5 m c t := by dsimp only [dats]
theorem after_w6 (c : Dev nD) (t : Fin cfg0.N) : (dats m 0 c).after 6 t = oblk6 m c t := by dsimp only [dats]
theorem after_w7 (c : Dev nD) (t : Fin cfg0.N) : (dats m 0 c).after 7 t = oblk7 m c t := by dsimp only [dats]
theorem before_w0 (c : Dev nD) (t : Fin cfg0.N) (d) : (dats m 0 c).before 0 t d = iblk m c 0 t :=
  before0_0_of m (dats m 0 c) (by dsimp only [dats]) (after_w0 m c) t d
theorem before_w1 (c : Dev nD) (t : Fin cfg0.N) (d) : (dats m 0 c).before 1 t d = iblk m c 1 t :=
  before0_1_of m (dats m 0 c) (by dsimp only [dats]) (after_w1 m c) t d
theorem before_w2 (c : Dev nD) (t : Fin cfg0.N) (d) : (dats m 0 c).before 2 t d = iblk m c 2 t :=
  before0_2_of m (dats m 0 c) (by dsimp only [dats]) (after_w2 m c) t d
theorem before_w3 (c : Dev nD) (t : Fin cfg0.N) (d) : (dats m 0 c).before 3 t d = iblk m c 3 t :=
  before0_3_of m (dats m 0 c) (by dsimp only [dats]) (after_w3 m c) t d
theorem before_w4 (c : Dev nD) (t : Fin cfg0.N) (d) : (dats m 0 c).before 4 t d = iblk m c 4 t :=
  before0_4_of m (dats m 0 c) (by dsimp only [dats]) (after_w4 m c) t d

theorem defs_tc : (defs₀ (F := F)) .tc cfg0.body
    = fun a => cc0__nms_kernel (grid0.coords a.1) (win0_0.stage (a.2 0)) (hstage0_0 ((a.2 0).cast nbuf0_0)) (win0_1.stage (a.2 1)) (hstage0_1 ((a.2 1).cast nbuf0_1))
      (win0_2.stage (a.2 2)) (hstage0_2 ((a.2 2).cast nbuf0_2)) (win0_3.stage (a.2 3)) (hstage0_3 ((a.2 3).cast nbuf0_3))
      (win0_4.stage (a.2 4)) (hstage0_4 ((a.2 4).cast nbuf0_4)) (win0_5.stage (a.2 5)) (hstage0_5 ((a.2 5).cast nbuf0_5))
      (win0_6.stage (a.2 6)) (hstage0_6 ((a.2 6).cast nbuf0_6)) (win0_7.stage (a.2 7)) (hstage0_7 ((a.2 7).cast nbuf0_7))
      (Memref.whole cc0_scratch0) (Memref.isWhole_whole _) (Memref.whole cc0_scratch1) (Memref.isWhole_whole _) := rfl
theorem prog_eq (t : Fin cfg0.N) : (defs₀ (F := F)) .tc cfg0.body (cfg0.bodyArgs t (cfg0.slots t)) = bodyAt0 t :=
  (congrFun defs_tc _).trans rfl

theorem scI_set : (Memref.whole (cc0_scratch0 : Ref sig .tc)).view.set = Finset.univ := View.set_whole _
theorem scK_set : (Memref.whole (cc0_scratch1 : Ref sig .tc)).view.set = Finset.univ := View.set_whole _

set_option maxHeartbeats 1000000 in
set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, after_w0, after_w1, after_w2, after_w3, after_w4, after_w5, after_w6, after_w7]
  rw [show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  unfold owns Pipeline.ΦA
  rw [scopedRest0_eq]
  iintro ⟨⟨⟨⟨%gI, HI⟩, ⟨%gK, HK⟩⟩, Hr⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, -, H5⟩, ⟨%d6, %g6, -, H6⟩, ⟨%d7, %g7, -, H7⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  ihave H3' := (pointsTo_rep_entails (c : Thread nD τ) (st0_3 t) g3 fullShare) $$ H3
  ihave H4' := (pointsTo_rep_entails (c : Thread nD τ) (st0_4 t) g4 fullShare) $$ H4
  rw [hg0, hg1, hg2, hg3, hg4]
  sl_rw [prog_eq t]
  iapply (wp_wand_r Idealize.ShloMosaic.frame (wpE (defs₀ (F := F)) 𝒱₀ (c : Thread nD τ) none) Set.univ)
  isplitl [H0' H1' H2' H3' H4' H5 H6 H7 HI HK]
  · iapply (bodyRun c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (st0_6 t) (hstage0_6 ((cfg0.slots t 6).cast nbuf0_6)) (st0_7 t) (hstage0_7 ((cfg0.slots t 7).cast nbuf0_7))
      (Memref.whole cc0_scratch0) (Memref.isWhole_whole _) (Memref.whole cc0_scratch1) (Memref.isWhole_whole _)
      (S0 m c t) (S1 m c t) (S2 m c t) (S3 m c t) (S4 m c t) g5 g6 g7 gI gK)
    unfold resAll
    isplitl [H0']; · iexact H0'
    isplitl [H1']; · iexact H1'
    isplitl [H2']; · iexact H2'
    isplitl [H3']; · iexact H3'
    isplitl [H4']; · iexact H4'
    isplitl [H5]; · iexact H5
    isplitl [H6]; · iexact H6
    isplitl [H7]; · iexact H7
    isplitl [HI]; · rw [scI_set]; iexact HI
    rw [scK_set]; iexact HK
  · iintro %u
    unfold resAll
    iintro ⟨H0, H1, H2, H3, H4, H5, H6, H7, HI, HK⟩
    isplitl [HI HK Hr]
    · isplitl [HI HK]
      · isplitl [HI]
        · iexists _; rw [← scI_set]; iexact HI
        · iexists _; rw [← scK_set]; iexact HK
      iexact Hr
    isplitl [HW]
    · iexists W; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; rfl
      iexact H5
    isplitl [H6]
    · iexists _; isplitr; · ipureintro; rfl
      iexact H6
    iexists _; isplitr; · ipureintro; rfl
    iexact H7

/-- What a run leaves: the windows' arrays at their final contents, every other buffer as the host lines leave it, and
    every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ 𝒱₀ m ρ main
    (hbody := fun c => (body_obligation m c).loose) (hshare := fun c => (dats m 0 c).share_full fun _ => rfl) (howed := fun _ _ => rfl)
    (V₀ := V0 m) [hostOps1] sfx_sub sfx_fresh sfx_keeps (hmain m 𝒱₀) (fun _ _ => rfl) (fun _ _ => rfl)
    (Q' := fun r => Pipeline.FramePost cfgs (dats m) 0 (Pipeline.afterTail₀ cfgs (dats m) 0 (V0 m) [hostOps1]) r ∧ r.2.sem = fun _ => 0)
    (fun _ h => h)

/-- The arguments end as launched and every counter ends at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c))⟩, h.2⟩) (run_main m ρ)

end Cert.KernelIdeal.Hand

end
-- ==== Proof.Hand.RFrame.lean ====
/-
  The reference's run: a buffer its loop does not write keeps what it held at the loop's entry, and the arguments and
  the counters are as they were.
-/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ)

/-- A buffer that neither the condition nor the body writes is, before every trip, as at the loop's entry. -/
theorem atK_keep (c : Dev nD) (r : Ref sig .tc) (hb : r ∉ while0Ops0_W) (hc : r ∉ condOps_W) (k : ℕ) :
    atK m k c (Proc.devRef .tc r) = entryContents preI m c (Proc.devRef .tc r) := by
  induction k with
  | zero => rfl
  | succ k ih =>
    rw [show atK m (k + 1) c = afterL bodyI (after condOps (atK m k c)) from rfl]
    show after while0Ops0 (after condOps (atK m k c)) _ = _
    rw [after_of_writes_sub while0Ops0 _ while0Ops0_writes hb, after_of_writes_sub condOps _ condOps_writes hc, ih]

/-- The contents just after the loop. -/
def loopEnd (c : Dev nD) : Valuation τ sig (Elt F) := after condOps (atK m 1024 c)

theorem loopEnd_keep (c : Dev nD) (r : Ref sig .tc) (hb : r ∉ while0Ops0_W) (hc : r ∉ condOps_W) :
    loopEnd m c (Proc.devRef .tc r) = entryContents preI m c (Proc.devRef .tc r) := by
  rw [loopEnd, after_of_writes_sub condOps _ condOps_writes hc, atK_keep m c r hb hc]

theorem final_eq (c : Dev nD) : finalContents condOps preI bodyI postI 1024 m c = afterL postI (loopEnd m c) := rfl

theorem final_arg0 (c : Dev nD) : finalContents condOps preI bodyI postI 1024 m c (Proc.devRef .tc main_arg0)
    = m ((c.tc : Thread nD τ).loc main_arg0) := by
  rw [final_eq]
  simp only [afterL_cons, afterL_nil]
  after_reads_simp
  rw [loopEnd_keep m c main_arg0 (by decide +kernel) (by decide +kernel)]
  simp only [entryContents, afterL_cons, afterL_nil]
  after_reads_simp

theorem final_arg1 (c : Dev nD) : finalContents condOps preI bodyI postI 1024 m c (Proc.devRef .tc main_arg1)
    = m ((c.tc : Thread nD τ).loc main_arg1) := by
  rw [final_eq]
  simp only [afterL_cons, afterL_nil]
  after_reads_simp
  rw [loopEnd_keep m c main_arg1 (by decide +kernel) (by decide +kernel)]
  simp only [entryContents, afterL_cons, afterL_nil]
  after_reads_simp

theorem final_arg2 (c : Dev nD) : finalContents condOps preI bodyI postI 1024 m c (Proc.devRef .tc main_arg2)
    = m ((c.tc : Thread nD τ).loc main_arg2) := by
  rw [final_eq]
  simp only [afterL_cons, afterL_nil]
  after_reads_simp
  rw [loopEnd_keep m c main_arg2 (by decide +kernel) (by decide +kernel)]
  simp only [entryContents, afterL_cons, afterL_nil]
  after_reads_simp

/-- The reference terminates with its arguments and its counters as they were. -/
theorem run_frame (ρ : Dev nD → PrngReg) : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 rfl).trans (final_arg0 m c),
      (h c main_arg1 rfl).trans (final_arg1 m c), (h c main_arg2 rfl).trans (final_arg2 m c)⟩,
      Idealize.ShloMosaic.sem_eq_zero_of_no_sems (by decide) r.2⟩) (run_fold (F := F) m ρ)

end Cert.ReferenceIdeal.Hand

end
-- ==== Proof.Hand.Nms.lean ====
/-
  Greedy suppression over a list of candidates, and its agreement with a stable sort of the masked scores.

  `kp k j`: candidate `j` is still kept before step `k`. `cnt k`: how many candidates before `k` are finally kept.
  `tbl k r`: the candidate that the first `k` steps put in row `r`. A stable sort of the scores, in which a candidate
  that is not kept has the score `−1`, puts the kept candidate of rank `r` at position `r`.
-/
module

public import Idealize.ShloMosaic.Lib.SortPrefix
public import Idealize.ShloMosaic.Lib.SortFacts
public import Mathlib.Data.EReal.Basic
public import Mathlib.Data.Fintype.Card
public import Mathlib.Order.Interval.Finset.Fin

@[expose] public section

noncomputable section

namespace Cert.Nms

open Idealize.ShloMosaic

variable {n : ℕ}

/-! ## A stable sort by a key is a sort by the key and then the position -/

theorem insertBefore_tie (R B : Fin n → Fin n → Bool) (hRB : ∀ a b, b < a → R a b = B a b) (a : Fin n) (l : List (Fin n))
    (hl : ∀ b ∈ l, a < b) : insertBefore R a l = insertBefore B a l :=
  insertBefore_congr R B a l fun b hb => hRB b a (hl b hb)

theorem stableSort_tie (R B : Fin n → Fin n → Bool) (hRB : ∀ a b, b < a → R a b = B a b) (l : List (Fin n))
    (hl : l.Pairwise (· < ·)) : stableSort R l = stableSort B l := by
  induction l with
  | nil => rfl
  | cons a l ih =>
    rw [List.pairwise_cons] at hl
    unfold stableSort
    rw [ih hl.2]
    exact insertBefore_tie R B hRB a _ fun b hb => hl.1 b ((perm_stableSort B l).mem_iff.mp hb)

theorem sortedFrom_tie (R B : Fin n → Fin n → Bool) (hRB : ∀ a b, b < a → R a b = B a b) : sortedFrom R = sortedFrom B := by
  funext k
  unfold sortedFrom
  have e : sortPositions n R = sortPositions n B := stableSort_tie R B hRB _ (List.pairwise_lt_finRange n)
  rw [List.get_of_eq e]
  rfl

/-- The greater score first. -/
def gtB (f : Fin n → EReal) (a b : Fin n) : Bool := decide (f b < f a)
/-- The greater score first, and of equal scores the earlier position. -/
def ordB (f : Fin n → EReal) (a b : Fin n) : Bool := gtB f a b || (decide (f a = f b) && decide (a < b))

theorem ordB_total (f : Fin n → EReal) : StrictTotalBefore (ordB f) := by
  classical
  have h := StrictTotalBefore.of_key_then_position (fun a b : EReal => decide (b < a)) f (by simp)
    (fun a b c h1 h2 => by simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)
  have e : ordB f = fun k k' : Fin n => (decide (f k' < f k) || (decide (f k = f k') && decide (k < k'))) := by
    funext k k'
    unfold ordB gtB
    rfl
  rw [e]
  convert h using 5

theorem sortedFrom_gtB (f : Fin n → EReal) : sortedFrom (gtB f) = sortedFrom (ordB f) :=
  sortedFrom_tie _ _ fun a b h => by
    unfold ordB
    have : ¬ a < b := not_lt.mpr h.le
    simp [this]

theorem ordB_sorted (f : Fin n → EReal) (a b : Fin n) :
    ordB f (sortedFrom (gtB f) a) (sortedFrom (gtB f) b) = true ↔ a < b := by
  rw [sortedFrom_gtB]
  have hT := ordB_total f
  have key : ∀ i j : Fin n, i < j → ordB f (sortedFrom (ordB f) j) (sortedFrom (ordB f) i) = false :=
    sortedFrom_noInversion _ _ (fun a b h => hT.asymm a b h) (fun _ _ h => h) hT.negTrans
  constructor
  · intro h
    rcases lt_trichotomy a b with h' | h' | h'
    · exact h'
    · subst h'; rw [hT.irrefl] at h; exact absurd h (by decide)
    · rw [key b a h'] at h; exact absurd h (by decide)
  · intro h
    rcases hT.total (sortedFrom (ordB f) a) (sortedFrom (ordB f) b) (fun e => absurd (sortedFrom_injective _ e) h.ne) with h' | h'
    · exact h'
    · rw [key a b h] at h'; exact absurd h' (by decide)

/-- The sorted scores decrease. -/
theorem sorted_antitone (f : Fin n → EReal) (a b : Fin n) (h : a ≤ b) :
    f (sortedFrom (gtB f) b) ≤ f (sortedFrom (gtB f) a) := by
  rcases h.eq_or_lt with rfl | h
  · exact le_rfl
  · have := (ordB_sorted f a b).mpr h
    unfold ordB gtB at this
    simp only [Bool.or_eq_true, Bool.and_eq_true, decide_eq_true_eq] at this
    rcases this with h | ⟨h, _⟩
    · exact h.le
    · exact h.ge

/-- As many positions sort before position `k`'s as `k` says. -/
theorem card_before (f : Fin n → EReal) (k : Fin n) :
    (Finset.univ.filter fun q => ordB f q (sortedFrom (gtB f) k) = true).card = k.val := by
  have e : (Finset.univ.filter fun q => ordB f q (sortedFrom (gtB f) k) = true)
      = (Finset.Iio k).map ⟨sortedFrom (gtB f), sortedFrom_injective _⟩ := by
    ext q
    obtain ⟨a, rfl⟩ := sortedFrom_surjective (gtB f) q
    simp only [Finset.mem_filter, Finset.mem_univ, true_and, Finset.mem_map, Finset.mem_Iio, Function.Embedding.coeFn_mk]
    rw [ordB_sorted]
    constructor
    · exact fun h => ⟨a, h, rfl⟩
    · rintro ⟨b, hb, e⟩; rw [← sortedFrom_injective _ e]; exact hb
  rw [e, Finset.card_map, Fin.card_Iio]

/-! ## The suppression -/

section Keep

variable (sup : Fin n → Fin n → Bool) (k0 : Fin n → Bool)

/-- The kept candidates before step `k`. -/
def kp : ℕ → Fin n → Bool
  | 0, j => k0 j
  | k + 1, j => if h : k < n then kp k j && !(kp k ⟨k, h⟩ && sup ⟨k, h⟩ j) else kp k j

/-- Whether candidate `i` is kept when its step comes, and so at the end. -/
def kept (i : Fin n) : Bool := kp sup k0 i.val i

theorem kp_succ (k : Fin n) (j : Fin n) :
    kp sup k0 (k.val + 1) j = (kp sup k0 k.val j && !(kept sup k0 k && sup k j)) := by
  rw [kp, dif_pos k.isLt]; rfl

theorem kp_stable (hsup : ∀ i j, sup i j = true → i < j) (i : Fin n) (d : ℕ) : kp sup k0 (i.val + d) i = kept sup k0 i := by
  induction d with
  | zero => rfl
  | succ d ih =>
    rw [← Nat.add_assoc, kp]
    split
    · rename_i h
      have : sup ⟨i.val + d, h⟩ i = false := by
        cases e : sup ⟨i.val + d, h⟩ i
        · rfl
        · have := hsup _ _ e; rw [Fin.lt_def] at this; simp at this
      rw [this, ih]; simp
    · exact ih

theorem kp_end (hsup : ∀ i j, sup i j = true → i < j) (i : Fin n) : kp sup k0 n i = kept sup k0 i := by
  have := kp_stable sup k0 hsup i (n - i.val)
  rwa [Nat.add_sub_cancel' i.isLt.le] at this

theorem kp_sub (k : ℕ) (i : Fin n) (h : kp sup k0 k i = true) : k0 i = true := by
  induction k with
  | zero => exact h
  | succ k ih =>
    rw [kp] at h
    split at h
    · rw [Bool.and_eq_true] at h; exact ih h.1
    · exact ih h

end Keep

section Rows

variable (K : Fin n → Bool)

/-- How many of the first `k` candidates are kept. -/
def cnt : ℕ → ℕ
  | 0 => 0
  | k + 1 => if h : k < n then (if K ⟨k, h⟩ then cnt k + 1 else cnt k) else cnt k

/-- The candidate in row `r` after `k` steps. -/
def tbl : ℕ → ℕ → Option (Fin n)
  | 0, _ => none
  | k + 1, r => if h : k < n then (if K ⟨k, h⟩ = true ∧ cnt K k = r then some ⟨k, h⟩ else tbl k r) else tbl k r

theorem cnt_eq_card (k : ℕ) (hk : k ≤ n) : cnt K k = (Finset.univ.filter fun q : Fin n => q.val < k ∧ K q = true).card := by
  induction k with
  | zero => simp [cnt]
  | succ k ih =>
    have hk' : k < n := hk
    rw [cnt, dif_pos hk', ih hk'.le]
    by_cases hK : K ⟨k, hk'⟩ = true
    · rw [if_pos hK]
      have : (Finset.univ.filter fun q : Fin n => q.val < k + 1 ∧ K q = true)
          = insert ⟨k, hk'⟩ (Finset.univ.filter fun q : Fin n => q.val < k ∧ K q = true) := by
        ext q
        simp only [Finset.mem_filter, Finset.mem_univ, true_and, Finset.mem_insert]
        constructor
        · rintro ⟨h1, h2⟩
          by_cases e : q.val = k
          · exact Or.inl (Fin.ext e)
          · exact Or.inr ⟨by omega, h2⟩
        · rintro (rfl | ⟨h1, h2⟩)
          · exact ⟨Nat.lt_succ_self _, hK⟩
          · exact ⟨by omega, h2⟩
      rw [this, Finset.card_insert_of_notMem (by simp)]
    · rw [if_neg hK]
      congr 1
      ext q
      simp only [Finset.mem_filter, Finset.mem_univ, true_and]
      constructor
      · rintro ⟨h1, h2⟩; exact ⟨by omega, h2⟩
      · rintro ⟨h1, h2⟩
        refine ⟨?_, h2⟩
        by_contra hc
        have : q = ⟨k, hk'⟩ := Fin.ext (by simp; omega)
        exact hK (this ▸ h2)

theorem cnt_mono_step (k : ℕ) : cnt K k ≤ cnt K (k + 1) := by
  rw [cnt]; split
  · split <;> omega
  · exact le_rfl

theorem cnt_mono (a b : ℕ) (h : a ≤ b) : cnt K a ≤ cnt K b := by
  induction b, h using Nat.le_induction with
  | base => exact le_rfl
  | succ b _ ih => exact ih.trans (cnt_mono_step K b)

/-- Which candidate row `r` holds after `k` steps. -/
theorem tbl_some (k r : ℕ) (i : Fin n) : tbl K k r = some i ↔ i.val < k ∧ K i = true ∧ cnt K i.val = r := by
  induction k with
  | zero => simp [tbl]
  | succ k ih =>
    rw [tbl]
    split
    · rename_i h
      split
      · rename_i hc
        constructor
        · intro e
          have e' : (⟨k, h⟩ : Fin n) = i := Option.some.inj e
          subst e'
          exact ⟨Nat.lt_succ_self _, hc.1, hc.2⟩
        · rintro ⟨h1, h2, h3⟩
          by_cases e : i.val = k
          · exact congrArg some (Fin.ext e.symm)
          · exfalso
            have hlt : i.val + 1 ≤ k := by omega
            have := cnt_mono K _ _ hlt
            rw [cnt, dif_pos i.isLt, if_pos h2] at this
            omega
      · rename_i hc
        rw [ih]
        constructor
        · rintro ⟨h1, h2⟩; exact ⟨by omega, h2⟩
        · rintro ⟨h1, h2, h3⟩
          refine ⟨?_, h2, h3⟩
          by_contra hcc
          have : i = ⟨k, h⟩ := Fin.ext (by simp; omega)
          subst this
          exact hc ⟨h2, h3⟩
    · rename_i h
      rw [ih]
      constructor
      · rintro ⟨h1, h2⟩; exact ⟨by omega, h2⟩
      · rintro ⟨h1, h2⟩; exact ⟨by omega, h2⟩

variable (s : Fin n → EReal)

/-- The scores of the kept candidates, `c` elsewhere. -/
def msc (c : EReal) (i : Fin n) : EReal := if K i = true then s i else c

variable (hs : ∀ a b : Fin n, a ≤ b → s b ≤ s a) (c : EReal) (hc : ∀ i, K i = true → c < s i)
include hs hc

theorem ordB_msc (q i : Fin n) (hi : K i = true) : ordB (msc K s c) q i = true ↔ q.val < i.val ∧ K q = true := by
  unfold ordB gtB
  simp only [Bool.or_eq_true, Bool.and_eq_true, decide_eq_true_eq]
  by_cases hq : K q = true
  · simp only [msc, hq, hi, if_true, and_true]
    constructor
    · rintro (h | ⟨_, h⟩)
      · by_contra hcc
        exact absurd h (not_lt.mpr (hs i q (Fin.le_def.mpr (by omega))))
      · exact h
    · intro h
      rcases (hs q i (Fin.le_def.mpr h.le)).lt_or_eq with h' | h'
      · exact Or.inl h'
      · exact Or.inr ⟨h'.symm, h⟩
  · simp only [msc, hq, hi, if_true, Bool.false_eq_true, if_false, and_false, iff_false]
    rintro (h | ⟨h, _⟩)
    · exact absurd h (not_lt.mpr (hc i hi).le)
    · exact absurd h (hc i hi).ne

theorem card_msc (i : Fin n) (hi : K i = true) :
    (Finset.univ.filter fun q => ordB (msc K s c) q i = true).card = cnt K i.val := by
  rw [cnt_eq_card K i.val i.isLt.le]
  congr 1
  ext q
  simp only [Finset.mem_filter, Finset.mem_univ, true_and]
  exact ordB_msc K s hs c hc q i hi

/-- A row that holds a candidate holds the one the sort puts there. -/
theorem sorted_some (r : Fin n) (i : Fin n) (h : tbl K n r.val = some i) :
    sortedFrom (gtB (msc K s c)) r = i ∧ K i = true := by
  obtain ⟨_, hi, hr⟩ := (tbl_some K n r.val i).mp h
  obtain ⟨a, rfl⟩ := sortedFrom_surjective (gtB (msc K s c)) i
  have h1 := card_before (msc K s c) a
  rw [card_msc K s hs c hc _ hi, hr] at h1
  have e : r = a := Fin.ext h1
  subst e
  exact ⟨rfl, hi⟩

/-- Where a row is empty, the sort puts a candidate that is not kept. -/
theorem sorted_none (r : Fin n) (h : tbl K n r.val = none) : K (sortedFrom (gtB (msc K s c)) r) = false := by
  by_contra hK
  have hK : K (sortedFrom (gtB (msc K s c)) r) = true := by simpa using hK
  have h1 := card_before (msc K s c) r
  rw [card_msc K s hs c hc _ hK] at h1
  have := (tbl_some K n r.val _).mpr ⟨Fin.isLt _, hK, h1⟩
  rw [h] at this; cases this

end Rows

end Cert.Nms

end
-- ==== Proof.Hand.Take.lean ====
/-
  Reading a batched gather and a stable top-k at an index.
-/
module

public import Idealize.ShloMosaic.Lib.Pointwise
public import Idealize.ShloMosaic.Lib.SortFacts
public import proofs.«01_k».proof.Proof.Hand.Nms

@[expose] public section

noncomputable section

namespace Cert.Nms

open Idealize.ShloMosaic

theorem toInt_small (q : ℕ) (h : q < 2 ^ 31) : (BitVec.ofNat 32 q).toInt = q := by
  rw [BitVec.toInt_eq_toNat_cond, BitVec.toNat_ofNat]
  have : q % 2 ^ 32 = q := Nat.mod_eq_of_lt (by omega)
  rw [this]; split <;> omega

theorem slt_small (q : ℕ) (h : q < 2 ^ 31) : IntOp.cmpi .slt (BitVec.ofNat 32 q) 0#32 = 0#1 := by
  show BitVec.ofBool (BitVec.slt _ _) = _
  rw [BitVec.slt_eq_decide, toInt_small q h, show (0#32 : BitVec 32).toInt = 0 from rfl, decide_eq_false (by omega)]
  rfl

theorem sge_small (q : ℕ) (h : q < 2 ^ 31) : IntOp.cmpi .sge (BitVec.ofNat 32 q) 0#32 = 1#1 := by
  show BitVec.ofBool (BitVec.sle _ _) = _
  rw [BitVec.sle_eq_decide, toInt_small q h]
  simp

theorem sle_small (q N : ℕ) (h : q ≤ N) (hN : N < 2 ^ 31) : IntOp.cmpi .sle (BitVec.ofNat 32 q) (BitVec.ofNat 32 N) = 1#1 := by
  show BitVec.ofBool (BitVec.sle _ _) = _
  rw [BitVec.sle_eq_decide, toInt_small q (by omega), toInt_small N hN]
  simp [h]

/-- A gather of one element per index, batch by batch. -/
theorem gather_batch {α : Type} {A N M : ℕ} (wf : GatherDims.WF ⟨2, ![A, N]⟩ ⟨3, ![A, M, 1]⟩ ⟨2, ![A, M]⟩ [] [1] [0] [1] [0] 2 ![1, 1])
    (x : (⟨2, ![A, N]⟩ : Shape).Idx → α) (idx : IVec ⟨3, ![A, M, 1]⟩ 32) (b : Fin A) (p : Fin M) (q : Fin N) (hN : N < 2 ^ 31)
    (hq : idx (ix3 b p (0 : Fin 1)) = BitVec.ofNat 32 q.val) :
    Host.gather (⟨[], [1], [0], [0], [1], 2, ![1, 1], wf⟩ : GatherDims ⟨2, ![A, N]⟩ ⟨3, ![A, M, 1]⟩ ⟨2, ![A, M]⟩) x idx (ix2 b p)
      = x (ix2 b q) := by
  unfold Host.gather
  refine congrArg x (funext fun a => Fin.ext ?_)
  match a with
  | ⟨0, _⟩ =>
    show (0 : ℕ) + b.val + 0 = b.val
    omega
  | ⟨1, _⟩ =>
    refine (congrArg (fun z => min (idx z).toInt.toNat (N - 1) + 0 + 0) (?_ : _ = ix3 b p (0 : Fin 1))).trans ?_
    · funext a
      match a with
      | ⟨0, _⟩ => rfl
      | ⟨1, _⟩ => rfl
      | ⟨2, _⟩ => rfl
    · show min (idx (ix3 b p (0 : Fin 1))).toInt.toNat (N - 1) + 0 + 0 = q.val
      have := q.isLt
      rw [hq, toInt_small _ (by omega)]
      simp only [Int.toNat_natCast]
      omega

/-- A gather of one row per index, batch by batch. -/
theorem gather_batch_row {α : Type} {A N M C : ℕ}
    (wf : GatherDims.WF ⟨3, ![A, N, C]⟩ ⟨3, ![A, M, 1]⟩ ⟨3, ![A, M, C]⟩ [2] [1] [0] [1] [0] 2 ![1, 1, C])
    (x : (⟨3, ![A, N, C]⟩ : Shape).Idx → α) (idx : IVec ⟨3, ![A, M, 1]⟩ 32) (b : Fin A) (p : Fin M) (k : Fin C) (q : Fin N) (hN : N < 2 ^ 31)
    (hq : idx (ix3 b p (0 : Fin 1)) = BitVec.ofNat 32 q.val) :
    Host.gather (⟨[2], [1], [0], [0], [1], 2, ![1, 1, C], wf⟩ : GatherDims ⟨3, ![A, N, C]⟩ ⟨3, ![A, M, 1]⟩ ⟨3, ![A, M, C]⟩) x idx (ix3 b p k)
      = x (ix3 b q k) := by
  unfold Host.gather
  refine congrArg x (funext fun a => Fin.ext ?_)
  match a with
  | ⟨0, _⟩ =>
    show (0 : ℕ) + b.val + 0 = b.val
    omega
  | ⟨1, _⟩ =>
    refine (congrArg (fun z => min (idx z).toInt.toNat (N - 1) + 0 + 0) (?_ : _ = ix3 b p (0 : Fin 1))).trans ?_
    · funext a
      match a with
      | ⟨0, _⟩ => rfl
      | ⟨1, _⟩ => rfl
      | ⟨2, _⟩ => rfl
    · show min (idx (ix3 b p (0 : Fin 1))).toInt.toNat (N - 1) + 0 + 0 = q.val
      have := q.isLt
      rw [hq, toInt_small _ (by omega)]
      simp only [Int.toNat_natCast]
      omega
  | ⟨2, _⟩ =>
    show (0 : ℕ) + 0 + k.val = k.val
    omega

theorem sel_zero {α : Type} (a b : α) : Scalar.select 0#1 a b = b := rfl
theorem sel_one {α : Type} (a b : α) : Scalar.select 1#1 a b = a := rfl

theorem wrap_pos {N : ℕ} (q : Fin N) (hN : N < 2 ^ 31) (x : BitVec 32) :
    Scalar.select (IntOp.cmpi .slt (BitVec.ofNat 32 q.val) 0#32) x (BitVec.ofNat 32 q.val) = BitVec.ofNat 32 q.val := by
  rw [slt_small q.val (by omega)]
  rfl

theorem fold_one {ι : Type} [Fintype ι] [DecidableEq ι] (s : Finset ι) : Finset.fold IntOp.andi 1#1 (fun _ => 1#1) s = 1#1 := by
  induction s using Finset.induction_on with
  | empty => rfl
  | insert a s ha ih => rw [Finset.fold_insert ha, ih]; rfl

theorem mask_pos {N : ℕ} (q : Fin N) (hN : N < 2 ^ 31) (M : ℕ) (hM : M + 1 = N) :
    IntOp.andi (IntOp.cmpi .sge (BitVec.ofNat 32 q.val) 0#32) (IntOp.cmpi .sle (BitVec.ofNat 32 q.val) (BitVec.ofNat 32 M)) = 1#1 := by
  rw [sge_small q.val (by omega), sle_small q.val M (by omega) (by omega)]
  rfl

/-! ## Top-k along the last axis -/

/-- The position that the `k`-th greatest of a row comes from. -/
def pos {n : ℕ} (f : Fin n → EReal) (k : Fin n) : Fin n := sortedFrom (gtB f) k

theorem along_ix2 {A N : ℕ} (b : Fin A) (k l : Fin N) : (ix2 b k : (⟨2, ![A, N]⟩ : Shape).Idx).along 1 l = ix2 b l := by
  funext a
  match a with
  | ⟨0, _⟩ => rfl
  | ⟨1, _⟩ => rfl

theorem topK_aux {A N : ℕ} (x : FVec Ideal ⟨2, ![A, N]⟩ .f32) (b : Fin A) (k : Fin N) :
    (fun l l' : Fin N => FloatOps.cmpfTotal (F := Ideal) (φ := .f32) .gt (x ((ix2 b k : (⟨2, ![A, N]⟩ : Shape).Idx).along 1 l)) (x ((ix2 b k : (⟨2, ![A, N]⟩ : Shape).Idx).along 1 l')) == 1#1)
      = gtB fun l => x (ix2 b l) := by
  funext l l'
  unfold gtB
  refine (congrArg₂ (fun u v => FloatOps.cmpfTotal (F := Ideal) (φ := .f32) .gt (x u) (x v) == 1#1) (along_ix2 b k l) (along_ix2 b k l')).trans ?_
  show (BitVec.ofBool (decide (x (ix2 b l') < x (ix2 b l))) == 1#1) = _
  cases decide (x (ix2 b l') < x (ix2 b l)) <;> rfl

theorem slice0 {α : Type} {A N M : ℕ} (y : (⟨2, ![A, N]⟩ : Shape).Idx → α) (h : (⟨2, ![A, N]⟩ : Shape).Slices (fun _ => 0) ⟨2, ![A, M]⟩)
    (b : Fin A) (k : Fin M) (hk : k.val < N) : extractStridedSlice ⟨2, ![A, M]⟩ (fun _ => 0) y h (ix2 b k) = y (ix2 b ⟨k.val, hk⟩) := by
  unfold extractStridedSlice
  refine congrArg y (funext fun a => Fin.ext ?_)
  match a with
  | ⟨0, _⟩ => exact Nat.zero_add _
  | ⟨1, _⟩ => exact Nat.zero_add _

theorem topK_val {A N M : ℕ} (x : FVec Ideal ⟨2, ![A, N]⟩ .f32) (h : (⟨2, ![A, N]⟩ : Shape).Slices (fun _ => 0) ⟨2, ![A, M]⟩)
    (b : Fin A) (k : Fin M) (hk : k.val < N) :
    (Host.topK ⟨2, ![A, M]⟩ 1 (FloatOps.cmpfTotal .gt) x h).1 (ix2 b k) = x (ix2 b (pos (fun l => x (ix2 b l)) ⟨k.val, hk⟩)) := by
  unfold Host.topK
  dsimp only
  rw [slice0 _ h b k hk]
  show x ((ix2 b ⟨k.val, hk⟩ : (⟨2, ![A, N]⟩ : Shape).Idx).along 1 (sortedFrom (fun l l' : Fin N => FloatOps.cmpfTotal (F := Ideal) (φ := .f32) .gt (x ((ix2 b ⟨k.val, hk⟩ : (⟨2, ![A, N]⟩ : Shape).Idx).along 1 l)) (x ((ix2 b ⟨k.val, hk⟩ : (⟨2, ![A, N]⟩ : Shape).Idx).along 1 l')) == 1#1) ⟨k.val, hk⟩)) = _
  rw [topK_aux]
  exact congrArg x (along_ix2 _ _ _)

theorem topK_idx {A N M : ℕ} (x : FVec Ideal ⟨2, ![A, N]⟩ .f32) (h : (⟨2, ![A, N]⟩ : Shape).Slices (fun _ => 0) ⟨2, ![A, M]⟩)
    (b : Fin A) (k : Fin M) (hk : k.val < N) :
    (Host.topK ⟨2, ![A, M]⟩ 1 (FloatOps.cmpfTotal .gt) x h).2 (ix2 b k) = BitVec.ofNat 32 (pos (fun l => x (ix2 b l)) ⟨k.val, hk⟩).val := by
  unfold Host.topK
  dsimp only
  rw [slice0 _ h b k hk]
  show BitVec.ofNat 32 (((ix2 b ⟨k.val, hk⟩ : (⟨2, ![A, N]⟩ : Shape).Idx).along 1 (sortedFrom (fun l l' : Fin N => FloatOps.cmpfTotal (F := Ideal) (φ := .f32) .gt (x ((ix2 b ⟨k.val, hk⟩ : (⟨2, ![A, N]⟩ : Shape).Idx).along 1 l)) (x ((ix2 b ⟨k.val, hk⟩ : (⟨2, ![A, N]⟩ : Shape).Idx).along 1 l')) == 1#1) ⟨k.val, hk⟩)) 1).val = _
  rw [topK_aux]
  refine (congrArg (fun z : (⟨2, ![A, N]⟩ : Shape).Idx => BitVec.ofNat 32 (z 1).val) (along_ix2 _ _ _)).trans ?_
  rfl

end Cert.Nms
end
-- ==== Proof.Hand.Spec.lean ====
/-
  The candidate boxes, their scores and classes, and what each image's answer is, in plain terms.
-/
module

public import proofs.«01_k».proof.Proof.Hand.Take

@[expose] public section

noncomputable section

namespace Cert.Nms

open Idealize.ShloMosaic

/-- The logistic function. -/
def sg (x : EReal) : EReal := Ideal.div 1 (1 + Ideal.exp (-x))

/-- The score threshold, one thousandth. -/
def thr : EReal := Ideal.ofBits .f32 0x3A83126F#32

/-- The score of a candidate that is not valid. -/
def mone : EReal := Ideal.ofBits .f32 0xBF800000#32

def half : EReal := Ideal.ofBits .f32 0x3F000000#32

section Head
variable (P : FVec Ideal ⟨3, ![4, 12288, 85]⟩ .f32)

/-- Class scores: class probability times objectness. -/
def scT : FVec Ideal ⟨3, ![4, 12288, 80]⟩ .f32 := fun i =>
  sg (P (ix3 (i 0) (i 1) ⟨5 + (i 2).val, by have := (i 2).isLt; simp at this; omega⟩)) * sg (P (ix3 (i 0) (i 1) ⟨4, by omega⟩))

/-- The centre of candidate `p` along axis `a`. -/
def ctr (b : Fin 4) (p : Fin 12288) (a : Fin 2) : EReal :=
  sg (P (ix3 b p ⟨a.val, by omega⟩)) * Ideal.ofBits .f32 0x44000000#32

/-- The extent of candidate `p` along axis `a`. -/
def ext (b : Fin 4) (p : Fin 12288) (a : Fin 2) : EReal :=
  sg (P (ix3 b p ⟨2 + a.val, by omega⟩)) * Ideal.ofBits .f32 0x43000000#32

/-- The corners of candidate `p`. -/
def corner (b : Fin 4) (p : Fin 12288) : Fin 4 → EReal :=
  ![ctr P b p 0 - ext P b p 0 * half, ctr P b p 1 - ext P b p 1 * half,
    ctr P b p 0 + ext P b p 0 * half, ctr P b p 1 + ext P b p 1 * half]

variable (mx : FVec Ideal ⟨2, ![4, 12288]⟩ .f32)

/-- The score of candidate `p`, minus one when it is not valid. -/
def conf (b : Fin 4) (p : Fin 12288) : EReal :=
  Scalar.select (IntOp.andi (Ideal.cmp .ogt (sg (P (ix3 b p ⟨4, by omega⟩))) thr) (Ideal.cmp .ogt (mx (ix2 b p)) thr))
    (mx (ix2 b p)) mone

theorem lift_lt (j : Fin 1024) : j.val < 12288 := by omega

/-- The candidate of rank `j`. -/
def rk (b : Fin 4) (j : Fin 1024) : Fin 12288 := pos (conf P mx b) ⟨j.val, lift_lt j⟩

/-- The score of rank `j`. -/
def sc (b : Fin 4) (j : Fin 1024) : EReal := conf P mx b (rk P mx b j)

theorem sc_antitone (b : Fin 4) (i j : Fin 1024) (h : i ≤ j) : sc P mx b j ≤ sc P mx b i := by
  unfold sc rk pos
  exact sorted_antitone (conf P mx b) ⟨i.val, lift_lt i⟩ ⟨j.val, lift_lt j⟩ (Fin.mk_le_mk.mpr h)

/-- The box of rank `j`. -/
def bx (b : Fin 4) (j : Fin 1024) : Fin 4 → EReal := corner P b (rk P mx b j)

end Head

section Overlap

/-- Boxes moved apart by class, so that boxes of different classes do not overlap. -/
def moved (bxs : Fin 1024 → Fin 4 → EReal) (cl : Fin 1024 → BitVec 32) (j : Fin 1024) (k : Fin 4) : EReal :=
  bxs j k + (((cl j).toInt : ℝ) : EReal) * Ideal.ofBits .f32 0x45800000#32

variable (o : Fin 1024 → Fin 4 → EReal)

def area (j : Fin 1024) : EReal := (o j 2 - o j 0) * (o j 3 - o j 1)

def inter (i j : Fin 1024) : EReal :=
  max 0 (min (o i 2) (o j 2) - max (o i 0) (o j 0)) * max 0 (min (o i 3) (o j 3) - max (o i 1) (o j 1))

/-- Intersection over union. -/
def iou (i j : Fin 1024) : EReal :=
  Ideal.div (inter o i j) (area o i + area o j - inter o i j + Ideal.ofBits .f32 0x33D6BF95#32)

end Overlap

section Suppress

/-- The overlap above which a box is suppressed. -/
def t45 : EReal := Ideal.ofBits .f32 0x3EE66666#32

/-- Candidate `i`, when kept, suppresses the later candidate `j`. -/
def supp (o : Fin 1024 → Fin 4 → EReal) (i j : Fin 1024) : Bool := decide (t45 < iou o i j) && decide (i < j)

/-- The candidates to start from: those with a score above the threshold. -/
def keep0 (s : Fin 1024 → EReal) (j : Fin 1024) : Bool := decide (thr < s j)

theorem supp_lt (o : Fin 1024 → Fin 4 → EReal) (i j : Fin 1024) (h : supp o i j = true) : i < j := by
  unfold supp at h
  rw [Bool.and_eq_true, decide_eq_true_iff, decide_eq_true_iff] at h
  exact h.2

theorem andi_bool (a b : Bool) : IntOp.andi (BitVec.ofBool a) (BitVec.ofBool b) = BitVec.ofBool (a && b) := by
  cases a <;> cases b <;> rfl

theorem not_bool (a : Bool) : ~~~ BitVec.ofBool a = BitVec.ofBool (!a) := by
  cases a <;> rfl

theorem sgt_small (i j : ℕ) (hi : i < 2 ^ 31) (hj : j < 2 ^ 31) :
    IntOp.cmpi .sgt (BitVec.ofNat 32 j) (BitVec.ofNat 32 i) = BitVec.ofBool (decide (i < j)) := by
  show BitVec.ofBool (BitVec.slt (BitVec.ofNat 32 i) (BitVec.ofNat 32 j)) = _
  unfold BitVec.slt
  rw [toInt_small i hi, toInt_small j hj]
  congr 1
  exact decide_eq_decide.mpr Int.ofNat_lt

end Suppress

end Cert.Nms

end
-- ==== Proof.Hand.Post.lean ====
/-
  The last lines of the head: a row's box cut to the picture, its validity and its sorted corners.
-/
module

public import proofs.«01_k».proof.Proof.Hand.Spec
public import proofs.«01_k».proof.Proof.Hand.Take
public import proofs.«01_k».proof.ReferenceIdeal

@[expose] public section

noncomputable section

namespace Cert.Nms

open Idealize.ShloMosaic Idealize.ShloMosaic.Tactic

/-- A coordinate cut to the picture. -/
def clip (x : EReal) : EReal := min (Ideal.ofBits .f32 0x44000000#32) (max 0 x)

/-- Whether a row with score `s` and corners `a` is valid. -/
def okB (s : EReal) (a : Fin 4 → EReal) : BitVec 1 :=
  IntOp.andi (Ideal.cmp .ogt s 0)
    (IntOp.andi (IntOp.andi (IntOp.andi (Ideal.cmp .ogt (a 2) (a 0)) (Ideal.cmp .ogt (a 3) (a 1)))
      (Ideal.cmp .oge (a 2 - a 0) 1)) (Ideal.cmp .oge (a 3 - a 1) 1))

/-- The corners sorted along each axis. -/
def srt (a : Fin 4 → EReal) : Fin 4 → EReal
  | 0 => min (a 0) (a 2)
  | 1 => min (a 1) (a 3)
  | 2 => max (a 0) (a 2)
  | 3 => max (a 1) (a 3)

theorem get_of (l l' : List (Fin 2)) (e : l = l') (h : 2 = l.length) (h' : 2 = l'.length) (k : Fin 2) : l.get (k.cast h) = l'.get (k.cast h') := by
  subst e
  rfl

theorem sortedFrom_two : ∀ before : Fin 2 → Fin 2 → Bool,
    sortedFrom before 0 = (if before 1 0 = true then 1 else 0) ∧ sortedFrom before 1 = (if before 1 0 = true then 0 else 1) := by
  intro before
  unfold sortedFrom
  have e : sortPositions 2 before = if before 1 0 = true then [1, 0] else [0, 1] := by
    unfold sortPositions
    rw [show List.finRange 2 = [0, 1] from rfl]
    simp only [stableSort, insertBefore]
  split
  · next h =>
    rw [if_pos h] at e
    exact ⟨get_of _ _ e _ rfl 0, get_of _ _ e _ rfl 1⟩
  · next h =>
    rw [if_neg h] at e
    exact ⟨get_of _ _ e _ rfl 0, get_of _ _ e _ rfl 1⟩

theorem cmp_self_une (x : EReal) : Ideal.cmp .une x x = 0#1 := by
  show BitVec.ofBool (decide (x ≠ x)) = _
  simp

theorem comparator_eq (l r : EReal) : Cert.ReferenceIdeal.comparator_f32_d2 (F := Ideal) l r = BitVec.ofBool (decide (l < r)) := by
  unfold Cert.ReferenceIdeal.comparator_f32_d2
  have h : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    rw [cmp_self_une, sel_zero]
    by_cases hx : x = Ideal.ofBits .f32 0x00000000#32
    · rw [show Ideal.cmp .oeq x (Ideal.ofBits .f32 0x00000000#32) = 1#1 from by
        show BitVec.ofBool (decide (x = _)) = _
        rw [decide_eq_true hx]; rfl, sel_one, hx]
    · rw [show Ideal.cmp .oeq x (Ideal.ofBits .f32 0x00000000#32) = 0#1 from by
        show BitVec.ofBool (decide (x = _)) = _
        rw [decide_eq_false hx]; rfl, sel_zero]
  have hl := h l
  have hr := h r
  show Ideal.cmp .olt (Scalar.select (Ideal.cmp .une l l) (Ideal.ofBits .f32 0x7FC00000#32)
      (Scalar.select (Ideal.cmp .oeq l (Ideal.ofBits .f32 0x00000000#32)) (Ideal.ofBits .f32 0x00000000#32) l))
     (Scalar.select (Ideal.cmp .une r r) (Ideal.ofBits .f32 0x7FC00000#32)
      (Scalar.select (Ideal.cmp .oeq r (Ideal.ofBits .f32 0x00000000#32)) (Ideal.ofBits .f32 0x00000000#32) r)) = _
  rw [hl, hr]
  rfl

theorem along_ix3 {A B N : ℕ} (a : Fin A) (b : Fin B) (k l : Fin N) :
    (ix3 a b k : (⟨3, ![A, B, N]⟩ : Shape).Idx).along 2 l = ix3 a b l := by
  funext x
  match x with
  | ⟨0, _⟩ => rfl
  | ⟨1, _⟩ => rfl
  | ⟨2, _⟩ => rfl

theorem sort2 {A B : ℕ} (x : (⟨3, ![A, B, 2]⟩ : Shape).Idx → EReal) (a : Fin A) (b : Fin B) :
    Host.sort ⟨3, ![A, B, 2]⟩ 2 (Cert.ReferenceIdeal.comparator_f32_d2 (F := Ideal)) x (ix3 a b 0) = min (x (ix3 a b 0)) (x (ix3 a b 1))
    ∧ Host.sort ⟨3, ![A, B, 2]⟩ 2 (Cert.ReferenceIdeal.comparator_f32_d2 (F := Ideal)) x (ix3 a b 1) = max (x (ix3 a b 0)) (x (ix3 a b 1)) := by
  have hb : ∀ k : Fin 2, (fun l l' : Fin 2 => Cert.ReferenceIdeal.comparator_f32_d2 (F := Ideal) (x ((ix3 a b k : (⟨3, ![A, B, 2]⟩ : Shape).Idx).along 2 l))
      (x ((ix3 a b k : (⟨3, ![A, B, 2]⟩ : Shape).Idx).along 2 l')) == 1#1) = fun l l' => decide (x (ix3 a b l) < x (ix3 a b l')) := by
    intro k
    funext l l'
    refine (congrArg₂ (fun u v => Cert.ReferenceIdeal.comparator_f32_d2 (F := Ideal) (x u) (x v) == 1#1) (along_ix3 a b k l) (along_ix3 a b k l')).trans ?_
    rw [comparator_eq]
    cases decide (x (ix3 a b l) < x (ix3 a b l')) <;> rfl
  have h : ∀ k : Fin 2, Host.sort ⟨3, ![A, B, 2]⟩ 2 (Cert.ReferenceIdeal.comparator_f32_d2 (F := Ideal)) x (ix3 a b k)
      = x (ix3 a b (sortedFrom (fun l l' => decide (x (ix3 a b l) < x (ix3 a b l'))) k)) := by
    intro k
    show x ((ix3 a b k : (⟨3, ![A, B, 2]⟩ : Shape).Idx).along 2 (sortedFrom (fun l l' : Fin 2 => Cert.ReferenceIdeal.comparator_f32_d2 (F := Ideal) (x ((ix3 a b k : (⟨3, ![A, B, 2]⟩ : Shape).Idx).along 2 l))
      (x ((ix3 a b k : (⟨3, ![A, B, 2]⟩ : Shape).Idx).along 2 l')) == 1#1) k)) = _
    rw [hb]
    exact congrArg x (along_ix3 _ _ _ _)
  rw [h 0, h 1, (sortedFrom_two _).1, (sortedFrom_two _).2]
  by_cases hx : x (ix3 a b 1) < x (ix3 a b 0)
  · rw [if_pos (decide_eq_true hx), if_pos (decide_eq_true hx)]
    exact ⟨(min_eq_right hx.le).symm, (max_eq_left hx.le).symm⟩
  · rw [if_neg (by simpa using hx), if_neg (by simpa using hx)]
    exact ⟨(min_eq_left (not_lt.mp hx)).symm, (max_eq_right (not_lt.mp hx)).symm⟩

end Cert.Nms

end
-- ==== Proof.Hand.KPay.lean ====
/-
  The loop's payloads and those of the last lines, element by element.
-/
module

public import proofs.«01_k».proof.Proof.Hand.KRun
public import proofs.«01_k».proof.Proof.Hand.Post
public import proofs.«01_k».proof.Proof.Hand.Nms
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Nms

theorem trips_eq : k0_t1_loop.trips = 1024 := by decide

theorem lt_trips (k : Fin k0_t1_loop.trips) : k.val < 1024 := lt_of_lt_of_eq k.isLt trips_eq

/-- A trip's candidate. -/
def kc (k : Fin k0_t1_loop.trips) : Fin 1024 := ⟨k.val, lt_trips k⟩

theorem iv_eq (k : ℕ) : (Scf.iv 0#32 1#32 k : BitVec 32) = BitVec.ofNat 32 k := by
  induction k with
  | zero => rfl
  | succ k ih => rw [Scf.iv_succ, ih]; exact (BitVec.ofNat_add k 1).symm

theorem eq_small (i j : ℕ) (hi : i < 2 ^ 32) (hj : j < 2 ^ 32) :
    IntOp.cmpi .eq (BitVec.ofNat 32 i) (BitVec.ofNat 32 j) = BitVec.ofBool (decide (i = j)) := by
  show BitVec.ofBool (decide (BitVec.ofNat 32 i = BitVec.ofNat 32 j)) = _
  congr 1
  refine decide_eq_decide.mpr ⟨fun h => ?_, fun h => by rw [h]⟩
  have := congrArg BitVec.toNat h
  rwa [BitVec.toNat_ofNat, BitVec.toNat_ofNat, Nat.mod_eq_of_lt hi, Nat.mod_eq_of_lt hj] at this

theorem sitofp_bit (x : BitVec 1) : FloatOps.sitofp (F := Ideal) .f32 (BitVec.setWidth 32 x) = (((x.toNat : ℝ)) : EReal) := by
  show ((((BitVec.setWidth 32 x).toInt : ℝ)) : EReal) = _
  have h : ∀ x : BitVec 1, (BitVec.setWidth 32 x).toInt = (x.toNat : ℤ) := by decide
  rw [h, Int.cast_natCast]

/-- A mask as a number. -/
def bn (b : Bool) : EReal := if b = true then 1 else 0

theorem pay57_at (k : Fin k0_t1_loop.trips) (j : Fin 1024) : k0_pay57 k (ix2 0 j) = BitVec.ofBool (decide (j = kc k)) := by
  unfold k0_pay57
  pointwise
  rw [iv_eq, eq_small _ _ (by omega) (by have := lt_trips k; omega)]
  congr 1
  exact decide_eq_decide.mpr (Fin.ext_iff (a := j) (b := kc k)).symm

theorem sum_hot (k : Fin k0_t1_loop.trips) (f : Fin 1024 → EReal) :
    ∑ x : Fin 1024, Scalar.select (k0_pay57 k (ix2 0 x)) (f x) 0 = f (kc k) := by
  rw [Finset.sum_eq_single (kc k)]
  · rw [pay57_at, decide_eq_true rfl]
    rfl
  · intro x _ hx
    rw [pay57_at, decide_eq_false hx]
    rfl
  · intro h
    exact absurd (Finset.mem_univ _) h

theorem pay58_at (k : Fin k0_t1_loop.trips) (v : Vec Ideal S1x1024 .f32) : k0_pay58 (F := Ideal) k v = v (ix2 0 (kc k)) := by
  unfold k0_pay58
  pointwise
  refine (Finset.sum_congr rfl fun _ _ => sum_hot k fun x => v (ix2 0 x)).trans ?_
  simp

theorem one_sub_one : (1 : EReal) - 1 = 0 := by
  rw [← EReal.coe_one, ← EReal.coe_sub, sub_self, EReal.coe_zero]

theorem pay59_at (k : Fin k0_t1_loop.trips) (v g : Vec Ideal S1x1024 .f32) (j : Fin 1024) (p : Fin 1024 → Bool)
    (o : Fin 1024 → Fin 4 → EReal) (hv : ∀ j, v (ix2 0 j) = bn (p j)) (hg : ∀ j, g (ix2 0 j) = iou o (kc k) j) :
    k0_pay59 (F := Ideal) k v g (ix2 0 j) = bn (p j && !(p (kc k) && supp o (kc k) j)) := by
  unfold k0_pay59
  pointwise
  rw [iv_eq, sgt_small k.val j.val (by have := lt_trips k; omega) (by omega), andi_bool, sitofp_bit, pay58_at, hv, hv, hg]
  rw [show (decide (Ideal.ofBits .f32 1055286886#32 < iou o (kc k) j) && decide (k.val < j.val)) = supp o (kc k) j from rfl]
  unfold bn
  cases p j <;> cases p (kc k) <;> cases supp o (kc k) j <;> simp [one_sub_one]

theorem pay53_at (v : Vec Ideal S1x1024 .f32) (s : Fin 1024 → EReal) (hv : ∀ j, v (ix2 0 j) = s j) (j : Fin 1024) :
    k0_pay53 (F := Ideal) v (ix2 0 j) = bn (keep0 s j) := by
  unfold k0_pay53
  pointwise
  rw [hv]
  unfold bn keep0 thr
  simp only [decide_eq_true_eq]

theorem pay60_at (v : Vec Ideal S1x1x4 .f32) (q : Fin 4) : k0_pay60 (F := Ideal) v (ix3 0 0 q) = v (ix3 0 0 q) := by
  unfold k0_pay60
  pointwise

theorem pay61_at (k : Fin k0_t1_loop.trips) (v : Vec Ideal S1x1x1024 .f32) : k0_pay61 (F := Ideal) k v (ix3 0 0 0) = v (ix3 0 0 (kc k)) := by
  unfold k0_pay61
  pointwise
  refine (Finset.sum_congr rfl fun _ _ => sum_hot k fun x => v (ix3 0 0 x)).trans ?_
  simp

theorem pay62_at (k : Fin k0_t1_loop.trips) (v : Vec Ideal S1x1x1024 .f32) : k0_pay62 (F := Ideal) k v (ix3 0 0 0) = v (ix3 0 0 (kc k)) := by
  unfold k0_pay62
  pointwise
  refine (Finset.sum_congr rfl fun _ _ => sum_hot k fun x => v (ix3 0 0 x)).trans ?_
  simp

theorem pay54_at (r : Fin 300) (q : Fin 4) : k0_pay54 (F := Ideal) (ix3 0 r q) = 0 := by
  unfold k0_pay54
  pointwise

theorem pay55_at (r : Fin 300) : k0_pay55 (F := Ideal) (ix3 0 r 0) = 0 := by
  unfold k0_pay55
  pointwise

theorem pay56_at (r : Fin 300) : k0_pay56 (F := Ideal) (ix3 0 r 0) = 0 := by
  unfold k0_pay56
  pointwise

variable (lbx : Vec Ideal S1x300x4 .f32) (lsc lcl : Vec Ideal S1x300x1 .f32)

theorem pay63_at (r : Fin 300) (q : Fin 4) : k0_pay63 (F := Ideal) lbx (ix2 r q) = max 0 (lbx (ix3 0 r q)) := by
  unfold k0_pay63
  pointwise

theorem pay65_at (r : Fin 300) (q : Fin 4) : k0_pay65 (F := Ideal) (k0_pay63 lbx) k0_pay64 (ix2 r q) = clip (lbx (ix3 0 r q)) := by
  unfold k0_pay65 k0_pay64
  pointwise
  rw [pay63_at]
  rfl

theorem pay67_at (r : Fin 300) : k0_pay67 (F := Ideal) (k0_pay63 lbx) k0_pay64 (ix2 r 0) = clip (lbx (ix3 0 r 0)) := by
  unfold k0_pay67
  pointwise
  exact pay65_at lbx r 0

theorem pay68_at (r : Fin 300) : k0_pay68 (F := Ideal) (k0_pay63 lbx) k0_pay64 (ix2 r 0) = clip (lbx (ix3 0 r 1)) := by
  unfold k0_pay68
  pointwise
  exact pay65_at lbx r 1

theorem pay69_at (r : Fin 300) : k0_pay69 (F := Ideal) (k0_pay63 lbx) k0_pay64 (ix2 r 0) = clip (lbx (ix3 0 r 2)) := by
  unfold k0_pay69
  pointwise
  exact pay65_at lbx r 2

theorem pay70_at (r : Fin 300) : k0_pay70 (F := Ideal) (k0_pay63 lbx) k0_pay64 (ix2 r 0) = clip (lbx (ix3 0 r 3)) := by
  unfold k0_pay70
  pointwise
  exact pay65_at lbx r 3

theorem pay66_at (r : Fin 300) : k0_pay66 (F := Ideal) lsc (ix2 r 0) = lsc (ix3 0 r 0) := by
  unfold k0_pay66
  pointwise

theorem pay71_at (r : Fin 300) : k0_pay71 (F := Ideal) (k0_pay63 lbx) k0_pay64 lsc (ix2 r 0)
    = ((((okB (lsc (ix3 0 r 0)) fun k => clip (lbx (ix3 0 r k))).toNat : ℝ)) : EReal) := by
  unfold k0_pay71
  pointwise
  rw [pay66_at, pay67_at, pay68_at, pay69_at, pay70_at]
  exact sitofp_bit _

theorem pay72_at (r : Fin 300) (q : Fin 4) : k0_pay72 (F := Ideal) (k0_pay63 lbx) k0_pay64 lsc (ix3 0 r q)
    = srt (fun k => clip (lbx (ix3 0 r k))) q * ((((okB (lsc (ix3 0 r 0)) fun k => clip (lbx (ix3 0 r k))).toNat : ℝ)) : EReal) := by
  unfold k0_pay72
  fin_cases q
  · pointwise
    rw [pay71_at, pay67_at, pay69_at]
    rfl
  · pointwise
    rw [pay71_at, pay68_at, pay70_at]
    rfl
  · pointwise
    rw [pay71_at, pay67_at, pay69_at]
    rfl
  · pointwise
    rw [pay71_at, pay68_at, pay70_at]
    rfl

theorem pay73_at (r : Fin 300) : k0_pay73 (F := Ideal) (k0_pay63 lbx) k0_pay64 lsc (ix3 0 r 0)
    = lsc (ix3 0 r 0) * ((((okB (lsc (ix3 0 r 0)) fun k => clip (lbx (ix3 0 r k))).toNat : ℝ)) : EReal) := by
  unfold k0_pay73
  pointwise
  rw [pay66_at, pay71_at]

theorem pay1_at (r : Fin 300) : k0_pay1 (F := Ideal) (k0_pay71 (k0_pay63 lbx) k0_pay64 lsc) (FloatOps.ofBits .f32 1100480512#32) (k0_pay74 lcl) (ix3 0 r 0)
    = min (Ideal.ofBits .f32 1100480512#32) (max 0 (lcl (ix3 0 r 0))) * ((((okB (lsc (ix3 0 r 0)) fun k => clip (lbx (ix3 0 r k))).toNat : ℝ)) : EReal) := by
  unfold k0_pay1 k0_pay74
  pointwise
  rw [pay71_at]

end Cert.KernelIdeal.Hand

end
-- ==== Proof.Hand.KIou.lean ====
/-
  The overlap matrix the kernel computes, entry by entry.
-/
module

public import proofs.«01_k».proof.Proof.Hand.KPay

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Nms

/-- Intersection of two boxes. -/
def inter2 (p q : Fin 4 → EReal) : EReal :=
  max 0 (min (p 2) (q 2) - max (p 0) (q 0)) * max 0 (min (p 3) (q 3) - max (p 1) (q 1))

/-- Intersection over union of two boxes. -/
def iou2 (p q : Fin 4 → EReal) : EReal :=
  Ideal.div (inter2 p q) ((p 2 - p 0) * (p 3 - p 1) + (q 2 - q 0) * (q 3 - q 1) - inter2 p q + Ideal.ofBits .f32 0x33D6BF95#32)

theorem iou_iou2 (o : Fin 1024 → Fin 4 → EReal) (i j : Fin 1024) : iou o i j = iou2 (o i) (o j) := rfl

section Blocks

variable (a d0 d1 d2 d3 : Vec Ideal S1x1x1024 .f32) (e u0 u1 u2 u3 : Vec Ideal S1x128x1 .f32) (i : Fin 128) (j : Fin 1024)

/-- A row's box, moved by its class. -/
def rowV : Fin 4 → EReal :=
  ![u0 (ix3 0 i 0) + e (ix3 0 i 0) * Ideal.ofBits .f32 0x45800000#32, u1 (ix3 0 i 0) + e (ix3 0 i 0) * Ideal.ofBits .f32 0x45800000#32,
    u2 (ix3 0 i 0) + e (ix3 0 i 0) * Ideal.ofBits .f32 0x45800000#32, u3 (ix3 0 i 0) + e (ix3 0 i 0) * Ideal.ofBits .f32 0x45800000#32]

/-- A column's box, moved by its class. -/
def colV : Fin 4 → EReal :=
  ![d0 (ix3 0 0 j) + a (ix3 0 0 j) * Ideal.ofBits .f32 0x45800000#32, d1 (ix3 0 0 j) + a (ix3 0 0 j) * Ideal.ofBits .f32 0x45800000#32,
    d2 (ix3 0 0 j) + a (ix3 0 0 j) * Ideal.ofBits .f32 0x45800000#32, d3 (ix3 0 0 j) + a (ix3 0 0 j) * Ideal.ofBits .f32 0x45800000#32]

theorem blk0 : (k0_pay12 (F := Ideal) (k0_pay4 (F := Ideal) a d0) (k0_pay5 (F := Ideal) a d1) (k0_pay6 (F := Ideal) a d2) (k0_pay7 (F := Ideal) a d3) (k0_pay8 (F := Ideal) a d0 d1 d2 d3) (k0_pay9 e) (k0_pay10 e u0) (k0_pay11 u1) u2 u3) (ix2 i j)
    = iou2 (rowV e u0 u1 u2 u3 i) (colV a d0 d1 d2 d3 j) := by
  unfold k0_pay12 k0_pay10 k0_pay11 k0_pay9 k0_pay8 k0_pay7 k0_pay6 k0_pay5 k0_pay4 k0_pay3
  pointwise
  rfl

theorem blk128 : (k0_pay14 (F := Ideal) (k0_pay4 (F := Ideal) a d0) (k0_pay5 (F := Ideal) a d1) (k0_pay6 (F := Ideal) a d2) (k0_pay7 (F := Ideal) a d3) (k0_pay8 (F := Ideal) a d0 d1 d2 d3) (k0_pay13 e) u0 u1 u2 u3) (ix2 i j)
    = iou2 (rowV e u0 u1 u2 u3 i) (colV a d0 d1 d2 d3 j) := by
  unfold k0_pay14 k0_pay13 k0_pay8 k0_pay7 k0_pay6 k0_pay5 k0_pay4 k0_pay3
  pointwise
  rfl

theorem blk256 : (k0_pay22 (F := Ideal) (k0_pay20 (k0_pay4 (F := Ideal) a d0) (k0_pay5 (F := Ideal) a d1) (k0_pay6 (F := Ideal) a d2) (k0_pay7 (F := Ideal) a d3) e u0 u1 u2 u3) (k0_pay21 (k0_pay8 (F := Ideal) a d0 d1 d2 d3) e u0 u1 u2 u3)) (ix2 i j)
    = iou2 (rowV e u0 u1 u2 u3 i) (colV a d0 d1 d2 d3 j) := by
  unfold k0_pay22 k0_pay20 k0_pay21 k0_pay16 k0_pay17 k0_pay18 k0_pay19 k0_pay15 k0_pay8 k0_pay7 k0_pay6 k0_pay5 k0_pay4 k0_pay3
  pointwise
  rfl

theorem blk384 : (k0_pay32 (F := Ideal) (k0_pay8 (F := Ideal) a d0 d1 d2 d3) (k0_pay28 e u0 u1 u2 u3) (k0_pay29 (k0_pay5 (F := Ideal) a d1) e u1) (k0_pay30 (k0_pay7 (F := Ideal) a d3) e u3) (k0_pay31 (k0_pay4 (F := Ideal) a d0) (k0_pay6 (F := Ideal) a d2) e u0 u2) k_cst_90) (ix2 i j)
    = iou2 (rowV e u0 u1 u2 u3 i) (colV a d0 d1 d2 d3 j) := by
  unfold k0_pay32 k0_pay28 k0_pay29 k0_pay30 k0_pay31 k0_pay24 k0_pay25 k0_pay26 k0_pay27 k0_pay23 k0_pay8 k0_pay7 k0_pay6 k0_pay5 k0_pay4 k0_pay3 k_cst_90
  pointwise
  rfl

theorem blk512 : (k0_pay41 (F := Ideal) (k0_pay5 (F := Ideal) a d1) (k0_pay6 (F := Ideal) a d2) (k0_pay7 (F := Ideal) a d3) (k0_pay8 (F := Ideal) a d0 d1 d2 d3) (k0_pay36 e u2) (k0_pay37 e u3) (k0_pay38 e u0 u1 u2 u3) (k0_pay39 (k0_pay4 (F := Ideal) a d0) e u0) (k0_pay40 e u1)) (ix2 i j)
    = iou2 (rowV e u0 u1 u2 u3 i) (colV a d0 d1 d2 d3 j) := by
  unfold k0_pay41 k0_pay38 k0_pay39 k0_pay40 k0_pay36 k0_pay37 k0_pay34 k0_pay35 k0_pay33 k0_pay8 k0_pay7 k0_pay6 k0_pay5 k0_pay4 k0_pay3
  pointwise
  rfl

theorem blk640 : (k0_pay46 (F := Ideal) (k0_pay4 (F := Ideal) a d0) (k0_pay5 (F := Ideal) a d1) (k0_pay6 (F := Ideal) a d2) (k0_pay7 (F := Ideal) a d3) (k0_pay8 (F := Ideal) a d0 d1 d2 d3) (k0_pay42 e) (k0_pay43 e u0) (k0_pay44 e u1) (k0_pay45 e u2) u3) (ix2 i j)
    = iou2 (rowV e u0 u1 u2 u3 i) (colV a d0 d1 d2 d3 j) := by
  unfold k0_pay46 k0_pay43 k0_pay44 k0_pay45 k0_pay42 k0_pay8 k0_pay7 k0_pay6 k0_pay5 k0_pay4 k0_pay3
  pointwise
  rfl

theorem blk768 : (k0_pay50 (F := Ideal) (k0_pay4 (F := Ideal) a d0) (k0_pay5 (F := Ideal) a d1) (k0_pay6 (F := Ideal) a d2) (k0_pay7 (F := Ideal) a d3) (k0_pay8 (F := Ideal) a d0 d1 d2 d3) (k0_pay47 e) (k0_pay48 e u0) (k0_pay49 u1) u2 u3) (ix2 i j)
    = iou2 (rowV e u0 u1 u2 u3 i) (colV a d0 d1 d2 d3 j) := by
  unfold k0_pay50 k0_pay48 k0_pay49 k0_pay47 k0_pay8 k0_pay7 k0_pay6 k0_pay5 k0_pay4 k0_pay3
  pointwise
  rfl

theorem blk896 : (k0_pay52 (F := Ideal) (k0_pay4 (F := Ideal) a d0) (k0_pay5 (F := Ideal) a d1) (k0_pay6 (F := Ideal) a d2) (k0_pay7 (F := Ideal) a d3) (k0_pay8 (F := Ideal) a d0 d1 d2 d3) (k0_pay51 e) u0 u1 u2 u3) (ix2 i j)
    = iou2 (rowV e u0 u1 u2 u3 i) (colV a d0 d1 d2 d3 j) := by
  unfold k0_pay52 k0_pay51 k0_pay8 k0_pay7 k0_pay6 k0_pay5 k0_pay4 k0_pay3
  pointwise
  rfl

end Blocks

end Cert.KernelIdeal.Hand

end
-- ==== Proof.Hand.KMat.lean ====
/-
  The overlap matrix after the kernel's stores: entry `(i, j)` is the overlap of boxes `i` and `j`.
-/
module

public import proofs.«01_k».proof.Proof.Hand.KIou
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Nms

theorem ld_at {κ : Kind} {sp : Space} {s : Shape} (v : View sig κ sp s .f32) (x : s.Idx → Elt Ideal .f32) {off size : Fin s.rank → ℕ}
    (inb : ∀ a, off a + size a ≤ s.size a) (y : (Rect.unit off size inb).shape.Idx) (z : s.Idx) (h : ∀ a, (z a).val = off a + (y a).val) :
    v.readAt (Elt Ideal) (Rect.unit off size inb).toLoadRect (v.rep x) y = x z := by
  rw [View.readAt_rep]
  exact congrArg x (funext fun a => Fin.ext (by
    show off a + 1 * (y a).val = (z a).val
    rw [h a, Nat.one_mul]))

theorem rowV_eq (B : Fin 1024 → Fin 4 → EReal) (cl : Fin 1024 → BitVec 32) (e u0 u1 u2 u3 : Vec Ideal S1x128x1 .f32) (i : Fin 128) (I : Fin 1024)
    (he : e (ix3 0 i 0) = (((cl I).toInt : ℝ) : EReal)) (h0 : u0 (ix3 0 i 0) = B I 0) (h1 : u1 (ix3 0 i 0) = B I 1)
    (h2 : u2 (ix3 0 i 0) = B I 2) (h3 : u3 (ix3 0 i 0) = B I 3) : rowV e u0 u1 u2 u3 i = moved B cl I := by
  unfold rowV
  rw [he, h0, h1, h2, h3]
  funext k
  fin_cases k <;> rfl

theorem colV_eq (B : Fin 1024 → Fin 4 → EReal) (cl : Fin 1024 → BitVec 32) (a d0 d1 d2 d3 : Vec Ideal S1x1x1024 .f32) (j : Fin 1024)
    (ha : a (ix3 0 0 j) = (((cl j).toInt : ℝ) : EReal)) (h0 : d0 (ix3 0 0 j) = B j 0) (h1 : d1 (ix3 0 0 j) = B j 1)
    (h2 : d2 (ix3 0 0 j) = B j 2) (h3 : d3 (ix3 0 0 j) = B j 3) : colV a d0 d1 d2 d3 j = moved B cl j := by
  unfold colV
  rw [ha, h0, h1, h2, h3]
  funext k
  fin_cases k <;> rfl

section Mat

variable (c : Dev nD) (arg2 : Memref sig .tc .vmem S1x4x1024 .f32) (arg3 : Memref sig .tc .vmem S1x1024x4 .f32) (arg4 : Memref sig .tc .vmem S1x1x1024 .f32) (arg5 : Memref sig .tc .vmem S1x1024x1 .f32)
  (x2 : Vec Ideal S1x4x1024 .f32) (x3 : Vec Ideal S1x1024x4 .f32) (x4 : Vec Ideal S1x1x1024 .f32) (x5 : Vec Ideal S1x1024x1 .f32)
  (B : Fin 1024 → Fin 4 → EReal) (cl : Fin 1024 → BitVec 32)
  (h2 : ∀ j k, x2 (ix3 0 k j) = B j k) (h3 : ∀ j k, x3 (ix3 0 j k) = B j k)
  (h4 : ∀ j, x4 (ix3 0 0 j) = (((cl j).toInt : ℝ) : EReal)) (h5 : ∀ j, x5 (ix3 0 j 0) = (((cl j).toInt : ℝ) : EReal))
include h2 h3 h4 h5

theorem mat0 (i : Fin 128) (j I : Fin 1024) (hI : I.val = 0 + i.val) :
    (k0_pay12 (F := Ideal) (k_r_1 c arg2 arg4 (arg2.view.rep x2) (arg4.view.rep x4)) (k_r_2 c arg2 arg4 (arg2.view.rep x2) (arg4.view.rep x4)) (k_r_3 c arg2 arg4 (arg2.view.rep x2) (arg4.view.rep x4)) (k_r_4 c arg2 arg4 (arg2.view.rep x2) (arg4.view.rep x4)) (k_r_5 c arg2 arg4 (arg2.view.rep x2) (arg4.view.rep x4)) (k_r_6 c arg5 (arg5.view.rep x5)) (k_r_7 c arg3 arg5 (arg3.view.rep x3) (arg5.view.rep x5)) (k_r_8 c arg3 (arg3.view.rep x3)) (View.readAt (Elt Ideal) arg3.view (Rect.unit (s := S1x1024x4) ![0, 0, 2] S1x128x1.size inb_S1x1024x4_S1x128x1_0_0_2).toLoadRect (arg3.view.rep x3)) (View.readAt (Elt Ideal) arg3.view (Rect.unit (s := S1x1024x4) ![0, 0, 3] S1x128x1.size inb_S1x1024x4_S1x128x1_0_0_3).toLoadRect (arg3.view.rep x3))) (ix2 i j) = iou (moved B cl) I j := by
  have hlt : 0 + i.val < 1024 := by clear hI; omega
  have hI' : I = ⟨0 + i.val, hlt⟩ := Fin.ext hI
  subst hI'
  show _ = iou2 (moved B cl ⟨0 + i.val, hlt⟩) (moved B cl j)
  refine (blk0 (View.readAt (Elt Ideal) arg4.view (Rect.unit (s := S1x1x1024) ![0, 0, 0] S1x1x1024.size inb_S1x1x1024_S1x1x1024_0_0_0).toLoadRect (arg4.view.rep x4)) (View.readAt (Elt Ideal) arg2.view (Rect.unit (s := S1x4x1024) ![0, 0, 0] S1x1x1024.size inb_S1x4x1024_S1x1x1024_0_0_0).toLoadRect (arg2.view.rep x2)) (View.readAt (Elt Ideal) arg2.view (Rect.unit (s := S1x4x1024) ![0, 1, 0] S1x1x1024.size inb_S1x4x1024_S1x1x1024_0_1_0).toLoadRect (arg2.view.rep x2)) (View.readAt (Elt Ideal) arg2.view (Rect.unit (s := S1x4x1024) ![0, 2, 0] S1x1x1024.size inb_S1x4x1024_S1x1x1024_0_2_0).toLoadRect (arg2.view.rep x2)) (View.readAt (Elt Ideal) arg2.view (Rect.unit (s := S1x4x1024) ![0, 3, 0] S1x1x1024.size inb_S1x4x1024_S1x1x1024_0_3_0).toLoadRect (arg2.view.rep x2))
    (View.readAt (Elt Ideal) arg5.view (Rect.unit (s := S1x1024x1) ![0, 0, 0] S1x128x1.size inb_S1x1024x1_S1x128x1_0_0_0).toLoadRect (arg5.view.rep x5)) (View.readAt (Elt Ideal) arg3.view (Rect.unit (s := S1x1024x4) ![0, 0, 0] S1x128x1.size inb_S1x1024x4_S1x128x1_0_0_0).toLoadRect (arg3.view.rep x3)) (View.readAt (Elt Ideal) arg3.view (Rect.unit (s := S1x1024x4) ![0, 0, 1] S1x128x1.size inb_S1x1024x4_S1x128x1_0_0_1).toLoadRect (arg3.view.rep x3)) (View.readAt (Elt Ideal) arg3.view (Rect.unit (s := S1x1024x4) ![0, 0, 2] S1x128x1.size inb_S1x1024x4_S1x128x1_0_0_2).toLoadRect (arg3.view.rep x3)) (View.readAt (Elt Ideal) arg3.view (Rect.unit (s := S1x1024x4) ![0, 0, 3] S1x128x1.size inb_S1x1024x4_S1x128x1_0_0_3).toLoadRect (arg3.view.rep x3)) i j).trans
    (congrArg₂ iou2 (rowV_eq B cl _ _ _ _ _ i ⟨0 + i.val, hlt⟩ ?_ ?_ ?_ ?_ ?_) (colV_eq B cl _ _ _ _ _ j ?_ ?_ ?_ ?_ ?_))
  · exact (ld_at _ _ _ _ (ix3 0 ⟨0 + i.val, hlt⟩ 0) (fun a => by fin_cases a <;> first | rfl | exact (Nat.zero_add _).symm)).trans (h5 _)
  · exact (ld_at _ _ _ _ (ix3 0 ⟨0 + i.val, hlt⟩ 0) (fun a => by fin_cases a <;> first | rfl | exact (Nat.zero_add _).symm)).trans (h3 _ _)
  · exact (ld_at _ _ _ _ (ix3 0 ⟨0 + i.val, hlt⟩ 1) (fun a => by fin_cases a <;> first | rfl | exact (Nat.zero_add _).symm)).trans (h3 _ _)
  · exact (ld_at _ _ _ _ (ix3 0 ⟨0 + i.val, hlt⟩ 2) (fun a => by fin_cases a <;> first | rfl | exact (Nat.zero_add _).symm)).trans (h3 _ _)
  · exact (ld_at _ _ _ _ (ix3 0 ⟨0 + i.val, hlt⟩ 3) (fun a => by fin_cases a <;> first | rfl | exact (Nat.zero_add _).symm)).trans (h3 _ _)
  · exact (ld_at _ _ _ _ (ix3 0 0 j) (fun a => by fin_cases a <;> first | rfl | exact (Nat.zero_add _).symm)).trans (h4 _)
  · exact (ld_at _ _ _ _ (ix3 0 0 j) (fun a => by fin_cases a <;> first | rfl | exact (Nat.zero_add _).symm)).trans (h2 _ _)
  · exact (ld_at _ _ _ _ (ix3 0 1 j) (fun a => by fin_cases a <;> first | rfl | exact (Nat.zero_add _).symm)).trans (h2 _ _)
  · exact (ld_at _ _ _ _ (ix3 0 2 j) (fun a => by fin_cases a <;> first | rfl | exact (Nat.zero_add _).symm)).trans (h2 _ _)
  · exact (ld_at _ _ _ _ (ix3 0 3 j) (fun a => by fin_cases a <;> first | rfl | exact (Nat.zero_add _).symm)).trans (h2 _ _)

theorem mat128 (i : Fin 128) (j I : Fin 1024) (hI : I.val = 128 + i.val) :
    ((k_r_10 c arg2 arg3 arg4 arg5 (arg2.view.rep x2) (arg3.view.rep x3) (arg4.view.rep x4) (arg5.view.rep x5))) (ix2 i j) = iou (moved B cl) I j := by
  have hlt : 128 + i.val < 1024 := by clear hI; omega
  have hI' : I = ⟨128 + i.val, hlt⟩ := Fin.ext hI
  subst hI'
  show _ = iou2 (moved B cl ⟨128 + i.val, hlt⟩) (moved B cl j)
  refine (blk128 (View.readAt (Elt Ideal) arg4.view (Rect.unit (s := S1x1x1024) ![0, 0, 0] S1x1x1024.size inb_S1x1x1024_S1x1x1024_0_0_0).toLoadRect (arg4.view.rep x4)) (View.readAt (Elt Ideal) arg2.view (Rect.unit (s := S1x4x1024) ![0, 0, 0] S1x1x1024.size inb_S1x4x1024_S1x1x1024_0_0_0).toLoadRect (arg2.view.rep x2)) (View.readAt (Elt Ideal) arg2.view (Rect.unit (s := S1x4x1024) ![0, 1, 0] S1x1x1024.size inb_S1x4x1024_S1x1x1024_0_1_0).toLoadRect (arg2.view.rep x2)) (View.readAt (Elt Ideal) arg2.view (Rect.unit (s := S1x4x1024) ![0, 2, 0] S1x1x1024.size inb_S1x4x1024_S1x1x1024_0_2_0).toLoadRect (arg2.view.rep x2)) (View.readAt (Elt Ideal) arg2.view (Rect.unit (s := S1x4x1024) ![0, 3, 0] S1x1x1024.size inb_S1x4x1024_S1x1x1024_0_3_0).toLoadRect (arg2.view.rep x2))
    (View.readAt (Elt Ideal) arg5.view (Rect.unit (s := S1x1024x1) ![0, 128, 0] S1x128x1.size inb_S1x1024x1_S1x128x1_0_128_0).toLoadRect (arg5.view.rep x5)) (View.readAt (Elt Ideal) arg3.view (Rect.unit (s := S1x1024x4) ![0, 128, 0] S1x128x1.size inb_S1x1024x4_S1x128x1_0_128_0).toLoadRect (arg3.view.rep x3)) (View.readAt (Elt Ideal) arg3.view (Rect.unit (s := S1x1024x4) ![0, 128, 1] S1x128x1.size inb_S1x1024x4_S1x128x1_0_128_1).toLoadRect (arg3.view.rep x3)) (View.readAt (Elt Ideal) arg3.view (Rect.unit (s := S1x1024x4) ![0, 128, 2] S1x128x1.size inb_S1x1024x4_S1x128x1_0_128_2).toLoadRect (arg3.view.rep x3)) (View.readAt (Elt Ideal) arg3.view (Rect.unit (s := S1x1024x4) ![0, 128, 3] S1x128x1.size inb_S1x1024x4_S1x128x1_0_128_3).toLoadRect (arg3.view.rep x3)) i j).trans
    (congrArg₂ iou2 (rowV_eq B cl _ _ _ _ _ i ⟨128 + i.val, hlt⟩ ?_ ?_ ?_ ?_ ?_) (colV_eq B cl _ _ _ _ _ j ?_ ?_ ?_ ?_ ?_))
  · exact (ld_at _ _ _ _ (ix3 0 ⟨128 + i.val, hlt⟩ 0) (fun a => by fin_cases a <;> first | rfl | exact (Nat.zero_add _).symm)).trans (h5 _)
  · exact (ld_at _ _ _ _ (ix3 0 ⟨128 + i.val, hlt⟩ 0) (fun a => by fin_cases a <;> first | rfl | exact (Nat.zero_add _).symm)).trans (h3 _ _)
  · exact (ld_at _ _ _ _ (ix3 0 ⟨128 + i.val, hlt⟩ 1) (fun a => by fin_cases a <;> first | rfl | exact (Nat.zero_add _).symm)).trans (h3 _ _)
  · exact (ld_at _ _ _ _ (ix3 0 ⟨128 + i.val, hlt⟩ 2) (fun a => by fin_cases a <;> first | rfl | exact (Nat.zero_add _).symm)).trans (h3 _ _)
  · exact (ld_at _ _ _ _ (ix3 0 ⟨128 + i.val, hlt⟩ 3) (fun a => by fin_cases a <;> first | rfl | exact (Nat.zero_add _).symm)).trans (h3 _ _)
  · exact (ld_at _ _ _ _ (ix3 0 0 j) (fun a => by fin_cases a <;> first | rfl | exact (Nat.zero_add _).symm)).trans (h4 _)
  · exact (ld_at _ _ _ _ (ix3 0 0 j) (fun a => by fin_cases a <;> first | rfl | exact (Nat.zero_add _).symm)).trans (h2 _ _)
  · exact (ld_at _ _ _ _ (ix3 0 1 j) (fun a => by fin_cases a <;> first | rfl | exact (Nat.zero_add _).symm)).trans (h2 _ _)
  · exact (ld_at _ _ _ _ (ix3 0 2 j) (fun a => by fin_cases a <;> first | rfl | exact (Nat.zero_add _).symm)).trans (h2 _ _)
  · exact (ld_at _ _ _ _ (ix3 0 3 j) (fun a => by fin_cases a <;> first | rfl | exact (Nat.zero_add _).symm)).trans (h2 _ _)

theorem mat256 (i : Fin 128) (j I : Fin 1024) (hI : I.val = 256 + i.val) :
    (k0_pay22 (F := Ideal) (k_r_11 c arg2 arg3 arg4 arg5 (arg2.view.rep x2) (arg3.view.rep x3) (arg4.view.rep x4) (arg5.view.rep x5)) (k_r_12 c arg2 arg3 arg4 arg5 (arg2.view.rep x2) (arg3.view.rep x3) (arg4.view.rep x4) (arg5.view.rep x5))) (ix2 i j) = iou (moved B cl) I j := by
  have hlt : 256 + i.val < 1024 := by clear hI; omega
  have hI' : I = ⟨256 + i.val, hlt⟩ := Fin.ext hI
  subst hI'
  show _ = iou2 (moved B cl ⟨256 + i.val, hlt⟩) (moved B cl j)
  refine (blk256 (View.readAt (Elt Ideal) arg4.view (Rect.unit (s := S1x1x1024) ![0, 0, 0] S1x1x1024.size inb_S1x1x1024_S1x1x1024_0_0_0).toLoadRect (arg4.view.rep x4)) (View.readAt (Elt Ideal) arg2.view (Rect.unit (s := S1x4x1024) ![0, 0, 0] S1x1x1024.size inb_S1x4x1024_S1x1x1024_0_0_0).toLoadRect (arg2.view.rep x2)) (View.readAt (Elt Ideal) arg2.view (Rect.unit (s := S1x4x1024) ![0, 1, 0] S1x1x1024.size inb_S1x4x1024_S1x1x1024_0_1_0).toLoadRect (arg2.view.rep x2)) (View.readAt (Elt Ideal) arg2.view (Rect.unit (s := S1x4x1024) ![0, 2, 0] S1x1x1024.size inb_S1x4x1024_S1x1x1024_0_2_0).toLoadRect (arg2.view.rep x2)) (View.readAt (Elt Ideal) arg2.view (Rect.unit (s := S1x4x1024) ![0, 3, 0] S1x1x1024.size inb_S1x4x1024_S1x1x1024_0_3_0).toLoadRect (arg2.view.rep x2))
    (View.readAt (Elt Ideal) arg5.view (Rect.unit (s := S1x1024x1) ![0, 256, 0] S1x128x1.size inb_S1x1024x1_S1x128x1_0_256_0).toLoadRect (arg5.view.rep x5)) (View.readAt (Elt Ideal) arg3.view (Rect.unit (s := S1x1024x4) ![0, 256, 0] S1x128x1.size inb_S1x1024x4_S1x128x1_0_256_0).toLoadRect (arg3.view.rep x3)) (View.readAt (Elt Ideal) arg3.view (Rect.unit (s := S1x1024x4) ![0, 256, 1] S1x128x1.size inb_S1x1024x4_S1x128x1_0_256_1).toLoadRect (arg3.view.rep x3)) (View.readAt (Elt Ideal) arg3.view (Rect.unit (s := S1x1024x4) ![0, 256, 2] S1x128x1.size inb_S1x1024x4_S1x128x1_0_256_2).toLoadRect (arg3.view.rep x3)) (View.readAt (Elt Ideal) arg3.view (Rect.unit (s := S1x1024x4) ![0, 256, 3] S1x128x1.size inb_S1x1024x4_S1x128x1_0_256_3).toLoadRect (arg3.view.rep x3)) i j).trans
    (congrArg₂ iou2 (rowV_eq B cl _ _ _ _ _ i ⟨256 + i.val, hlt⟩ ?_ ?_ ?_ ?_ ?_) (colV_eq B cl _ _ _ _ _ j ?_ ?_ ?_ ?_ ?_))
  · exact (ld_at _ _ _ _ (ix3 0 ⟨256 + i.val, hlt⟩ 0) (fun a => by fin_cases a <;> first | rfl | exact (Nat.zero_add _).symm)).trans (h5 _)
  · exact (ld_at _ _ _ _ (ix3 0 ⟨256 + i.val, hlt⟩ 0) (fun a => by fin_cases a <;> first | rfl | exact (Nat.zero_add _).symm)).trans (h3 _ _)
  · exact (ld_at _ _ _ _ (ix3 0 ⟨256 + i.val, hlt⟩ 1) (fun a => by fin_cases a <;> first | rfl | exact (Nat.zero_add _).symm)).trans (h3 _ _)
  · exact (ld_at _ _ _ _ (ix3 0 ⟨256 + i.val, hlt⟩ 2) (fun a => by fin_cases a <;> first | rfl | exact (Nat.zero_add _).symm)).trans (h3 _ _)
  · exact (ld_at _ _ _ _ (ix3 0 ⟨256 + i.val, hlt⟩ 3) (fun a => by fin_cases a <;> first | rfl | exact (Nat.zero_add _).symm)).trans (h3 _ _)
  · exact (ld_at _ _ _ _ (ix3 0 0 j) (fun a => by fin_cases a <;> first | rfl | exact (Nat.zero_add _).symm)).trans (h4 _)
  · exact (ld_at _ _ _ _ (ix3 0 0 j) (fun a => by fin_cases a <;> first | rfl | exact (Nat.zero_add _).symm)).trans (h2 _ _)
  · exact (ld_at _ _ _ _ (ix3 0 1 j) (fun a => by fin_cases a <;> first | rfl | exact (Nat.zero_add _).symm)).trans (h2 _ _)
  · exact (ld_at _ _ _ _ (ix3 0 2 j) (fun a => by fin_cases a <;> first | rfl | exact (Nat.zero_add _).symm)).trans (h2 _ _)
  · exact (ld_at _ _ _ _ (ix3 0 3 j) (fun a => by fin_cases a <;> first | rfl | exact (Nat.zero_add _).symm)).trans (h2 _ _)

theorem mat384 (i : Fin 128) (j I : Fin 1024) (hI : I.val = 384 + i.val) :
    (k0_pay32 (F := Ideal) (k_r_5 c arg2 arg4 (arg2.view.rep x2) (arg4.view.rep x4)) (k_r_13 c arg3 arg5 (arg3.view.rep x3) (arg5.view.rep x5)) (k_r_14 c arg2 arg3 arg4 arg5 (arg2.view.rep x2) (arg3.view.rep x3) (arg4.view.rep x4) (arg5.view.rep x5)) (k_r_15 c arg2 arg3 arg4 arg5 (arg2.view.rep x2) (arg3.view.rep x3) (arg4.view.rep x4) (arg5.view.rep x5)) (k_r_16 c arg2 arg3 arg4 arg5 (arg2.view.rep x2) (arg3.view.rep x3) (arg4.view.rep x4) (arg5.view.rep x5)) k_cst_90) (ix2 i j) = iou (moved B cl) I j := by
  have hlt : 384 + i.val < 1024 := by clear hI; omega
  have hI' : I = ⟨384 + i.val, hlt⟩ := Fin.ext hI
  subst hI'
  show _ = iou2 (moved B cl ⟨384 + i.val, hlt⟩) (moved B cl j)
  refine (blk384 (View.readAt (Elt Ideal) arg4.view (Rect.unit (s := S1x1x1024) ![0, 0, 0] S1x1x1024.size inb_S1x1x1024_S1x1x1024_0_0_0).toLoadRect (arg4.view.rep x4)) (View.readAt (Elt Ideal) arg2.view (Rect.unit (s := S1x4x1024) ![0, 0, 0] S1x1x1024.size inb_S1x4x1024_S1x1x1024_0_0_0).toLoadRect (arg2.view.rep x2)) (View.readAt (Elt Ideal) arg2.view (Rect.unit (s := S1x4x1024) ![0, 1, 0] S1x1x1024.size inb_S1x4x1024_S1x1x1024_0_1_0).toLoadRect (arg2.view.rep x2)) (View.readAt (Elt Ideal) arg2.view (Rect.unit (s := S1x4x1024) ![0, 2, 0] S1x1x1024.size inb_S1x4x1024_S1x1x1024_0_2_0).toLoadRect (arg2.view.rep x2)) (View.readAt (Elt Ideal) arg2.view (Rect.unit (s := S1x4x1024) ![0, 3, 0] S1x1x1024.size inb_S1x4x1024_S1x1x1024_0_3_0).toLoadRect (arg2.view.rep x2))
    (View.readAt (Elt Ideal) arg5.view (Rect.unit (s := S1x1024x1) ![0, 384, 0] S1x128x1.size inb_S1x1024x1_S1x128x1_0_384_0).toLoadRect (arg5.view.rep x5)) (View.readAt (Elt Ideal) arg3.view (Rect.unit (s := S1x1024x4) ![0, 384, 0] S1x128x1.size inb_S1x1024x4_S1x128x1_0_384_0).toLoadRect (arg3.view.rep x3)) (View.readAt (Elt Ideal) arg3.view (Rect.unit (s := S1x1024x4) ![0, 384, 1] S1x128x1.size inb_S1x1024x4_S1x128x1_0_384_1).toLoadRect (arg3.view.rep x3)) (View.readAt (Elt Ideal) arg3.view (Rect.unit (s := S1x1024x4) ![0, 384, 2] S1x128x1.size inb_S1x1024x4_S1x128x1_0_384_2).toLoadRect (arg3.view.rep x3)) (View.readAt (Elt Ideal) arg3.view (Rect.unit (s := S1x1024x4) ![0, 384, 3] S1x128x1.size inb_S1x1024x4_S1x128x1_0_384_3).toLoadRect (arg3.view.rep x3)) i j).trans
    (congrArg₂ iou2 (rowV_eq B cl _ _ _ _ _ i ⟨384 + i.val, hlt⟩ ?_ ?_ ?_ ?_ ?_) (colV_eq B cl _ _ _ _ _ j ?_ ?_ ?_ ?_ ?_))
  · exact (ld_at _ _ _ _ (ix3 0 ⟨384 + i.val, hlt⟩ 0) (fun a => by fin_cases a <;> first | rfl | exact (Nat.zero_add _).symm)).trans (h5 _)
  · exact (ld_at _ _ _ _ (ix3 0 ⟨384 + i.val, hlt⟩ 0) (fun a => by fin_cases a <;> first | rfl | exact (Nat.zero_add _).symm)).trans (h3 _ _)
  · exact (ld_at _ _ _ _ (ix3 0 ⟨384 + i.val, hlt⟩ 1) (fun a => by fin_cases a <;> first | rfl | exact (Nat.zero_add _).symm)).trans (h3 _ _)
  · exact (ld_at _ _ _ _ (ix3 0 ⟨384 + i.val, hlt⟩ 2) (fun a => by fin_cases a <;> first | rfl | exact (Nat.zero_add _).symm)).trans (h3 _ _)
  · exact (ld_at _ _ _ _ (ix3 0 ⟨384 + i.val, hlt⟩ 3) (fun a => by fin_cases a <;> first | rfl | exact (Nat.zero_add _).symm)).trans (h3 _ _)
  · exact (ld_at _ _ _ _ (ix3 0 0 j) (fun a => by fin_cases a <;> first | rfl | exact (Nat.zero_add _).symm)).trans (h4 _)
  · exact (ld_at _ _ _ _ (ix3 0 0 j) (fun a => by fin_cases a <;> first | rfl | exact (Nat.zero_add _).symm)).trans (h2 _ _)
  · exact (ld_at _ _ _ _ (ix3 0 1 j) (fun a => by fin_cases a <;> first | rfl | exact (Nat.zero_add _).symm)).trans (h2 _ _)
  · exact (ld_at _ _ _ _ (ix3 0 2 j) (fun a => by fin_cases a <;> first | rfl | exact (Nat.zero_add _).symm)).trans (h2 _ _)
  · exact (ld_at _ _ _ _ (ix3 0 3 j) (fun a => by fin_cases a <;> first | rfl | exact (Nat.zero_add _).symm)).trans (h2 _ _)

theorem mat512 (i : Fin 128) (j I : Fin 1024) (hI : I.val = 512 + i.val) :
    (k0_pay41 (F := Ideal) (k_r_2 c arg2 arg4 (arg2.view.rep x2) (arg4.view.rep x4)) (k_r_3 c arg2 arg4 (arg2.view.rep x2) (arg4.view.rep x4)) (k_r_4 c arg2 arg4 (arg2.view.rep x2) (arg4.view.rep x4)) (k_r_5 c arg2 arg4 (arg2.view.rep x2) (arg4.view.rep x4)) (k_r_17 c arg3 arg5 (arg3.view.rep x3) (arg5.view.rep x5)) (k_r_18 c arg3 arg5 (arg3.view.rep x3) (arg5.view.rep x5)) (k_r_19 c arg3 arg5 (arg3.view.rep x3) (arg5.view.rep x5)) (k_r_20 c arg2 arg3 arg4 arg5 (arg2.view.rep x2) (arg3.view.rep x3) (arg4.view.rep x4) (arg5.view.rep x5)) (k_r_21 c arg3 arg5 (arg3.view.rep x3) (arg5.view.rep x5))) (ix2 i j) = iou (moved B cl) I j := by
  have hlt : 512 + i.val < 1024 := by clear hI; omega
  have hI' : I = ⟨512 + i.val, hlt⟩ := Fin.ext hI
  subst hI'
  show _ = iou2 (moved B cl ⟨512 + i.val, hlt⟩) (moved B cl j)
  refine (blk512 (View.readAt (Elt Ideal) arg4.view (Rect.unit (s := S1x1x1024) ![0, 0, 0] S1x1x1024.size inb_S1x1x1024_S1x1x1024_0_0_0).toLoadRect (arg4.view.rep x4)) (View.readAt (Elt Ideal) arg2.view (Rect.unit (s := S1x4x1024) ![0, 0, 0] S1x1x1024.size inb_S1x4x1024_S1x1x1024_0_0_0).toLoadRect (arg2.view.rep x2)) (View.readAt (Elt Ideal) arg2.view (Rect.unit (s := S1x4x1024) ![0, 1, 0] S1x1x1024.size inb_S1x4x1024_S1x1x1024_0_1_0).toLoadRect (arg2.view.rep x2)) (View.readAt (Elt Ideal) arg2.view (Rect.unit (s := S1x4x1024) ![0, 2, 0] S1x1x1024.size inb_S1x4x1024_S1x1x1024_0_2_0).toLoadRect (arg2.view.rep x2)) (View.readAt (Elt Ideal) arg2.view (Rect.unit (s := S1x4x1024) ![0, 3, 0] S1x1x1024.size inb_S1x4x1024_S1x1x1024_0_3_0).toLoadRect (arg2.view.rep x2))
    (View.readAt (Elt Ideal) arg5.view (Rect.unit (s := S1x1024x1) ![0, 512, 0] S1x128x1.size inb_S1x1024x1_S1x128x1_0_512_0).toLoadRect (arg5.view.rep x5)) (View.readAt (Elt Ideal) arg3.view (Rect.unit (s := S1x1024x4) ![0, 512, 0] S1x128x1.size inb_S1x1024x4_S1x128x1_0_512_0).toLoadRect (arg3.view.rep x3)) (View.readAt (Elt Ideal) arg3.view (Rect.unit (s := S1x1024x4) ![0, 512, 1] S1x128x1.size inb_S1x1024x4_S1x128x1_0_512_1).toLoadRect (arg3.view.rep x3)) (View.readAt (Elt Ideal) arg3.view (Rect.unit (s := S1x1024x4) ![0, 512, 2] S1x128x1.size inb_S1x1024x4_S1x128x1_0_512_2).toLoadRect (arg3.view.rep x3)) (View.readAt (Elt Ideal) arg3.view (Rect.unit (s := S1x1024x4) ![0, 512, 3] S1x128x1.size inb_S1x1024x4_S1x128x1_0_512_3).toLoadRect (arg3.view.rep x3)) i j).trans
    (congrArg₂ iou2 (rowV_eq B cl _ _ _ _ _ i ⟨512 + i.val, hlt⟩ ?_ ?_ ?_ ?_ ?_) (colV_eq B cl _ _ _ _ _ j ?_ ?_ ?_ ?_ ?_))
  · exact (ld_at _ _ _ _ (ix3 0 ⟨512 + i.val, hlt⟩ 0) (fun a => by fin_cases a <;> first | rfl | exact (Nat.zero_add _).symm)).trans (h5 _)
  · exact (ld_at _ _ _ _ (ix3 0 ⟨512 + i.val, hlt⟩ 0) (fun a => by fin_cases a <;> first | rfl | exact (Nat.zero_add _).symm)).trans (h3 _ _)
  · exact (ld_at _ _ _ _ (ix3 0 ⟨512 + i.val, hlt⟩ 1) (fun a => by fin_cases a <;> first | rfl | exact (Nat.zero_add _).symm)).trans (h3 _ _)
  · exact (ld_at _ _ _ _ (ix3 0 ⟨512 + i.val, hlt⟩ 2) (fun a => by fin_cases a <;> first | rfl | exact (Nat.zero_add _).symm)).trans (h3 _ _)
  · exact (ld_at _ _ _ _ (ix3 0 ⟨512 + i.val, hlt⟩ 3) (fun a => by fin_cases a <;> first | rfl | exact (Nat.zero_add _).symm)).trans (h3 _ _)
  · exact (ld_at _ _ _ _ (ix3 0 0 j) (fun a => by fin_cases a <;> first | rfl | exact (Nat.zero_add _).symm)).trans (h4 _)
  · exact (ld_at _ _ _ _ (ix3 0 0 j) (fun a => by fin_cases a <;> first | rfl | exact (Nat.zero_add _).symm)).trans (h2 _ _)
  · exact (ld_at _ _ _ _ (ix3 0 1 j) (fun a => by fin_cases a <;> first | rfl | exact (Nat.zero_add _).symm)).trans (h2 _ _)
  · exact (ld_at _ _ _ _ (ix3 0 2 j) (fun a => by fin_cases a <;> first | rfl | exact (Nat.zero_add _).symm)).trans (h2 _ _)
  · exact (ld_at _ _ _ _ (ix3 0 3 j) (fun a => by fin_cases a <;> first | rfl | exact (Nat.zero_add _).symm)).trans (h2 _ _)

theorem mat640 (i : Fin 128) (j I : Fin 1024) (hI : I.val = 640 + i.val) :
    (k0_pay46 (F := Ideal) (k_r_1 c arg2 arg4 (arg2.view.rep x2) (arg4.view.rep x4)) (k_r_2 c arg2 arg4 (arg2.view.rep x2) (arg4.view.rep x4)) (k_r_3 c arg2 arg4 (arg2.view.rep x2) (arg4.view.rep x4)) (k_r_4 c arg2 arg4 (arg2.view.rep x2) (arg4.view.rep x4)) (k_r_5 c arg2 arg4 (arg2.view.rep x2) (arg4.view.rep x4)) (k_r_22 c arg5 (arg5.view.rep x5)) (k_r_23 c arg3 arg5 (arg3.view.rep x3) (arg5.view.rep x5)) (k_r_24 c arg3 arg5 (arg3.view.rep x3) (arg5.view.rep x5)) (k_r_25 c arg3 arg5 (arg3.view.rep x3) (arg5.view.rep x5)) (View.readAt (Elt Ideal) arg3.view (Rect.unit (s := S1x1024x4) ![0, 640, 3] S1x128x1.size inb_S1x1024x4_S1x128x1_0_640_3).toLoadRect (arg3.view.rep x3))) (ix2 i j) = iou (moved B cl) I j := by
  have hlt : 640 + i.val < 1024 := by clear hI; omega
  have hI' : I = ⟨640 + i.val, hlt⟩ := Fin.ext hI
  subst hI'
  show _ = iou2 (moved B cl ⟨640 + i.val, hlt⟩) (moved B cl j)
  refine (blk640 (View.readAt (Elt Ideal) arg4.view (Rect.unit (s := S1x1x1024) ![0, 0, 0] S1x1x1024.size inb_S1x1x1024_S1x1x1024_0_0_0).toLoadRect (arg4.view.rep x4)) (View.readAt (Elt Ideal) arg2.view (Rect.unit (s := S1x4x1024) ![0, 0, 0] S1x1x1024.size inb_S1x4x1024_S1x1x1024_0_0_0).toLoadRect (arg2.view.rep x2)) (View.readAt (Elt Ideal) arg2.view (Rect.unit (s := S1x4x1024) ![0, 1, 0] S1x1x1024.size inb_S1x4x1024_S1x1x1024_0_1_0).toLoadRect (arg2.view.rep x2)) (View.readAt (Elt Ideal) arg2.view (Rect.unit (s := S1x4x1024) ![0, 2, 0] S1x1x1024.size inb_S1x4x1024_S1x1x1024_0_2_0).toLoadRect (arg2.view.rep x2)) (View.readAt (Elt Ideal) arg2.view (Rect.unit (s := S1x4x1024) ![0, 3, 0] S1x1x1024.size inb_S1x4x1024_S1x1x1024_0_3_0).toLoadRect (arg2.view.rep x2))
    (View.readAt (Elt Ideal) arg5.view (Rect.unit (s := S1x1024x1) ![0, 640, 0] S1x128x1.size inb_S1x1024x1_S1x128x1_0_640_0).toLoadRect (arg5.view.rep x5)) (View.readAt (Elt Ideal) arg3.view (Rect.unit (s := S1x1024x4) ![0, 640, 0] S1x128x1.size inb_S1x1024x4_S1x128x1_0_640_0).toLoadRect (arg3.view.rep x3)) (View.readAt (Elt Ideal) arg3.view (Rect.unit (s := S1x1024x4) ![0, 640, 1] S1x128x1.size inb_S1x1024x4_S1x128x1_0_640_1).toLoadRect (arg3.view.rep x3)) (View.readAt (Elt Ideal) arg3.view (Rect.unit (s := S1x1024x4) ![0, 640, 2] S1x128x1.size inb_S1x1024x4_S1x128x1_0_640_2).toLoadRect (arg3.view.rep x3)) (View.readAt (Elt Ideal) arg3.view (Rect.unit (s := S1x1024x4) ![0, 640, 3] S1x128x1.size inb_S1x1024x4_S1x128x1_0_640_3).toLoadRect (arg3.view.rep x3)) i j).trans
    (congrArg₂ iou2 (rowV_eq B cl _ _ _ _ _ i ⟨640 + i.val, hlt⟩ ?_ ?_ ?_ ?_ ?_) (colV_eq B cl _ _ _ _ _ j ?_ ?_ ?_ ?_ ?_))
  · exact (ld_at _ _ _ _ (ix3 0 ⟨640 + i.val, hlt⟩ 0) (fun a => by fin_cases a <;> first | rfl | exact (Nat.zero_add _).symm)).trans (h5 _)
  · exact (ld_at _ _ _ _ (ix3 0 ⟨640 + i.val, hlt⟩ 0) (fun a => by fin_cases a <;> first | rfl | exact (Nat.zero_add _).symm)).trans (h3 _ _)
  · exact (ld_at _ _ _ _ (ix3 0 ⟨640 + i.val, hlt⟩ 1) (fun a => by fin_cases a <;> first | rfl | exact (Nat.zero_add _).symm)).trans (h3 _ _)
  · exact (ld_at _ _ _ _ (ix3 0 ⟨640 + i.val, hlt⟩ 2) (fun a => by fin_cases a <;> first | rfl | exact (Nat.zero_add _).symm)).trans (h3 _ _)
  · exact (ld_at _ _ _ _ (ix3 0 ⟨640 + i.val, hlt⟩ 3) (fun a => by fin_cases a <;> first | rfl | exact (Nat.zero_add _).symm)).trans (h3 _ _)
  · exact (ld_at _ _ _ _ (ix3 0 0 j) (fun a => by fin_cases a <;> first | rfl | exact (Nat.zero_add _).symm)).trans (h4 _)
  · exact (ld_at _ _ _ _ (ix3 0 0 j) (fun a => by fin_cases a <;> first | rfl | exact (Nat.zero_add _).symm)).trans (h2 _ _)
  · exact (ld_at _ _ _ _ (ix3 0 1 j) (fun a => by fin_cases a <;> first | rfl | exact (Nat.zero_add _).symm)).trans (h2 _ _)
  · exact (ld_at _ _ _ _ (ix3 0 2 j) (fun a => by fin_cases a <;> first | rfl | exact (Nat.zero_add _).symm)).trans (h2 _ _)
  · exact (ld_at _ _ _ _ (ix3 0 3 j) (fun a => by fin_cases a <;> first | rfl | exact (Nat.zero_add _).symm)).trans (h2 _ _)

theorem mat768 (i : Fin 128) (j I : Fin 1024) (hI : I.val = 768 + i.val) :
    (k0_pay50 (F := Ideal) (k_r_1 c arg2 arg4 (arg2.view.rep x2) (arg4.view.rep x4)) (k_r_2 c arg2 arg4 (arg2.view.rep x2) (arg4.view.rep x4)) (k_r_3 c arg2 arg4 (arg2.view.rep x2) (arg4.view.rep x4)) (k_r_4 c arg2 arg4 (arg2.view.rep x2) (arg4.view.rep x4)) (k_r_5 c arg2 arg4 (arg2.view.rep x2) (arg4.view.rep x4)) (k_r_26 c arg5 (arg5.view.rep x5)) (k_r_27 c arg3 arg5 (arg3.view.rep x3) (arg5.view.rep x5)) (k_r_28 c arg3 (arg3.view.rep x3)) (View.readAt (Elt Ideal) arg3.view (Rect.unit (s := S1x1024x4) ![0, 768, 2] S1x128x1.size inb_S1x1024x4_S1x128x1_0_768_2).toLoadRect (arg3.view.rep x3)) (View.readAt (Elt Ideal) arg3.view (Rect.unit (s := S1x1024x4) ![0, 768, 3] S1x128x1.size inb_S1x1024x4_S1x128x1_0_768_3).toLoadRect (arg3.view.rep x3))) (ix2 i j) = iou (moved B cl) I j := by
  have hlt : 768 + i.val < 1024 := by clear hI; omega
  have hI' : I = ⟨768 + i.val, hlt⟩ := Fin.ext hI
  subst hI'
  show _ = iou2 (moved B cl ⟨768 + i.val, hlt⟩) (moved B cl j)
  refine (blk768 (View.readAt (Elt Ideal) arg4.view (Rect.unit (s := S1x1x1024) ![0, 0, 0] S1x1x1024.size inb_S1x1x1024_S1x1x1024_0_0_0).toLoadRect (arg4.view.rep x4)) (View.readAt (Elt Ideal) arg2.view (Rect.unit (s := S1x4x1024) ![0, 0, 0] S1x1x1024.size inb_S1x4x1024_S1x1x1024_0_0_0).toLoadRect (arg2.view.rep x2)) (View.readAt (Elt Ideal) arg2.view (Rect.unit (s := S1x4x1024) ![0, 1, 0] S1x1x1024.size inb_S1x4x1024_S1x1x1024_0_1_0).toLoadRect (arg2.view.rep x2)) (View.readAt (Elt Ideal) arg2.view (Rect.unit (s := S1x4x1024) ![0, 2, 0] S1x1x1024.size inb_S1x4x1024_S1x1x1024_0_2_0).toLoadRect (arg2.view.rep x2)) (View.readAt (Elt Ideal) arg2.view (Rect.unit (s := S1x4x1024) ![0, 3, 0] S1x1x1024.size inb_S1x4x1024_S1x1x1024_0_3_0).toLoadRect (arg2.view.rep x2))
    (View.readAt (Elt Ideal) arg5.view (Rect.unit (s := S1x1024x1) ![0, 768, 0] S1x128x1.size inb_S1x1024x1_S1x128x1_0_768_0).toLoadRect (arg5.view.rep x5)) (View.readAt (Elt Ideal) arg3.view (Rect.unit (s := S1x1024x4) ![0, 768, 0] S1x128x1.size inb_S1x1024x4_S1x128x1_0_768_0).toLoadRect (arg3.view.rep x3)) (View.readAt (Elt Ideal) arg3.view (Rect.unit (s := S1x1024x4) ![0, 768, 1] S1x128x1.size inb_S1x1024x4_S1x128x1_0_768_1).toLoadRect (arg3.view.rep x3)) (View.readAt (Elt Ideal) arg3.view (Rect.unit (s := S1x1024x4) ![0, 768, 2] S1x128x1.size inb_S1x1024x4_S1x128x1_0_768_2).toLoadRect (arg3.view.rep x3)) (View.readAt (Elt Ideal) arg3.view (Rect.unit (s := S1x1024x4) ![0, 768, 3] S1x128x1.size inb_S1x1024x4_S1x128x1_0_768_3).toLoadRect (arg3.view.rep x3)) i j).trans
    (congrArg₂ iou2 (rowV_eq B cl _ _ _ _ _ i ⟨768 + i.val, hlt⟩ ?_ ?_ ?_ ?_ ?_) (colV_eq B cl _ _ _ _ _ j ?_ ?_ ?_ ?_ ?_))
  · exact (ld_at _ _ _ _ (ix3 0 ⟨768 + i.val, hlt⟩ 0) (fun a => by fin_cases a <;> first | rfl | exact (Nat.zero_add _).symm)).trans (h5 _)
  · exact (ld_at _ _ _ _ (ix3 0 ⟨768 + i.val, hlt⟩ 0) (fun a => by fin_cases a <;> first | rfl | exact (Nat.zero_add _).symm)).trans (h3 _ _)
  · exact (ld_at _ _ _ _ (ix3 0 ⟨768 + i.val, hlt⟩ 1) (fun a => by fin_cases a <;> first | rfl | exact (Nat.zero_add _).symm)).trans (h3 _ _)
  · exact (ld_at _ _ _ _ (ix3 0 ⟨768 + i.val, hlt⟩ 2) (fun a => by fin_cases a <;> first | rfl | exact (Nat.zero_add _).symm)).trans (h3 _ _)
  · exact (ld_at _ _ _ _ (ix3 0 ⟨768 + i.val, hlt⟩ 3) (fun a => by fin_cases a <;> first | rfl | exact (Nat.zero_add _).symm)).trans (h3 _ _)
  · exact (ld_at _ _ _ _ (ix3 0 0 j) (fun a => by fin_cases a <;> first | rfl | exact (Nat.zero_add _).symm)).trans (h4 _)
  · exact (ld_at _ _ _ _ (ix3 0 0 j) (fun a => by fin_cases a <;> first | rfl | exact (Nat.zero_add _).symm)).trans (h2 _ _)
  · exact (ld_at _ _ _ _ (ix3 0 1 j) (fun a => by fin_cases a <;> first | rfl | exact (Nat.zero_add _).symm)).trans (h2 _ _)
  · exact (ld_at _ _ _ _ (ix3 0 2 j) (fun a => by fin_cases a <;> first | rfl | exact (Nat.zero_add _).symm)).trans (h2 _ _)
  · exact (ld_at _ _ _ _ (ix3 0 3 j) (fun a => by fin_cases a <;> first | rfl | exact (Nat.zero_add _).symm)).trans (h2 _ _)

theorem mat896 (i : Fin 128) (j I : Fin 1024) (hI : I.val = 896 + i.val) :
    ((k_r_30 c arg2 arg3 arg4 arg5 (arg2.view.rep x2) (arg3.view.rep x3) (arg4.view.rep x4) (arg5.view.rep x5))) (ix2 i j) = iou (moved B cl) I j := by
  have hlt : 896 + i.val < 1024 := by clear hI; omega
  have hI' : I = ⟨896 + i.val, hlt⟩ := Fin.ext hI
  subst hI'
  show _ = iou2 (moved B cl ⟨896 + i.val, hlt⟩) (moved B cl j)
  refine (blk896 (View.readAt (Elt Ideal) arg4.view (Rect.unit (s := S1x1x1024) ![0, 0, 0] S1x1x1024.size inb_S1x1x1024_S1x1x1024_0_0_0).toLoadRect (arg4.view.rep x4)) (View.readAt (Elt Ideal) arg2.view (Rect.unit (s := S1x4x1024) ![0, 0, 0] S1x1x1024.size inb_S1x4x1024_S1x1x1024_0_0_0).toLoadRect (arg2.view.rep x2)) (View.readAt (Elt Ideal) arg2.view (Rect.unit (s := S1x4x1024) ![0, 1, 0] S1x1x1024.size inb_S1x4x1024_S1x1x1024_0_1_0).toLoadRect (arg2.view.rep x2)) (View.readAt (Elt Ideal) arg2.view (Rect.unit (s := S1x4x1024) ![0, 2, 0] S1x1x1024.size inb_S1x4x1024_S1x1x1024_0_2_0).toLoadRect (arg2.view.rep x2)) (View.readAt (Elt Ideal) arg2.view (Rect.unit (s := S1x4x1024) ![0, 3, 0] S1x1x1024.size inb_S1x4x1024_S1x1x1024_0_3_0).toLoadRect (arg2.view.rep x2))
    (View.readAt (Elt Ideal) arg5.view (Rect.unit (s := S1x1024x1) ![0, 896, 0] S1x128x1.size inb_S1x1024x1_S1x128x1_0_896_0).toLoadRect (arg5.view.rep x5)) (View.readAt (Elt Ideal) arg3.view (Rect.unit (s := S1x1024x4) ![0, 896, 0] S1x128x1.size inb_S1x1024x4_S1x128x1_0_896_0).toLoadRect (arg3.view.rep x3)) (View.readAt (Elt Ideal) arg3.view (Rect.unit (s := S1x1024x4) ![0, 896, 1] S1x128x1.size inb_S1x1024x4_S1x128x1_0_896_1).toLoadRect (arg3.view.rep x3)) (View.readAt (Elt Ideal) arg3.view (Rect.unit (s := S1x1024x4) ![0, 896, 2] S1x128x1.size inb_S1x1024x4_S1x128x1_0_896_2).toLoadRect (arg3.view.rep x3)) (View.readAt (Elt Ideal) arg3.view (Rect.unit (s := S1x1024x4) ![0, 896, 3] S1x128x1.size inb_S1x1024x4_S1x128x1_0_896_3).toLoadRect (arg3.view.rep x3)) i j).trans
    (congrArg₂ iou2 (rowV_eq B cl _ _ _ _ _ i ⟨896 + i.val, hlt⟩ ?_ ?_ ?_ ?_ ?_) (colV_eq B cl _ _ _ _ _ j ?_ ?_ ?_ ?_ ?_))
  · exact (ld_at _ _ _ _ (ix3 0 ⟨896 + i.val, hlt⟩ 0) (fun a => by fin_cases a <;> first | rfl | exact (Nat.zero_add _).symm)).trans (h5 _)
  · exact (ld_at _ _ _ _ (ix3 0 ⟨896 + i.val, hlt⟩ 0) (fun a => by fin_cases a <;> first | rfl | exact (Nat.zero_add _).symm)).trans (h3 _ _)
  · exact (ld_at _ _ _ _ (ix3 0 ⟨896 + i.val, hlt⟩ 1) (fun a => by fin_cases a <;> first | rfl | exact (Nat.zero_add _).symm)).trans (h3 _ _)
  · exact (ld_at _ _ _ _ (ix3 0 ⟨896 + i.val, hlt⟩ 2) (fun a => by fin_cases a <;> first | rfl | exact (Nat.zero_add _).symm)).trans (h3 _ _)
  · exact (ld_at _ _ _ _ (ix3 0 ⟨896 + i.val, hlt⟩ 3) (fun a => by fin_cases a <;> first | rfl | exact (Nat.zero_add _).symm)).trans (h3 _ _)
  · exact (ld_at _ _ _ _ (ix3 0 0 j) (fun a => by fin_cases a <;> first | rfl | exact (Nat.zero_add _).symm)).trans (h4 _)
  · exact (ld_at _ _ _ _ (ix3 0 0 j) (fun a => by fin_cases a <;> first | rfl | exact (Nat.zero_add _).symm)).trans (h2 _ _)
  · exact (ld_at _ _ _ _ (ix3 0 1 j) (fun a => by fin_cases a <;> first | rfl | exact (Nat.zero_add _).symm)).trans (h2 _ _)
  · exact (ld_at _ _ _ _ (ix3 0 2 j) (fun a => by fin_cases a <;> first | rfl | exact (Nat.zero_add _).symm)).trans (h2 _ _)
  · exact (ld_at _ _ _ _ (ix3 0 3 j) (fun a => by fin_cases a <;> first | rfl | exact (Nat.zero_add _).symm)).trans (h2 _ _)

theorem mat_at (arg9 : Memref sig .tc .vmem S1024x1024 .f32) (i j : Fin 1024) :
    arg9.view.read (Elt Ideal) (iouB c arg2 arg3 arg4 arg5 arg9 (arg2.view.rep x2) (arg3.view.rep x3) (arg4.view.rep x4) (arg5.view.rep x5)) (ix2 i j)
      = iou (moved B cl) i j := by
  unfold iouB k_H9_8
  by_cases q896 : 896 ≤ i.val
  · exact (View.read_writes_cons_unit_of_mem arg9.view _ _ _ _ _ (ix2 (⟨i.val - 896, by omega⟩ : Fin 128) j) rfl (fun a => by
      fin_cases a
      · show i.val = 896 + (i.val - 896); omega
      · show j.val = 0 + j.val; omega)).trans
      (mat896 c arg2 arg3 arg4 arg5 x2 x3 x4 x5 B cl h2 h3 h4 h5 ⟨i.val - 896, by omega⟩ j i (by show i.val = 896 + (i.val - 896); omega))
  refine (View.read_writes_cons_unit_of_not_mem arg9.view _ _ _ _ _ rfl 0 (Or.inl (by show i.val < 896; omega))).trans ?_
  by_cases q768 : 768 ≤ i.val
  · exact (View.read_writes_cons_unit_of_mem arg9.view _ _ _ _ _ (ix2 (⟨i.val - 768, by omega⟩ : Fin 128) j) rfl (fun a => by
      fin_cases a
      · show i.val = 768 + (i.val - 768); omega
      · show j.val = 0 + j.val; omega)).trans
      (mat768 c arg2 arg3 arg4 arg5 x2 x3 x4 x5 B cl h2 h3 h4 h5 ⟨i.val - 768, by omega⟩ j i (by show i.val = 768 + (i.val - 768); omega))
  refine (View.read_writes_cons_unit_of_not_mem arg9.view _ _ _ _ _ rfl 0 (Or.inl (by show i.val < 768; omega))).trans ?_
  by_cases q640 : 640 ≤ i.val
  · exact (View.read_writes_cons_unit_of_mem arg9.view _ _ _ _ _ (ix2 (⟨i.val - 640, by omega⟩ : Fin 128) j) rfl (fun a => by
      fin_cases a
      · show i.val = 640 + (i.val - 640); omega
      · show j.val = 0 + j.val; omega)).trans
      (mat640 c arg2 arg3 arg4 arg5 x2 x3 x4 x5 B cl h2 h3 h4 h5 ⟨i.val - 640, by omega⟩ j i (by show i.val = 640 + (i.val - 640); omega))
  refine (View.read_writes_cons_unit_of_not_mem arg9.view _ _ _ _ _ rfl 0 (Or.inl (by show i.val < 640; omega))).trans ?_
  by_cases q512 : 512 ≤ i.val
  · exact (View.read_writes_cons_unit_of_mem arg9.view _ _ _ _ _ (ix2 (⟨i.val - 512, by omega⟩ : Fin 128) j) rfl (fun a => by
      fin_cases a
      · show i.val = 512 + (i.val - 512); omega
      · show j.val = 0 + j.val; omega)).trans
      (mat512 c arg2 arg3 arg4 arg5 x2 x3 x4 x5 B cl h2 h3 h4 h5 ⟨i.val - 512, by omega⟩ j i (by show i.val = 512 + (i.val - 512); omega))
  refine (View.read_writes_cons_unit_of_not_mem arg9.view _ _ _ _ _ rfl 0 (Or.inl (by show i.val < 512; omega))).trans ?_
  by_cases q384 : 384 ≤ i.val
  · exact (View.read_writes_cons_unit_of_mem arg9.view _ _ _ _ _ (ix2 (⟨i.val - 384, by omega⟩ : Fin 128) j) rfl (fun a => by
      fin_cases a
      · show i.val = 384 + (i.val - 384); omega
      · show j.val = 0 + j.val; omega)).trans
      (mat384 c arg2 arg3 arg4 arg5 x2 x3 x4 x5 B cl h2 h3 h4 h5 ⟨i.val - 384, by omega⟩ j i (by show i.val = 384 + (i.val - 384); omega))
  refine (View.read_writes_cons_unit_of_not_mem arg9.view _ _ _ _ _ rfl 0 (Or.inl (by show i.val < 384; omega))).trans ?_
  by_cases q256 : 256 ≤ i.val
  · exact (View.read_writes_cons_unit_of_mem arg9.view _ _ _ _ _ (ix2 (⟨i.val - 256, by omega⟩ : Fin 128) j) rfl (fun a => by
      fin_cases a
      · show i.val = 256 + (i.val - 256); omega
      · show j.val = 0 + j.val; omega)).trans
      (mat256 c arg2 arg3 arg4 arg5 x2 x3 x4 x5 B cl h2 h3 h4 h5 ⟨i.val - 256, by omega⟩ j i (by show i.val = 256 + (i.val - 256); omega))
  refine (View.read_writes_cons_unit_of_not_mem arg9.view _ _ _ _ _ rfl 0 (Or.inl (by show i.val < 256; omega))).trans ?_
  by_cases q128 : 128 ≤ i.val
  · exact (View.read_writes_cons_unit_of_mem arg9.view _ _ _ _ _ (ix2 (⟨i.val - 128, by omega⟩ : Fin 128) j) rfl (fun a => by
      fin_cases a
      · show i.val = 128 + (i.val - 128); omega
      · show j.val = 0 + j.val; omega)).trans
      (mat128 c arg2 arg3 arg4 arg5 x2 x3 x4 x5 B cl h2 h3 h4 h5 ⟨i.val - 128, by omega⟩ j i (by show i.val = 128 + (i.val - 128); omega))
  refine (View.read_writes_cons_unit_of_not_mem arg9.view _ _ _ _ _ rfl 0 (Or.inl (by show i.val < 128; omega))).trans ?_
  exact (View.read_writes_cons_unit_of_mem arg9.view _ _ _ _ _ (ix2 (⟨i.val - 0, by omega⟩ : Fin 128) j) rfl (fun a => by
      fin_cases a
      · show i.val = 0 + (i.val - 0); omega
      · show j.val = 0 + j.val; omega)).trans
      (mat0 c arg2 arg3 arg4 arg5 x2 x3 x4 x5 B cl h2 h3 h4 h5 ⟨i.val - 0, by omega⟩ j i (by show i.val = 0 + (i.val - 0); omega))

end Mat

end Cert.KernelIdeal.Hand

end
-- ==== Proof.Hand.KVal.lean ====
/-
  The suppression loop of the kernel: after `k` trips the keep row, the counter and the three result windows are
  those of the plain description.
-/
module

public import proofs.«01_k».proof.Proof.Hand.KMat

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Nms

theorem half_gt (b : Bool) : Scalar.cmpf (F := Ideal) .ogt (bn b) (Scalar.ofBits .f32 0x3F000000#32) = BitVec.ofBool b := by
  have hh : Ideal.ofBits .f32 0x3F000000#32 = (((1 / 2 : ℝ)) : EReal) := by
    simp [Ideal.ofBits, Ideal.ieee, -EReal.coe_mul]
    norm_num
  show BitVec.ofBool (decide (Ideal.ofBits .f32 0x3F000000#32 < bn b)) = _
  rw [hh]
  congr 1
  cases b
  · refine decide_eq_false (not_lt.mpr ?_)
    show (0 : EReal) ≤ _
    rw [← EReal.coe_zero]
    exact EReal.coe_le_coe_iff.mpr (by norm_num)
  · refine decide_eq_true ?_
    show _ < (1 : EReal)
    rw [← EReal.coe_one]
    exact EReal.coe_lt_coe_iff.mpr (by norm_num)

theorem nxt_keep {F : FTy → Type} [FloatOps F] (c : Dev nD)
    (arg1 : Memref sig .tc .vmem S1x1x1024 .f32) (arg3 : Memref sig .tc .vmem S1x1024x4 .f32) (arg4 : Memref sig .tc .vmem S1x1x1024 .f32)
    (arg6 : Memref sig .tc .vmem S1x300x4 .f32) (arg7 : Memref sig .tc .vmem S1x300x1 .f32) (arg8 : Memref sig .tc .vmem S1x300x1 .f32)
    (arg9 : Memref sig .tc .vmem S1024x1024 .f32) (arg10 : Memref sig .tc .vmem S1x1024 .f32)
    (X1 : Buf (Elt F) (arg1.view.loc (c : Thread nD τ))) (X3 : Buf (Elt F) (arg3.view.loc (c : Thread nD τ)))
    (X4 : Buf (Elt F) (arg4.view.loc (c : Thread nD τ))) (G9 : Buf (Elt F) (arg9.view.loc (c : Thread nD τ))) (k : Fin k0_t1_loop.trips)
    (s : St (F := F) c arg6 arg7 arg8 arg10) :
    (nxt c arg1 arg3 arg4 arg6 arg7 arg8 arg9 arg10 X1 X3 X4 G9 k s).keep = keepN c arg6 arg7 arg8 arg9 arg10 G9 k s := by
  by_cases h : k0_chk1 s.r (kb c arg6 arg7 arg8 arg10 k s) ∧ k0_cond1 s.r (kb c arg6 arg7 arg8 arg10 k s) = 1#1
  · rw [show nxt c arg1 arg3 arg4 arg6 arg7 arg8 arg9 arg10 X1 X3 X4 G9 k s = _ from dif_pos h]
  · rw [show nxt c arg1 arg3 arg4 arg6 arg7 arg8 arg9 arg10 X1 X3 X4 G9 k s = _ from dif_neg h]

theorem lst_succ {F : FTy → Type} [FloatOps F] (c : Dev nD)
    (arg1 : Memref sig .tc .vmem S1x1x1024 .f32) (arg2 : Memref sig .tc .vmem S1x4x1024 .f32)
    (arg3 : Memref sig .tc .vmem S1x1024x4 .f32) (arg4 : Memref sig .tc .vmem S1x1x1024 .f32)
    (arg5 : Memref sig .tc .vmem S1x1024x1 .f32) (arg6 : Memref sig .tc .vmem S1x300x4 .f32)
    (arg7 : Memref sig .tc .vmem S1x300x1 .f32) (arg8 : Memref sig .tc .vmem S1x300x1 .f32)
    (arg9 : Memref sig .tc .vmem S1024x1024 .f32) (arg10 : Memref sig .tc .vmem S1x1024 .f32)
    (X1 : Buf (Elt F) (arg1.view.loc (c : Thread nD τ))) (X2 : Buf (Elt F) (arg2.view.loc (c : Thread nD τ)))
    (X3 : Buf (Elt F) (arg3.view.loc (c : Thread nD τ))) (X4 : Buf (Elt F) (arg4.view.loc (c : Thread nD τ)))
    (X5 : Buf (Elt F) (arg5.view.loc (c : Thread nD τ))) (k : Fin k0_t1_loop.trips) :
    lst c arg1 arg2 arg3 arg4 arg5 arg6 arg7 arg8 arg9 arg10 X1 X2 X3 X4 X5 (k.val + 1)
      = nxt c arg1 arg3 arg4 arg6 arg7 arg8 arg9 arg10 X1 X3 X4 (iouB c arg2 arg3 arg4 arg5 arg9 X2 X3 X4 X5) k
          (lst c arg1 arg2 arg3 arg4 arg5 arg6 arg7 arg8 arg9 arg10 X1 X2 X3 X4 X5 k.val) := by
  unfold lst
  exact stAt_succ c arg1 arg3 arg4 arg6 arg7 arg8 arg9 arg10 _ _ _ _ _ k

section Loop

variable (c : Dev nD)
  (arg1 : Memref sig .tc .vmem S1x1x1024 .f32) (arg2 : Memref sig .tc .vmem S1x4x1024 .f32)
  (arg3 : Memref sig .tc .vmem S1x1024x4 .f32) (arg4 : Memref sig .tc .vmem S1x1x1024 .f32)
  (arg5 : Memref sig .tc .vmem S1x1024x1 .f32) (arg6 : Memref sig .tc .vmem S1x300x4 .f32)
  (arg7 : Memref sig .tc .vmem S1x300x1 .f32) (arg8 : Memref sig .tc .vmem S1x300x1 .f32)
  (arg9 : Memref sig .tc .vmem S1024x1024 .f32) (arg10 : Memref sig .tc .vmem S1x1024 .f32)
  (x1 : Vec Ideal S1x1x1024 .f32) (x2 : Vec Ideal S1x4x1024 .f32) (x3 : Vec Ideal S1x1024x4 .f32)
  (x4 : Vec Ideal S1x1x1024 .f32) (x5 : Vec Ideal S1x1024x1 .f32)

section Trip

variable (G9 : Buf (Elt Ideal) (arg9.view.loc (c : Thread nD τ))) (k : Fin k0_t1_loop.trips) (s : St (F := Ideal) c arg6 arg7 arg8 arg10)

theorem nxt_keep_at (j : Fin 1024) : arg10.view.read (Elt Ideal) (nxt c arg1 arg3 arg4 arg6 arg7 arg8 arg9 arg10 (arg1.view.rep x1) (arg3.view.rep x3) (arg4.view.rep x4) G9 k s).keep (ix2 0 j)
    = k0_pay59 (F := Ideal) k (arg10.view.read (Elt Ideal) s.keep) (gv c arg9 G9 k) (ix2 0 j) := by
  rw [nxt_keep]
  refine (congrFun (View.read_writes_full arg10.view _ _ _ _) (ix2 0 j)).trans ?_
  rw [show kv c arg6 arg7 arg8 arg10 s = arg10.view.read (Elt Ideal) s.keep from View.readAt_full _ _ _]

variable (hr : s.r.toNat ≤ 300)
include hr

section Pos

variable (h : k0_cond1 s.r (kb c arg6 arg7 arg8 arg10 k s) = 1#1)
include h

theorem nxt_pos_ob (r : Fin 300) (q : Fin 4) : arg6.view.read (Elt Ideal) (nxt c arg1 arg3 arg4 arg6 arg7 arg8 arg9 arg10 (arg1.view.rep x1) (arg3.view.rep x3) (arg4.view.rep x4) G9 k s).ob (ix3 0 r q)
    = if r.val = s.r.toNat then x3 (ix3 0 (kc k) q) else arg6.view.read (Elt Ideal) s.ob (ix3 0 r q) := by
  rw [show nxt c arg1 arg3 arg4 arg6 arg7 arg8 arg9 arg10 (arg1.view.rep x1) (arg3.view.rep x3) (arg4.view.rep x4) G9 k s = _ from dif_pos ⟨chk_of _ _ hr, h⟩]
  split
  · next e =>
    refine (View.read_writes_cons_unit_of_mem arg6.view _ _ _ _ _ (ix3 0 0 q) (off' := ![0, s.r.toNat, 0]) rfl (fun a => by
      fin_cases a
      · rfl
      · exact e
      · exact (Nat.zero_add _).symm)).trans ?_
    rw [pay60_at]
    exact ld_at _ _ _ _ (ix3 0 (kc k) q) (fun a => by
      refine Eq.trans ?_ (congrArg (fun t => t + (ix3 (0 : Fin 1) (0 : Fin 1) q a).val) (congrFun (k0_off2_eq k) a).symm)
      fin_cases a <;> first | rfl | exact (Nat.zero_add _).symm)
  · next e =>
    exact View.read_writes_cons_unit_of_not_mem arg6.view _ _ _ _ _ (off' := ![0, s.r.toNat, 0]) rfl 1 (by
      show r.val < s.r.toNat ∨ s.r.toNat + 1 ≤ r.val
      omega)

theorem nxt_pos_os (r : Fin 300) : arg7.view.read (Elt Ideal) (nxt c arg1 arg3 arg4 arg6 arg7 arg8 arg9 arg10 (arg1.view.rep x1) (arg3.view.rep x3) (arg4.view.rep x4) G9 k s).os (ix3 0 r 0)
    = if r.val = s.r.toNat then x1 (ix3 0 0 (kc k)) else arg7.view.read (Elt Ideal) s.os (ix3 0 r 0) := by
  rw [show nxt c arg1 arg3 arg4 arg6 arg7 arg8 arg9 arg10 (arg1.view.rep x1) (arg3.view.rep x3) (arg4.view.rep x4) G9 k s = _ from dif_pos ⟨chk_of _ _ hr, h⟩]
  split
  · next e =>
    refine (View.read_writes_cons_unit_of_mem arg7.view _ _ _ _ _ (ix3 0 0 0) (off' := ![0, s.r.toNat, 0]) rfl (fun a => by
      fin_cases a
      · rfl
      · exact e
      · rfl)).trans ?_
    rw [pay61_at]
    exact ld_at _ _ _ _ (ix3 0 0 (kc k)) (fun a => by
      fin_cases a <;> first | rfl | exact (Nat.zero_add _).symm)
  · next e =>
    exact View.read_writes_cons_unit_of_not_mem arg7.view _ _ _ _ _ (off' := ![0, s.r.toNat, 0]) rfl 1 (by
      show r.val < s.r.toNat ∨ s.r.toNat + 1 ≤ r.val
      omega)

theorem nxt_pos_ol (r : Fin 300) : arg8.view.read (Elt Ideal) (nxt c arg1 arg3 arg4 arg6 arg7 arg8 arg9 arg10 (arg1.view.rep x1) (arg3.view.rep x3) (arg4.view.rep x4) G9 k s).ol (ix3 0 r 0)
    = if r.val = s.r.toNat then x4 (ix3 0 0 (kc k)) else arg8.view.read (Elt Ideal) s.ol (ix3 0 r 0) := by
  rw [show nxt c arg1 arg3 arg4 arg6 arg7 arg8 arg9 arg10 (arg1.view.rep x1) (arg3.view.rep x3) (arg4.view.rep x4) G9 k s = _ from dif_pos ⟨chk_of _ _ hr, h⟩]
  split
  · next e =>
    refine (View.read_writes_cons_unit_of_mem arg8.view _ _ _ _ _ (ix3 0 0 0) (off' := ![0, s.r.toNat, 0]) rfl (fun a => by
      fin_cases a
      · rfl
      · exact e
      · rfl)).trans ?_
    rw [pay62_at]
    exact ld_at _ _ _ _ (ix3 0 0 (kc k)) (fun a => by
      fin_cases a <;> first | rfl | exact (Nat.zero_add _).symm)
  · next e =>
    exact View.read_writes_cons_unit_of_not_mem arg8.view _ _ _ _ _ (off' := ![0, s.r.toNat, 0]) rfl 1 (by
      show r.val < s.r.toNat ∨ s.r.toNat + 1 ≤ r.val
      omega)

end Pos

omit hr in
theorem nxt_neg (h : ¬ k0_cond1 s.r (kb c arg6 arg7 arg8 arg10 k s) = 1#1) :
    (nxt c arg1 arg3 arg4 arg6 arg7 arg8 arg9 arg10 (arg1.view.rep x1) (arg3.view.rep x3) (arg4.view.rep x4) G9 k s).ob = s.ob ∧ (nxt c arg1 arg3 arg4 arg6 arg7 arg8 arg9 arg10 (arg1.view.rep x1) (arg3.view.rep x3) (arg4.view.rep x4) G9 k s).os = s.os ∧ (nxt c arg1 arg3 arg4 arg6 arg7 arg8 arg9 arg10 (arg1.view.rep x1) (arg3.view.rep x3) (arg4.view.rep x4) G9 k s).ol = s.ol := by
  rw [show nxt c arg1 arg3 arg4 arg6 arg7 arg8 arg9 arg10 (arg1.view.rep x1) (arg3.view.rep x3) (arg4.view.rep x4) G9 k s = _ from dif_neg (fun h' => h h'.2)]
  exact ⟨rfl, rfl, rfl⟩

end Trip

variable (sv : Fin 1024 → EReal) (B : Fin 1024 → Fin 4 → EReal) (cl : Fin 1024 → BitVec 32)
  (h1 : ∀ j, x1 (ix3 0 0 j) = sv j) (h2 : ∀ j k, x2 (ix3 0 k j) = B j k) (h3 : ∀ j k, x3 (ix3 0 j k) = B j k)
  (h4 : ∀ j, x4 (ix3 0 0 j) = (((cl j).toInt : ℝ) : EReal)) (h5 : ∀ j, x5 (ix3 0 j 0) = (((cl j).toInt : ℝ) : EReal))

/-- The candidates kept at the end. -/
def keptK : Fin 1024 → Bool := kept (supp (moved B cl)) (keep0 sv)

/-- The loop's state in plain terms. -/
structure Inv (k : ℕ) (s : St (F := Ideal) c arg6 arg7 arg8 arg10) : Prop where
  keep : ∀ j, arg10.view.read (Elt Ideal) s.keep (ix2 0 j) = bn (kp (supp (moved B cl)) (keep0 sv) k j)
  r : s.r.toNat = min (cnt (keptK sv B cl) k) 300
  ob : ∀ (r : Fin 300) (q : Fin 4), arg6.view.read (Elt Ideal) s.ob (ix3 0 r q) = (tbl (keptK sv B cl) k r.val).elim 0 fun i => B i q
  os : ∀ r : Fin 300, arg7.view.read (Elt Ideal) s.os (ix3 0 r 0) = (tbl (keptK sv B cl) k r.val).elim 0 sv
  ol : ∀ r : Fin 300, arg8.view.read (Elt Ideal) s.ol (ix3 0 r 0) = (tbl (keptK sv B cl) k r.val).elim 0 fun i => (((cl i).toInt : ℝ) : EReal)

include h1 h3 h4

theorem inv_step (G9 : Buf (Elt Ideal) (arg9.view.loc (c : Thread nD τ))) (k : Fin k0_t1_loop.trips) (s : St (F := Ideal) c arg6 arg7 arg8 arg10)
    (hg : ∀ j, gv c arg9 G9 k (ix2 0 j) = iou (moved B cl) (kc k) j)
    (hI : Inv c arg6 arg7 arg8 arg10 sv B cl k.val s) :
    Inv c arg6 arg7 arg8 arg10 sv B cl (k.val + 1) (nxt c arg1 arg3 arg4 arg6 arg7 arg8 arg9 arg10 (arg1.view.rep x1) (arg3.view.rep x3) (arg4.view.rep x4) G9 k s) := by
  have hr : s.r.toNat ≤ 300 := by rw [hI.r]; exact Nat.min_le_right _ _
  have hb : kb c arg6 arg7 arg8 arg10 k s = BitVec.ofBool (keptK sv B cl (kc k)) := by
    show Scalar.cmpf .ogt (k0_pay58 k (kv c arg6 arg7 arg8 arg10 s)) (Scalar.ofBits .f32 0x3F000000#32) = _
    rw [show kv c arg6 arg7 arg8 arg10 s = arg10.view.read (Elt Ideal) s.keep from View.readAt_full _ _ _, pay58_at, hI.keep, half_gt]
    rfl
  have hkeep : ∀ j, arg10.view.read (Elt Ideal) (nxt c arg1 arg3 arg4 arg6 arg7 arg8 arg9 arg10 (arg1.view.rep x1) (arg3.view.rep x3) (arg4.view.rep x4) G9 k s).keep (ix2 0 j)
      = bn (kp (supp (moved B cl)) (keep0 sv) (k.val + 1) j) := fun j => by
    rw [nxt_keep_at, pay59_at k _ _ j (kp (supp (moved B cl)) (keep0 sv) k.val) (moved B cl) hI.keep hg]
    exact congrArg bn (kp_succ _ _ (kc k) j).symm
  have hc : cnt (keptK sv B cl) (k.val + 1) = if keptK sv B cl (kc k) then cnt (keptK sv B cl) k.val + 1 else cnt (keptK sv B cl) k.val := by
    rw [cnt, dif_pos (lt_trips k)]; rfl
  have ht : ∀ r, tbl (keptK sv B cl) (k.val + 1) r
      = if keptK sv B cl (kc k) = true ∧ cnt (keptK sv B cl) k.val = r then some (kc k) else tbl (keptK sv B cl) k.val r := fun r => by
    rw [tbl, dif_pos (lt_trips k)]; rfl
  by_cases hq : keptK sv B cl (kc k) = true ∧ cnt (keptK sv B cl) k.val < 300
  · have hrc : s.r.toNat = cnt (keptK sv B cl) k.val := by rw [hI.r]; exact min_eq_left hq.2.le
    have h : k0_cond1 s.r (kb c arg6 arg7 arg8 arg10 k s) = 1#1 :=
      (cond_iff _ _ hr).mpr ⟨by rw [hb, hq.1]; rfl, by rw [hrc]; exact hq.2⟩
    have ht' : ∀ r : Fin 300, tbl (keptK sv B cl) (k.val + 1) r.val = if r.val = s.r.toNat then some (kc k) else tbl (keptK sv B cl) k.val r.val := fun r => by
      rw [ht, hrc]
      by_cases e : cnt (keptK sv B cl) k.val = r.val
      · rw [if_pos ⟨hq.1, e⟩, if_pos e.symm]
      · rw [if_neg fun x => e x.2, if_neg fun x => e x.symm]
    refine ⟨hkeep, ?_, fun r q => ?_, fun r => ?_, fun r => ?_⟩
    · rw [nxt_r, rNext_pos _ _ hr h, hc, if_pos hq.1, hrc]
      omega
    · rw [nxt_pos_ob (hr := hr) (h := h), ht', hI.ob, h3]
      split <;> rfl
    · rw [nxt_pos_os (hr := hr) (h := h), ht', hI.os, h1]
      split <;> rfl
    · rw [nxt_pos_ol (hr := hr) (h := h), ht', hI.ol, h4]
      split <;> rfl
  · have h : ¬ k0_cond1 s.r (kb c arg6 arg7 arg8 arg10 k s) = 1#1 := fun h => by
      obtain ⟨e1, e2⟩ := (cond_iff _ _ hr).mp h
      refine hq ⟨?_, ?_⟩
      · rw [hb] at e1
        revert e1
        cases keptK sv B cl (kc k) <;> decide
      · rw [hI.r] at e2
        omega
    have ht' : ∀ r : Fin 300, tbl (keptK sv B cl) (k.val + 1) r.val = tbl (keptK sv B cl) k.val r.val := fun r => by
      rw [ht, if_neg]
      intro x
      exact hq ⟨x.1, by have := r.isLt; omega⟩
    obtain ⟨e1, e2, e3⟩ := nxt_neg c arg1 arg3 arg4 arg6 arg7 arg8 arg9 arg10 x1 x3 x4 G9 k s h
    refine ⟨hkeep, ?_, fun r q => ?_, fun r => ?_, fun r => ?_⟩
    · rw [nxt_r, rNext_neg _ _ hr h, hc, hI.r]
      split
      · next e =>
        have : ¬ cnt (keptK sv B cl) k.val < 300 := fun x => hq ⟨e, x⟩
        omega
      · rfl
    · rw [e1, ht', hI.ob]
    · rw [e2, ht', hI.os]
    · rw [e3, ht', hI.ol]

omit h3 h4 in
theorem entry_keep (j : Fin 1024) : arg10.view.read (Elt Ideal) (arg10.view.writes (Elt Ideal) arg10.view.junk (k_H10_1 c arg1 (arg1.view.rep x1))) (ix2 0 j)
    = bn (keep0 sv j) := by
  unfold k_H10_1
  refine (congrFun (View.read_writes_full arg10.view _ _ _ _) (ix2 0 j)).trans ?_
  refine pay53_at _ sv (fun j => ?_) j
  unfold k_r k0_pay2
  pointwise
  exact (ld_at _ _ _ _ (ix3 0 0 j) (fun a => by fin_cases a <;> first | rfl | exact (Nat.zero_add _).symm)).trans (h1 j)

omit h1 h3 h4 in
theorem entry_ob (r : Fin 300) (q : Fin 4) : arg6.view.read (Elt Ideal) (arg6.view.writes (Elt Ideal) arg6.view.junk k_H6_1) (ix3 0 r q) = (0 : EReal) := by
  unfold k_H6_1
  exact (congrFun (View.read_writes_full arg6.view _ _ _ _) (ix3 0 r q)).trans (pay54_at r q)

omit h1 h3 h4 in
theorem entry_os (r : Fin 300) : arg7.view.read (Elt Ideal) (arg7.view.writes (Elt Ideal) arg7.view.junk k_H7_1) (ix3 0 r 0) = (0 : EReal) := by
  unfold k_H7_1
  exact (congrFun (View.read_writes_full arg7.view _ _ _ _) (ix3 0 r 0)).trans (pay55_at r)

omit h1 h3 h4 in
theorem entry_ol (r : Fin 300) : arg8.view.read (Elt Ideal) (arg8.view.writes (Elt Ideal) arg8.view.junk k_H8_1) (ix3 0 r 0) = (0 : EReal) := by
  unfold k_H8_1
  exact (congrFun (View.read_writes_full arg8.view _ _ _ _) (ix3 0 r 0)).trans (pay56_at r)

include h2 h5

omit h1 in
theorem gv_at (k : Fin k0_t1_loop.trips) (j : Fin 1024) :
    gv c arg9 (iouB c arg2 arg3 arg4 arg5 arg9 (arg2.view.rep x2) (arg3.view.rep x3) (arg4.view.rep x4) (arg5.view.rep x5)) k (ix2 0 j)
      = iou (moved B cl) (kc k) j := by
  show View.readAt _ _ _ _ _ = _
  rw [View.readAt_apply]
  refine Eq.trans (congrArg _ ?_) (mat_at c arg2 arg3 arg4 arg5 x2 x3 x4 x5 B cl h2 h3 h4 h5 arg9 (kc k) j)
  refine funext fun a => Fin.ext ?_
  show k0_off1 k a + 1 * (ix2 (0 : Fin 1) j a).val = (ix2 (kc k) j a).val
  rw [k0_off1_eq]
  fin_cases a
  · show k.val + 1 * 0 = k.val
    omega
  · show 0 + 1 * j.val = j.val
    omega

omit h1 h2 h3 h4 h5 in
theorem inv_zero (f10 : Buf (Elt Ideal) (arg10.view.loc (c : Thread nD τ))) (f6 : Buf (Elt Ideal) (arg6.view.loc (c : Thread nD τ)))
    (f7 : Buf (Elt Ideal) (arg7.view.loc (c : Thread nD τ))) (f8 : Buf (Elt Ideal) (arg8.view.loc (c : Thread nD τ)))
    (e10 : ∀ j, arg10.view.read (Elt Ideal) f10 (ix2 0 j) = bn (keep0 sv j))
    (e6 : ∀ (r : Fin 300) (q : Fin 4), arg6.view.read (Elt Ideal) f6 (ix3 0 r q) = (0 : EReal))
    (e7 : ∀ r : Fin 300, arg7.view.read (Elt Ideal) f7 (ix3 0 r 0) = (0 : EReal))
    (e8 : ∀ r : Fin 300, arg8.view.read (Elt Ideal) f8 (ix3 0 r 0) = (0 : EReal)) :
    Inv c arg6 arg7 arg8 arg10 sv B cl 0 (entry c arg6 arg7 arg8 arg10 f10 f6 f7 f8) := by
  refine ⟨fun j => ?_, ?_, fun r q => ?_, fun r => ?_, fun r => ?_⟩
  · rw [kp]
    exact e10 j
  · rw [cnt]
    rfl
  · rw [tbl]
    exact e6 r q
  · rw [tbl]
    exact e7 r
  · rw [tbl]
    exact e8 r

/-- The loop's state before trip `k`. -/
theorem inv_at (k : ℕ) (hk : k ≤ 1024) : Inv c arg6 arg7 arg8 arg10 sv B cl k
    (lst c arg1 arg2 arg3 arg4 arg5 arg6 arg7 arg8 arg9 arg10 (arg1.view.rep x1) (arg2.view.rep x2) (arg3.view.rep x3) (arg4.view.rep x4) (arg5.view.rep x5) k) := by
  induction k with
  | zero =>
    rw [lst, stAt_zero]
    exact inv_zero c arg6 arg7 arg8 arg10 sv B cl _ _ _ _ (entry_keep c arg1 arg10 x1 sv h1) (entry_ob arg6) (entry_os arg7) (entry_ol arg8)
  | succ k ih =>
    rw [lst_succ c arg1 arg2 arg3 arg4 arg5 arg6 arg7 arg8 arg9 arg10 _ _ _ _ _ ⟨k, lt_of_lt_of_eq hk trips_eq.symm⟩]
    exact inv_step c arg1 arg3 arg4 arg6 arg7 arg8 arg9 arg10 x1 x3 x4 sv B cl h1 h3 h4 _ ⟨k, lt_of_lt_of_eq hk trips_eq.symm⟩ _
      (gv_at c arg2 arg3 arg4 arg5 arg9 x2 x3 x4 x5 B cl h2 h3 h4 h5 _) (ih (Nat.le_of_succ_le hk))

end Loop

end Cert.KernelIdeal.Hand

end
-- ==== Proof.Hand.KHead.lean ====
/-
  What the kernel's first straight line leaves in the arrays its call reads.
-/
module

public import proofs.«01_k».proof.Defs
public import proofs.«01_k».proof.Proof.Gen.KernelIdeal
public import proofs.«01_k».proof.Proof.Gen.KernelIdeal.Frame
public import proofs.«01_k».proof.Proof.Hand.Spec
public import Idealize.ShloMosaic.Lib.StableHlo.ReadAt
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic Idealize.ShloMosaic.StableHlo
open Cert.Nms

abbrev kA := (hostOps0 (F := Ideal)).take 11
abbrev kB := ((hostOps0 (F := Ideal)).drop 11).take 46
abbrev kC := ((hostOps0 (F := Ideal)).drop 57).take 8
abbrev kM := ((hostOps0 (F := Ideal)).drop 65).take 11
abbrev kD := ((hostOps0 (F := Ideal)).drop 76).take 32
abbrev kT := ((hostOps0 (F := Ideal)).drop 108).take 2
abbrev kG0 := ((hostOps0 (F := Ideal)).drop 110).take 22
abbrev kG1 := ((hostOps0 (F := Ideal)).drop 132).take 22
abbrev kG2 := ((hostOps0 (F := Ideal)).drop 154).take 22
abbrev kG3 := ((hostOps0 (F := Ideal)).drop 176).take 22
abbrev kG4 := ((hostOps0 (F := Ideal)).drop 198).take 22
abbrev kE := (hostOps0 (F := Ideal)).drop 220

theorem app {l₁ l₂ : List (HloOp τ sig (Elt Ideal))} (V) : after (l₁ ++ l₂) V = after l₂ (after l₁ V) := by
  induction l₁ generalizing V with
  | nil => rfl
  | cons op l ih => exact ih _

theorem cut : (hostOps0 (F := Ideal)) = kA ++ (kB ++ (kC ++ (kM ++ (kD ++ (kT ++ (kG0 ++ (kG1 ++ (kG2 ++ (kG3 ++ (kG4 ++ kE)))))))))) := rfl

variable (X : Valuation τ sig (Elt Ideal))

section B
variable (P : FVec Ideal S4x12288x85 .f32) (hP : X (Proc.devRef .tc main_call0_v8) = P)
include hP

theorem b44 : (show FVec Ideal S4x12288x80 .f32 from after kB X (Proc.devRef .tc main_call0_v44)) = scT P := by
  funext i
  rw [eq_ix3 i]
  after_reads_simp
  simp -implicitDefEqProofs only [StableHlo.TRef.toBuf, StableHlo.TRef.ofBuf, cast_cast, cast_eq]
  rw [hP]
  clean_types
  pointwise
  rfl

theorem b34 (b : Fin 4) (p : Fin 12288) : (show FVec Ideal S4x12288 .f32 from after kB X (Proc.devRef .tc main_call0_v34)) (ix2 b p)
    = sg (P (ix3 b p ⟨4, by omega⟩)) := by
  after_reads_simp
  simp -implicitDefEqProofs only [StableHlo.TRef.toBuf, StableHlo.TRef.ofBuf, cast_cast, cast_eq]
  rw [hP]
  clean_types
  pointwise
  rfl

theorem b17 (b : Fin 4) (p : Fin 12288) (a : Fin 2) : (show FVec Ideal S4x12288x2 .f32 from after kB X (Proc.devRef .tc main_call0_v17)) (ix3 b p a)
    = ctr P b p a := by
  after_reads_simp
  simp -implicitDefEqProofs only [StableHlo.TRef.toBuf, StableHlo.TRef.ofBuf, cast_cast, cast_eq]
  rw [hP]
  clean_types
  pointwise
  rfl

theorem b26 (b : Fin 4) (p : Fin 12288) (a : Fin 2) : (show FVec Ideal S4x12288x2 .f32 from after kB X (Proc.devRef .tc main_call0_v26)) (ix3 b p a)
    = ext P b p a := by
  after_reads_simp
  simp -implicitDefEqProofs only [StableHlo.TRef.toBuf, StableHlo.TRef.ofBuf, cast_cast, cast_eq]
  rw [hP]
  clean_types
  pointwise
  rfl

end B

/-- The greatest class score of each candidate. -/
def mxK (P : FVec Ideal S4x12288x85 .f32) : FVec Ideal S4x12288 .f32 :=
  Host.reduce FloatOps.maximumf (scT P) (constant (F := Ideal) S_ .f32 0xFF800000#32) reducesTo_S4x12288x80_S4x12288_d2 h_S_

/-- The class of the greatest score. -/
def amK (P : FVec Ideal S4x12288x85 .f32) : IVec S4x12288 32 := fun j =>
  (Host.argReduce (reducer_argmax_f32_i32 (F := Ideal)) (scT P) (iotaInDim S4x12288x80 32 2) (constant (F := Ideal) S_ .f32 0xFF800000#32)
    (constantI S_ 32 0#32) reducesTo_S4x12288x80_S4x12288_d2 h_S_ j).2

section C
variable (P : FVec Ideal S4x12288x85 .f32) (h44 : X (Proc.devRef .tc main_call0_v44) = scT P)
include h44

theorem c45 : (show FVec Ideal S4x12288 .f32 from after kC X (Proc.devRef .tc main_call0_v45)) = mxK P := by
  after_reads_simp
  simp -implicitDefEqProofs only [StableHlo.TRef.toBuf, StableHlo.TRef.ofBuf, cast_cast, cast_eq]
  rw [h44]
  clean_types
  unfold mxK
  rfl

theorem c47 (b : Fin 4) (p : Fin 12288) : (show FVec Ideal S4x12288 .f32 from after kC X (Proc.devRef .tc main_call0_v47)) (ix2 b p)
    = (((amK P (ix2 b p)).toInt : ℝ) : EReal) := by
  after_reads_simp
  simp -implicitDefEqProofs only [StableHlo.TRef.toBuf, StableHlo.TRef.ofBuf, cast_cast, cast_eq]
  rw [h44]
  clean_types
  change sitofp .f32 (amK P) (ix2 b p) = _
  generalize amK P = a
  rfl

end C

theorem m53 (P : FVec Ideal S4x12288x85 .f32)
    (h34 : ∀ b p, (show FVec Ideal S4x12288 .f32 from X (Proc.devRef .tc main_call0_v34)) (ix2 b p) = sg (P (ix3 b p ⟨4, by omega⟩)))
    (h45 : (show FVec Ideal S4x12288 .f32 from X (Proc.devRef .tc main_call0_v45)) = mxK P)
    (b : Fin 4) (p : Fin 12288) : (show FVec Ideal S4x12288 .f32 from after kM X (Proc.devRef .tc main_call0_v53)) (ix2 b p)
    = conf P (mxK P) b p := by
  after_reads_simp
  simp -implicitDefEqProofs only [StableHlo.TRef.toBuf, StableHlo.TRef.ofBuf, cast_cast, cast_eq]
  have h := h34 b p
  generalize X (Proc.devRef .tc main_call0_v34) = y at h ⊢
  generalize mxK P = M at h45 ⊢
  generalize X (Proc.devRef .tc main_call0_v45) = z at h45 ⊢
  change y (ix2 b p) = _ at h
  change z = M at h45
  subst h45
  clean_types
  pointwise
  rw [h]
  rfl

section D
variable (P : FVec Ideal S4x12288x85 .f32)
  (h17 : ∀ b p a, (show FVec Ideal S4x12288x2 .f32 from X (Proc.devRef .tc main_call0_v17)) (ix3 b p a) = ctr P b p a)
  (h26 : ∀ b p a, (show FVec Ideal S4x12288x2 .f32 from X (Proc.devRef .tc main_call0_v26)) (ix3 b p a) = ext P b p a)
include h17 h26

theorem d60 (b : Fin 4) (p : Fin 12288) : (show FVec Ideal S4x12288 .f32 from after kD X (Proc.devRef .tc main_call0_v60)) (ix2 b p)
    = corner P b p 0 := by
  have h1 := h17 b p 0
  have h2 := h26 b p 0
  after_reads_simp
  simp -implicitDefEqProofs only [StableHlo.TRef.toBuf, StableHlo.TRef.ofBuf, cast_cast, cast_eq]
  generalize X (Proc.devRef .tc main_call0_v17) = y at h1 ⊢
  generalize X (Proc.devRef .tc main_call0_v26) = z at h2 ⊢
  clean_types
  pointwise
  show _ = ctr P b p 0 - ext P b p 0 * half
  rw [← h1, ← h2]
  rfl

theorem d67 (b : Fin 4) (p : Fin 12288) : (show FVec Ideal S4x12288 .f32 from after kD X (Proc.devRef .tc main_call0_v67)) (ix2 b p)
    = corner P b p 1 := by
  have h1 := h17 b p 1
  have h2 := h26 b p 1
  after_reads_simp
  simp -implicitDefEqProofs only [StableHlo.TRef.toBuf, StableHlo.TRef.ofBuf, cast_cast, cast_eq]
  generalize X (Proc.devRef .tc main_call0_v17) = y at h1 ⊢
  generalize X (Proc.devRef .tc main_call0_v26) = z at h2 ⊢
  clean_types
  pointwise
  show _ = ctr P b p 1 - ext P b p 1 * half
  rw [← h1, ← h2]
  rfl

theorem d74 (b : Fin 4) (p : Fin 12288) : (show FVec Ideal S4x12288 .f32 from after kD X (Proc.devRef .tc main_call0_v74)) (ix2 b p)
    = corner P b p 2 := by
  have h1 := h17 b p 0
  have h2 := h26 b p 0
  after_reads_simp
  simp -implicitDefEqProofs only [StableHlo.TRef.toBuf, StableHlo.TRef.ofBuf, cast_cast, cast_eq]
  generalize X (Proc.devRef .tc main_call0_v17) = y at h1 ⊢
  generalize X (Proc.devRef .tc main_call0_v26) = z at h2 ⊢
  clean_types
  pointwise
  show _ = ctr P b p 0 + ext P b p 0 * half
  rw [← h1, ← h2]
  rfl

theorem d81 (b : Fin 4) (p : Fin 12288) : (show FVec Ideal S4x12288 .f32 from after kD X (Proc.devRef .tc main_call0_v81)) (ix2 b p)
    = corner P b p 3 := by
  have h1 := h17 b p 1
  have h2 := h26 b p 1
  after_reads_simp
  simp -implicitDefEqProofs only [StableHlo.TRef.toBuf, StableHlo.TRef.ofBuf, cast_cast, cast_eq]
  generalize X (Proc.devRef .tc main_call0_v17) = y at h1 ⊢
  generalize X (Proc.devRef .tc main_call0_v26) = z at h2 ⊢
  clean_types
  pointwise
  show _ = ctr P b p 1 + ext P b p 1 * half
  rw [← h1, ← h2]
  rfl

end D

section T
variable (P : FVec Ideal S4x12288x85 .f32)
  (h53 : ∀ b p, (show FVec Ideal S4x12288 .f32 from X (Proc.devRef .tc main_call0_v53)) (ix2 b p) = conf P (mxK P) b p)
include h53

theorem t_val (b : Fin 4) (j : Fin 1024) : (show FVec Ideal S4x1024 .f32 from after kT X (Proc.devRef .tc main_call0_values)) (ix2 b j)
    = sc P (mxK P) b j := by
  after_reads_simp
  simp -implicitDefEqProofs only [StableHlo.TRef.toBuf, StableHlo.TRef.ofBuf, cast_cast, cast_eq]
  generalize X (Proc.devRef .tc main_call0_v53) = y at h53 ⊢
  refine (topK_val y _ b j (lift_lt j)).trans ?_
  have hf : (fun l => y (ix2 b l)) = conf P (mxK P) b := funext fun l => h53 b l
  rw [hf]
  exact h53 b _

theorem t_idx (b : Fin 4) (j : Fin 1024) : (show IVec S4x1024 32 from after kT X (Proc.devRef .tc main_call0_indices)) (ix2 b j)
    = BitVec.ofNat 32 (rk P (mxK P) b j).val := by
  after_reads_simp
  simp -implicitDefEqProofs only [StableHlo.TRef.toBuf, StableHlo.TRef.ofBuf, cast_cast, cast_eq]
  generalize X (Proc.devRef .tc main_call0_v53) = y at h53 ⊢
  refine (topK_idx y _ b j (lift_lt j)).trans ?_
  have hf : (fun l => y (ix2 b l)) = conf P (mxK P) b := funext fun l => h53 b l
  rw [hf]
  rfl

end T

section G
variable (q : Fin 4 → Fin 1024 → Fin 12288)
  (hI : ∀ b j, (show IVec S4x1024 32 from X (Proc.devRef .tc main_call0_indices)) (ix2 b j) = BitVec.ofNat 32 (q b j).val)
include hI

theorem g82 (b : Fin 4) (j : Fin 1024) : (show FVec Ideal S4x1024 .f32 from after kG0 X (Proc.devRef .tc main_call0_v82)) (ix2 b j)
    = (show FVec Ideal S4x12288 .f32 from X (Proc.devRef .tc main_call0_v60)) (ix2 b (q b j)) := by
  after_reads_simp
  simp -implicitDefEqProofs only [StableHlo.TRef.toBuf, StableHlo.TRef.ofBuf, cast_cast, cast_eq]
  generalize X (Proc.devRef .tc main_call0_indices) = y at hI ⊢
  generalize X (Proc.devRef .tc main_call0_v60) = z
  change ∀ b j, y (ix2 b j) = _ at hI
  clean_types
  pointwise
  simp only [hI, wrap_pos (q _ _) (by omega : 12288 < 2 ^ 31), show 12287#32 = BitVec.ofNat 32 12287 from rfl, mask_pos (q _ _) (by omega : 12288 < 2 ^ 31) 12287 rfl]
  rw [fold_one, sel_one]
  refine gather_batch _ z _ b j (q b j) (by omega) ?_
  show Scalar.select (IntOp.cmpi .slt (y (ix2 b j)) 0#32) (IntOp.addi (y (ix2 b j)) 12288#32) (y (ix2 b j)) = _
  rw [hI, wrap_pos (q _ _) (by omega : 12288 < 2 ^ 31)]

theorem g83 (b : Fin 4) (j : Fin 1024) : (show FVec Ideal S4x1024 .f32 from after kG1 X (Proc.devRef .tc main_call0_v83)) (ix2 b j)
    = (show FVec Ideal S4x12288 .f32 from X (Proc.devRef .tc main_call0_v67)) (ix2 b (q b j)) := by
  after_reads_simp
  simp -implicitDefEqProofs only [StableHlo.TRef.toBuf, StableHlo.TRef.ofBuf, cast_cast, cast_eq]
  generalize X (Proc.devRef .tc main_call0_indices) = y at hI ⊢
  generalize X (Proc.devRef .tc main_call0_v67) = z
  change ∀ b j, y (ix2 b j) = _ at hI
  clean_types
  pointwise
  simp only [hI, wrap_pos (q _ _) (by omega : 12288 < 2 ^ 31), show 12287#32 = BitVec.ofNat 32 12287 from rfl, mask_pos (q _ _) (by omega : 12288 < 2 ^ 31) 12287 rfl]
  rw [fold_one, sel_one]
  refine gather_batch _ z _ b j (q b j) (by omega) ?_
  show Scalar.select (IntOp.cmpi .slt (y (ix2 b j)) 0#32) (IntOp.addi (y (ix2 b j)) 12288#32) (y (ix2 b j)) = _
  rw [hI, wrap_pos (q _ _) (by omega : 12288 < 2 ^ 31)]

theorem g84 (b : Fin 4) (j : Fin 1024) : (show FVec Ideal S4x1024 .f32 from after kG2 X (Proc.devRef .tc main_call0_v84)) (ix2 b j)
    = (show FVec Ideal S4x12288 .f32 from X (Proc.devRef .tc main_call0_v74)) (ix2 b (q b j)) := by
  after_reads_simp
  simp -implicitDefEqProofs only [StableHlo.TRef.toBuf, StableHlo.TRef.ofBuf, cast_cast, cast_eq]
  generalize X (Proc.devRef .tc main_call0_indices) = y at hI ⊢
  generalize X (Proc.devRef .tc main_call0_v74) = z
  change ∀ b j, y (ix2 b j) = _ at hI
  clean_types
  pointwise
  simp only [hI, wrap_pos (q _ _) (by omega : 12288 < 2 ^ 31), show 12287#32 = BitVec.ofNat 32 12287 from rfl, mask_pos (q _ _) (by omega : 12288 < 2 ^ 31) 12287 rfl]
  rw [fold_one, sel_one]
  refine gather_batch _ z _ b j (q b j) (by omega) ?_
  show Scalar.select (IntOp.cmpi .slt (y (ix2 b j)) 0#32) (IntOp.addi (y (ix2 b j)) 12288#32) (y (ix2 b j)) = _
  rw [hI, wrap_pos (q _ _) (by omega : 12288 < 2 ^ 31)]

theorem g85 (b : Fin 4) (j : Fin 1024) : (show FVec Ideal S4x1024 .f32 from after kG3 X (Proc.devRef .tc main_call0_v85)) (ix2 b j)
    = (show FVec Ideal S4x12288 .f32 from X (Proc.devRef .tc main_call0_v81)) (ix2 b (q b j)) := by
  after_reads_simp
  simp -implicitDefEqProofs only [StableHlo.TRef.toBuf, StableHlo.TRef.ofBuf, cast_cast, cast_eq]
  generalize X (Proc.devRef .tc main_call0_indices) = y at hI ⊢
  generalize X (Proc.devRef .tc main_call0_v81) = z
  change ∀ b j, y (ix2 b j) = _ at hI
  clean_types
  pointwise
  simp only [hI, wrap_pos (q _ _) (by omega : 12288 < 2 ^ 31), show 12287#32 = BitVec.ofNat 32 12287 from rfl, mask_pos (q _ _) (by omega : 12288 < 2 ^ 31) 12287 rfl]
  rw [fold_one, sel_one]
  refine gather_batch _ z _ b j (q b j) (by omega) ?_
  show Scalar.select (IntOp.cmpi .slt (y (ix2 b j)) 0#32) (IntOp.addi (y (ix2 b j)) 12288#32) (y (ix2 b j)) = _
  rw [hI, wrap_pos (q _ _) (by omega : 12288 < 2 ^ 31)]

theorem g86 (b : Fin 4) (j : Fin 1024) : (show FVec Ideal S4x1024 .f32 from after kG4 X (Proc.devRef .tc main_call0_v86)) (ix2 b j)
    = (show FVec Ideal S4x12288 .f32 from X (Proc.devRef .tc main_call0_v47)) (ix2 b (q b j)) := by
  after_reads_simp
  simp -implicitDefEqProofs only [StableHlo.TRef.toBuf, StableHlo.TRef.ofBuf, cast_cast, cast_eq]
  generalize X (Proc.devRef .tc main_call0_indices) = y at hI ⊢
  generalize X (Proc.devRef .tc main_call0_v47) = z
  change ∀ b j, y (ix2 b j) = _ at hI
  clean_types
  pointwise
  simp only [hI, wrap_pos (q _ _) (by omega : 12288 < 2 ^ 31), show 12287#32 = BitVec.ofNat 32 12287 from rfl, mask_pos (q _ _) (by omega : 12288 < 2 ^ 31) 12287 rfl]
  rw [fold_one, sel_one]
  refine gather_batch _ z _ b j (q b j) (by omega) ?_
  show Scalar.select (IntOp.cmpi .slt (y (ix2 b j)) 0#32) (IntOp.addi (y (ix2 b j)) 12288#32) (y (ix2 b j)) = _
  rw [hI, wrap_pos (q _ _) (by omega : 12288 < 2 ^ 31)]

end G

section E
variable (bv : Fin 4 → Fin 1024 → Fin 4 → EReal) (cv : Fin 4 → Fin 1024 → EReal)

theorem u87 (b : Fin 4) (j : Fin 1024) : (show FVec Ideal S4x1024x1 .f32 from upto kE X 4 (Proc.devRef .tc main_call0_v87)) (ix3 b j 0)
    = (show FVec Ideal S4x1024 .f32 from X (Proc.devRef .tc main_call0_v82)) (ix2 b j) := by
  unfold upto
  after_reads_simp
  simp -implicitDefEqProofs only [StableHlo.TRef.toBuf, StableHlo.TRef.ofBuf, cast_cast, cast_eq]
  generalize X (Proc.devRef .tc main_call0_v82) = y
  clean_types
  pointwise

theorem u88 (b : Fin 4) (j : Fin 1024) : (show FVec Ideal S4x1024x1 .f32 from upto kE X 4 (Proc.devRef .tc main_call0_v88)) (ix3 b j 0)
    = (show FVec Ideal S4x1024 .f32 from X (Proc.devRef .tc main_call0_v83)) (ix2 b j) := by
  unfold upto
  after_reads_simp
  simp -implicitDefEqProofs only [StableHlo.TRef.toBuf, StableHlo.TRef.ofBuf, cast_cast, cast_eq]
  generalize X (Proc.devRef .tc main_call0_v83) = y
  clean_types
  pointwise

theorem u89 (b : Fin 4) (j : Fin 1024) : (show FVec Ideal S4x1024x1 .f32 from upto kE X 4 (Proc.devRef .tc main_call0_v89)) (ix3 b j 0)
    = (show FVec Ideal S4x1024 .f32 from X (Proc.devRef .tc main_call0_v84)) (ix2 b j) := by
  unfold upto
  after_reads_simp
  simp -implicitDefEqProofs only [StableHlo.TRef.toBuf, StableHlo.TRef.ofBuf, cast_cast, cast_eq]
  generalize X (Proc.devRef .tc main_call0_v84) = y
  clean_types
  pointwise

theorem u90 (b : Fin 4) (j : Fin 1024) : (show FVec Ideal S4x1024x1 .f32 from upto kE X 4 (Proc.devRef .tc main_call0_v90)) (ix3 b j 0)
    = (show FVec Ideal S4x1024 .f32 from X (Proc.devRef .tc main_call0_v85)) (ix2 b j) := by
  unfold upto
  after_reads_simp
  simp -implicitDefEqProofs only [StableHlo.TRef.toBuf, StableHlo.TRef.ofBuf, cast_cast, cast_eq]
  generalize X (Proc.devRef .tc main_call0_v85) = y
  clean_types
  pointwise

theorem u92 (b : Fin 4) (j : Fin 1024) : (show FVec Ideal S4x1x1024 .f32 from upto kE X 9 (Proc.devRef .tc main_call0_v92)) (ix3 b 0 j)
    = (show FVec Ideal S4x1024 .f32 from X (Proc.devRef .tc main_call0_v82)) (ix2 b j) := by
  unfold upto
  after_reads_simp
  simp -implicitDefEqProofs only [StableHlo.TRef.toBuf, StableHlo.TRef.ofBuf, cast_cast, cast_eq]
  generalize X (Proc.devRef .tc main_call0_v82) = y
  clean_types
  pointwise

theorem u93 (b : Fin 4) (j : Fin 1024) : (show FVec Ideal S4x1x1024 .f32 from upto kE X 9 (Proc.devRef .tc main_call0_v93)) (ix3 b 0 j)
    = (show FVec Ideal S4x1024 .f32 from X (Proc.devRef .tc main_call0_v83)) (ix2 b j) := by
  unfold upto
  after_reads_simp
  simp -implicitDefEqProofs only [StableHlo.TRef.toBuf, StableHlo.TRef.ofBuf, cast_cast, cast_eq]
  generalize X (Proc.devRef .tc main_call0_v83) = y
  clean_types
  pointwise

theorem u94 (b : Fin 4) (j : Fin 1024) : (show FVec Ideal S4x1x1024 .f32 from upto kE X 9 (Proc.devRef .tc main_call0_v94)) (ix3 b 0 j)
    = (show FVec Ideal S4x1024 .f32 from X (Proc.devRef .tc main_call0_v84)) (ix2 b j) := by
  unfold upto
  after_reads_simp
  simp -implicitDefEqProofs only [StableHlo.TRef.toBuf, StableHlo.TRef.ofBuf, cast_cast, cast_eq]
  generalize X (Proc.devRef .tc main_call0_v84) = y
  clean_types
  pointwise

theorem u95 (b : Fin 4) (j : Fin 1024) : (show FVec Ideal S4x1x1024 .f32 from upto kE X 9 (Proc.devRef .tc main_call0_v95)) (ix3 b 0 j)
    = (show FVec Ideal S4x1024 .f32 from X (Proc.devRef .tc main_call0_v85)) (ix2 b j) := by
  unfold upto
  after_reads_simp
  simp -implicitDefEqProofs only [StableHlo.TRef.toBuf, StableHlo.TRef.ofBuf, cast_cast, cast_eq]
  generalize X (Proc.devRef .tc main_call0_v85) = y
  clean_types
  pointwise

theorem e91
    (h82 : ∀ b j, (show FVec Ideal S4x1024 .f32 from X (Proc.devRef .tc main_call0_v82)) (ix2 b j) = bv b j 0)
    (h83 : ∀ b j, (show FVec Ideal S4x1024 .f32 from X (Proc.devRef .tc main_call0_v83)) (ix2 b j) = bv b j 1)
    (h84 : ∀ b j, (show FVec Ideal S4x1024 .f32 from X (Proc.devRef .tc main_call0_v84)) (ix2 b j) = bv b j 2)
    (h85 : ∀ b j, (show FVec Ideal S4x1024 .f32 from X (Proc.devRef .tc main_call0_v85)) (ix2 b j) = bv b j 3)
    (b : Fin 4) (j : Fin 1024) (k : Fin 4) : (show FVec Ideal S4x1024x4 .f32 from after kE X (Proc.devRef .tc main_call0_v91)) (ix3 b j k)
    = bv b j k := by
  after_reads_simp
  simp -implicitDefEqProofs only [StableHlo.TRef.toBuf, StableHlo.TRef.ofBuf, cast_cast, cast_eq]
  clean_types
  match k with
  | 0 => pointwise; exact (u87 X b j).trans (h82 b j)
  | 1 => pointwise; exact (u88 X b j).trans (h83 b j)
  | 2 => pointwise; exact (u89 X b j).trans (h84 b j)
  | 3 => pointwise; exact (u90 X b j).trans (h85 b j)

theorem e96
    (h82 : ∀ b j, (show FVec Ideal S4x1024 .f32 from X (Proc.devRef .tc main_call0_v82)) (ix2 b j) = bv b j 0)
    (h83 : ∀ b j, (show FVec Ideal S4x1024 .f32 from X (Proc.devRef .tc main_call0_v83)) (ix2 b j) = bv b j 1)
    (h84 : ∀ b j, (show FVec Ideal S4x1024 .f32 from X (Proc.devRef .tc main_call0_v84)) (ix2 b j) = bv b j 2)
    (h85 : ∀ b j, (show FVec Ideal S4x1024 .f32 from X (Proc.devRef .tc main_call0_v85)) (ix2 b j) = bv b j 3)
    (b : Fin 4) (j : Fin 1024) (k : Fin 4) : (show FVec Ideal S4x4x1024 .f32 from after kE X (Proc.devRef .tc main_call0_v96)) (ix3 b k j)
    = bv b j k := by
  after_reads_simp
  simp -implicitDefEqProofs only [StableHlo.TRef.toBuf, StableHlo.TRef.ofBuf, cast_cast, cast_eq]
  clean_types
  match k with
  | 0 => pointwise; exact (u92 X b j).trans (h82 b j)
  | 1 => pointwise; exact (u93 X b j).trans (h83 b j)
  | 2 => pointwise; exact (u94 X b j).trans (h84 b j)
  | 3 => pointwise; exact (u95 X b j).trans (h85 b j)

theorem e97 (b : Fin 4) (j : Fin 1024) : (show FVec Ideal S4x1024x1 .f32 from after kE X (Proc.devRef .tc main_call0_v97)) (ix3 b j 0)
    = (show FVec Ideal S4x1024 .f32 from X (Proc.devRef .tc main_call0_v86)) (ix2 b j) := by
  after_reads_simp
  generalize X (Proc.devRef .tc main_call0_v86) = y
  clean_types
  pointwise

theorem e98 (b : Fin 4) (j : Fin 1024) : (show FVec Ideal S4x1x1024 .f32 from after kE X (Proc.devRef .tc main_call0_v98)) (ix3 b 0 j)
    = (show FVec Ideal S4x1024 .f32 from X (Proc.devRef .tc main_call0_values)) (ix2 b j) := by
  after_reads_simp
  generalize X (Proc.devRef .tc main_call0_values) = y
  clean_types
  pointwise

theorem e99 (b : Fin 4) (j : Fin 1024) : (show FVec Ideal S4x1x1024 .f32 from after kE X (Proc.devRef .tc main_call0_v99)) (ix3 b 0 j)
    = (show FVec Ideal S4x1024 .f32 from X (Proc.devRef .tc main_call0_v86)) (ix2 b j) := by
  after_reads_simp
  generalize X (Proc.devRef .tc main_call0_v86) = y
  clean_types
  pointwise

end E

theorem kC_v34 : after kC X (Proc.devRef .tc main_call0_v34) = X (Proc.devRef .tc main_call0_v34) := by
  after_reads_simp

theorem kC_v17 : after kC X (Proc.devRef .tc main_call0_v17) = X (Proc.devRef .tc main_call0_v17) := by
  after_reads_simp

theorem kC_v26 : after kC X (Proc.devRef .tc main_call0_v26) = X (Proc.devRef .tc main_call0_v26) := by
  after_reads_simp

theorem kM_v47 : after kM X (Proc.devRef .tc main_call0_v47) = X (Proc.devRef .tc main_call0_v47) := by
  after_reads_simp

theorem kM_v17 : after kM X (Proc.devRef .tc main_call0_v17) = X (Proc.devRef .tc main_call0_v17) := by
  after_reads_simp

theorem kM_v26 : after kM X (Proc.devRef .tc main_call0_v26) = X (Proc.devRef .tc main_call0_v26) := by
  after_reads_simp

theorem kD_v53 : after kD X (Proc.devRef .tc main_call0_v53) = X (Proc.devRef .tc main_call0_v53) := by
  after_reads_simp

theorem kD_v47 : after kD X (Proc.devRef .tc main_call0_v47) = X (Proc.devRef .tc main_call0_v47) := by
  after_reads_simp

theorem kT_v60 : after kT X (Proc.devRef .tc main_call0_v60) = X (Proc.devRef .tc main_call0_v60) := by
  after_reads_simp

theorem kT_v67 : after kT X (Proc.devRef .tc main_call0_v67) = X (Proc.devRef .tc main_call0_v67) := by
  after_reads_simp

theorem kT_v74 : after kT X (Proc.devRef .tc main_call0_v74) = X (Proc.devRef .tc main_call0_v74) := by
  after_reads_simp

theorem kT_v81 : after kT X (Proc.devRef .tc main_call0_v81) = X (Proc.devRef .tc main_call0_v81) := by
  after_reads_simp

theorem kT_v47 : after kT X (Proc.devRef .tc main_call0_v47) = X (Proc.devRef .tc main_call0_v47) := by
  after_reads_simp

theorem kG0_values : after kG0 X (Proc.devRef .tc main_call0_values) = X (Proc.devRef .tc main_call0_values) := by
  after_reads_simp

theorem kG0_indices : after kG0 X (Proc.devRef .tc main_call0_indices) = X (Proc.devRef .tc main_call0_indices) := by
  after_reads_simp

theorem kG0_v67 : after kG0 X (Proc.devRef .tc main_call0_v67) = X (Proc.devRef .tc main_call0_v67) := by
  after_reads_simp

theorem kG0_v74 : after kG0 X (Proc.devRef .tc main_call0_v74) = X (Proc.devRef .tc main_call0_v74) := by
  after_reads_simp

theorem kG0_v81 : after kG0 X (Proc.devRef .tc main_call0_v81) = X (Proc.devRef .tc main_call0_v81) := by
  after_reads_simp

theorem kG0_v47 : after kG0 X (Proc.devRef .tc main_call0_v47) = X (Proc.devRef .tc main_call0_v47) := by
  after_reads_simp

theorem kG1_values : after kG1 X (Proc.devRef .tc main_call0_values) = X (Proc.devRef .tc main_call0_values) := by
  after_reads_simp

theorem kG1_indices : after kG1 X (Proc.devRef .tc main_call0_indices) = X (Proc.devRef .tc main_call0_indices) := by
  after_reads_simp

theorem kG1_v74 : after kG1 X (Proc.devRef .tc main_call0_v74) = X (Proc.devRef .tc main_call0_v74) := by
  after_reads_simp

theorem kG1_v81 : after kG1 X (Proc.devRef .tc main_call0_v81) = X (Proc.devRef .tc main_call0_v81) := by
  after_reads_simp

theorem kG1_v47 : after kG1 X (Proc.devRef .tc main_call0_v47) = X (Proc.devRef .tc main_call0_v47) := by
  after_reads_simp

theorem kG1_v82 : after kG1 X (Proc.devRef .tc main_call0_v82) = X (Proc.devRef .tc main_call0_v82) := by
  after_reads_simp

theorem kG2_values : after kG2 X (Proc.devRef .tc main_call0_values) = X (Proc.devRef .tc main_call0_values) := by
  after_reads_simp

theorem kG2_indices : after kG2 X (Proc.devRef .tc main_call0_indices) = X (Proc.devRef .tc main_call0_indices) := by
  after_reads_simp

theorem kG2_v81 : after kG2 X (Proc.devRef .tc main_call0_v81) = X (Proc.devRef .tc main_call0_v81) := by
  after_reads_simp

theorem kG2_v47 : after kG2 X (Proc.devRef .tc main_call0_v47) = X (Proc.devRef .tc main_call0_v47) := by
  after_reads_simp

theorem kG2_v82 : after kG2 X (Proc.devRef .tc main_call0_v82) = X (Proc.devRef .tc main_call0_v82) := by
  after_reads_simp

theorem kG2_v83 : after kG2 X (Proc.devRef .tc main_call0_v83) = X (Proc.devRef .tc main_call0_v83) := by
  after_reads_simp

theorem kG3_values : after kG3 X (Proc.devRef .tc main_call0_values) = X (Proc.devRef .tc main_call0_values) := by
  after_reads_simp

theorem kG3_indices : after kG3 X (Proc.devRef .tc main_call0_indices) = X (Proc.devRef .tc main_call0_indices) := by
  after_reads_simp

theorem kG3_v47 : after kG3 X (Proc.devRef .tc main_call0_v47) = X (Proc.devRef .tc main_call0_v47) := by
  after_reads_simp

theorem kG3_v82 : after kG3 X (Proc.devRef .tc main_call0_v82) = X (Proc.devRef .tc main_call0_v82) := by
  after_reads_simp

theorem kG3_v83 : after kG3 X (Proc.devRef .tc main_call0_v83) = X (Proc.devRef .tc main_call0_v83) := by
  after_reads_simp

theorem kG3_v84 : after kG3 X (Proc.devRef .tc main_call0_v84) = X (Proc.devRef .tc main_call0_v84) := by
  after_reads_simp

theorem kG4_values : after kG4 X (Proc.devRef .tc main_call0_values) = X (Proc.devRef .tc main_call0_values) := by
  after_reads_simp

theorem kG4_indices : after kG4 X (Proc.devRef .tc main_call0_indices) = X (Proc.devRef .tc main_call0_indices) := by
  after_reads_simp

theorem kG4_v82 : after kG4 X (Proc.devRef .tc main_call0_v82) = X (Proc.devRef .tc main_call0_v82) := by
  after_reads_simp

theorem kG4_v83 : after kG4 X (Proc.devRef .tc main_call0_v83) = X (Proc.devRef .tc main_call0_v83) := by
  after_reads_simp

theorem kG4_v84 : after kG4 X (Proc.devRef .tc main_call0_v84) = X (Proc.devRef .tc main_call0_v84) := by
  after_reads_simp

theorem kG4_v85 : after kG4 X (Proc.devRef .tc main_call0_v85) = X (Proc.devRef .tc main_call0_v85) := by
  after_reads_simp

/-! ## The whole line -/

/-- The head's raw predictions. -/
def kP : FVec Ideal S4x12288x85 .f32 := after kA X (Proc.devRef .tc main_call0_v8)

def w1 : Valuation τ sig (Elt Ideal) := after kA (X)
def w2 : Valuation τ sig (Elt Ideal) := after kB (w1 X)
def w3 : Valuation τ sig (Elt Ideal) := after kC (w2 X)
def w4 : Valuation τ sig (Elt Ideal) := after kM (w3 X)
def w5 : Valuation τ sig (Elt Ideal) := after kD (w4 X)
def w6 : Valuation τ sig (Elt Ideal) := after kT (w5 X)
def w7 : Valuation τ sig (Elt Ideal) := after kG0 (w6 X)
def w8 : Valuation τ sig (Elt Ideal) := after kG1 (w7 X)
def w9 : Valuation τ sig (Elt Ideal) := after kG2 (w8 X)
def w10 : Valuation τ sig (Elt Ideal) := after kG3 (w9 X)
def w11 : Valuation τ sig (Elt Ideal) := after kG4 (w10 X)

theorem whole : after (hostOps0 (F := Ideal)) X = after kE (w11 X) := by
  rw [cut]
  rw [app, app, app, app, app, app, app, app, app, app, app]
  rfl

theorem w2_44 : w2 X (Proc.devRef .tc main_call0_v44) = scT (kP X) := b44 _ _ rfl

theorem w3_34 (b : Fin 4) (p : Fin 12288) : (show FVec Ideal S4x12288 .f32 from w3 X (Proc.devRef .tc main_call0_v34)) (ix2 b p)
    = sg (kP X (ix3 b p ⟨4, by omega⟩)) :=
  (congrFun (kC_v34 (w2 X)) _).trans (b34 _ _ rfl b p)

theorem w4_17 (b : Fin 4) (p : Fin 12288) (a : Fin 2) : (show FVec Ideal S4x12288x2 .f32 from w4 X (Proc.devRef .tc main_call0_v17)) (ix3 b p a)
    = ctr (kP X) b p a :=
  (congrFun (kM_v17 (w3 X)) _).trans ((congrFun (kC_v17 (w2 X)) _).trans (b17 _ _ rfl b p a))

theorem w4_26 (b : Fin 4) (p : Fin 12288) (a : Fin 2) : (show FVec Ideal S4x12288x2 .f32 from w4 X (Proc.devRef .tc main_call0_v26)) (ix3 b p a)
    = ext (kP X) b p a :=
  (congrFun (kM_v26 (w3 X)) _).trans ((congrFun (kC_v26 (w2 X)) _).trans (b26 _ _ rfl b p a))

theorem w5_53 (b : Fin 4) (p : Fin 12288) : (show FVec Ideal S4x12288 .f32 from w5 X (Proc.devRef .tc main_call0_v53)) (ix2 b p)
    = conf (kP X) (mxK (kP X)) b p :=
  (congrFun (kD_v53 (w4 X)) _).trans (m53 _ _ (w3_34 X) (c45 _ _ (w2_44 X)) b p)

theorem w6_47 (b : Fin 4) (p : Fin 12288) : (show FVec Ideal S4x12288 .f32 from w6 X (Proc.devRef .tc main_call0_v47)) (ix2 b p)
    = (((amK (kP X) (ix2 b p)).toInt : ℝ) : EReal) :=
  (congrFun (kT_v47 (w5 X)) _).trans ((congrFun (kD_v47 (w4 X)) _).trans ((congrFun (kM_v47 (w3 X)) _).trans (c47 _ _ (w2_44 X) b p)))

theorem w6_idx (b : Fin 4) (j : Fin 1024) : (show IVec S4x1024 32 from w6 X (Proc.devRef .tc main_call0_indices)) (ix2 b j)
    = BitVec.ofNat 32 (rk (kP X) (mxK (kP X)) b j).val := t_idx _ _ (w5_53 X) b j

theorem w7_idx (b : Fin 4) (j : Fin 1024) : (show IVec S4x1024 32 from w7 X (Proc.devRef .tc main_call0_indices)) (ix2 b j)
    = BitVec.ofNat 32 (rk (kP X) (mxK (kP X)) b j).val := (congrFun (kG0_indices (w6 X)) _).trans (w6_idx X b j)

theorem w8_idx (b : Fin 4) (j : Fin 1024) : (show IVec S4x1024 32 from w8 X (Proc.devRef .tc main_call0_indices)) (ix2 b j)
    = BitVec.ofNat 32 (rk (kP X) (mxK (kP X)) b j).val := (congrFun (kG1_indices (w7 X)) _).trans (w7_idx X b j)

theorem w9_idx (b : Fin 4) (j : Fin 1024) : (show IVec S4x1024 32 from w9 X (Proc.devRef .tc main_call0_indices)) (ix2 b j)
    = BitVec.ofNat 32 (rk (kP X) (mxK (kP X)) b j).val := (congrFun (kG2_indices (w8 X)) _).trans (w8_idx X b j)

theorem w10_idx (b : Fin 4) (j : Fin 1024) : (show IVec S4x1024 32 from w10 X (Proc.devRef .tc main_call0_indices)) (ix2 b j)
    = BitVec.ofNat 32 (rk (kP X) (mxK (kP X)) b j).val := (congrFun (kG3_indices (w9 X)) _).trans (w9_idx X b j)

theorem w11_82 (b : Fin 4) (j : Fin 1024) : (show FVec Ideal S4x1024 .f32 from w11 X (Proc.devRef .tc main_call0_v82)) (ix2 b j)
    = bx (kP X) (mxK (kP X)) b j 0 :=
  (congrFun (kG1_v82 (w7 X)) _).trans ((congrFun (kG2_v82 (w8 X)) _).trans ((congrFun (kG3_v82 (w9 X)) _).trans ((congrFun (kG4_v82 (w10 X)) _).trans ((g82 _ _ (w6_idx X) b j).trans ((congrFun (kT_v60 (w5 X)) _).trans (d60 _ _ (w4_17 X) (w4_26 X) b _))))))

theorem w11_83 (b : Fin 4) (j : Fin 1024) : (show FVec Ideal S4x1024 .f32 from w11 X (Proc.devRef .tc main_call0_v83)) (ix2 b j)
    = bx (kP X) (mxK (kP X)) b j 1 :=
  (congrFun (kG2_v83 (w8 X)) _).trans ((congrFun (kG3_v83 (w9 X)) _).trans ((congrFun (kG4_v83 (w10 X)) _).trans ((g83 _ _ (w7_idx X) b j).trans ((congrFun (kT_v67 (w5 X)) _).trans ((congrFun (kG0_v67 (w6 X)) _).trans (d67 _ _ (w4_17 X) (w4_26 X) b _))))))

theorem w11_84 (b : Fin 4) (j : Fin 1024) : (show FVec Ideal S4x1024 .f32 from w11 X (Proc.devRef .tc main_call0_v84)) (ix2 b j)
    = bx (kP X) (mxK (kP X)) b j 2 :=
  (congrFun (kG3_v84 (w9 X)) _).trans ((congrFun (kG4_v84 (w10 X)) _).trans ((g84 _ _ (w8_idx X) b j).trans ((congrFun (kT_v74 (w5 X)) _).trans ((congrFun (kG0_v74 (w6 X)) _).trans ((congrFun (kG1_v74 (w7 X)) _).trans (d74 _ _ (w4_17 X) (w4_26 X) b _))))))

theorem w11_85 (b : Fin 4) (j : Fin 1024) : (show FVec Ideal S4x1024 .f32 from w11 X (Proc.devRef .tc main_call0_v85)) (ix2 b j)
    = bx (kP X) (mxK (kP X)) b j 3 :=
  (congrFun (kG4_v85 (w10 X)) _).trans ((g85 _ _ (w9_idx X) b j).trans ((congrFun (kT_v81 (w5 X)) _).trans ((congrFun (kG0_v81 (w6 X)) _).trans ((congrFun (kG1_v81 (w7 X)) _).trans ((congrFun (kG2_v81 (w8 X)) _).trans (d81 _ _ (w4_17 X) (w4_26 X) b _))))))

/-- The class of rank `j`. -/
def clK (P : FVec Ideal S4x12288x85 .f32) (b : Fin 4) (j : Fin 1024) : BitVec 32 := amK P (ix2 b (rk P (mxK P) b j))

theorem w11_86 (b : Fin 4) (j : Fin 1024) : (show FVec Ideal S4x1024 .f32 from w11 X (Proc.devRef .tc main_call0_v86)) (ix2 b j)
    = (((clK (kP X) b j).toInt : ℝ) : EReal) :=
  (g86 _ _ (w10_idx X) b j).trans ((congrFun (kG0_v47 (w6 X)) _).trans ((congrFun (kG1_v47 (w7 X)) _).trans ((congrFun (kG2_v47 (w8 X)) _).trans ((congrFun (kG3_v47 (w9 X)) _).trans (w6_47 X b _)))))

theorem w11_val (b : Fin 4) (j : Fin 1024) : (show FVec Ideal S4x1024 .f32 from w11 X (Proc.devRef .tc main_call0_values)) (ix2 b j)
    = sc (kP X) (mxK (kP X)) b j :=
  (congrFun (kG0_values (w6 X)) _).trans ((congrFun (kG1_values (w7 X)) _).trans ((congrFun (kG2_values (w8 X)) _).trans ((congrFun (kG3_values (w9 X)) _).trans ((congrFun (kG4_values (w10 X)) _).trans (t_val _ _ (w5_53 X) b j)))))

theorem head91 (b : Fin 4) (j : Fin 1024) (k : Fin 4) :
    (show FVec Ideal S4x1024x4 .f32 from after (hostOps0 (F := Ideal)) X (Proc.devRef .tc main_call0_v91)) (ix3 b j k)
    = bx (kP X) (mxK (kP X)) b j k := by
  rw [whole]
  exact e91 _ _ (w11_82 X) (w11_83 X) (w11_84 X) (w11_85 X) b j k

theorem head96 (b : Fin 4) (j : Fin 1024) (k : Fin 4) :
    (show FVec Ideal S4x4x1024 .f32 from after (hostOps0 (F := Ideal)) X (Proc.devRef .tc main_call0_v96)) (ix3 b k j)
    = bx (kP X) (mxK (kP X)) b j k := by
  rw [whole]
  exact e96 _ _ (w11_82 X) (w11_83 X) (w11_84 X) (w11_85 X) b j k

theorem head97 (b : Fin 4) (j : Fin 1024) :
    (show FVec Ideal S4x1024x1 .f32 from after (hostOps0 (F := Ideal)) X (Proc.devRef .tc main_call0_v97)) (ix3 b j 0)
    = (((clK (kP X) b j).toInt : ℝ) : EReal) := by
  rw [whole]
  exact (e97 _ b j).trans (w11_86 X b j)

theorem head99 (b : Fin 4) (j : Fin 1024) :
    (show FVec Ideal S4x1x1024 .f32 from after (hostOps0 (F := Ideal)) X (Proc.devRef .tc main_call0_v99)) (ix3 b 0 j)
    = (((clK (kP X) b j).toInt : ℝ) : EReal) := by
  rw [whole]
  exact (e99 _ b j).trans (w11_86 X b j)

theorem head98 (b : Fin 4) (j : Fin 1024) :
    (show FVec Ideal S4x1x1024 .f32 from after (hostOps0 (F := Ideal)) X (Proc.devRef .tc main_call0_v98)) (ix3 b 0 j)
    = sc (kP X) (mxK (kP X)) b j := by
  rw [whole]
  exact (e98 _ b j).trans (w11_val X b j)

end Cert.KernelIdeal.Hand

end
-- ==== Proof.Hand.RHead.lean ====
/-
  What the reference's straight lines before its loop leave, candidate by candidate.
-/
module

public import proofs.«01_k».proof.Defs
public import proofs.«01_k».proof.Proof.Gen.ReferenceIdeal
public import proofs.«01_k».proof.Proof.Gen.ReferenceIdeal.Run
public import proofs.«01_k».proof.Proof.Hand.KHead
public import Idealize.ShloMosaic.Lib.StableHlo.ReadAt
public import Idealize.ShloMosaic.Lib.Pointwise

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Cert.Nms
open Cert.KernelIdeal.Hand (mxK amK clK)

abbrev rA := (hostOps0 (F := Ideal)).take 11
abbrev rB := ((hostOps0 (F := Ideal)).drop 11).take 42
abbrev rC := ((hostOps0 (F := Ideal)).drop 53).take 10
abbrev rD := (hostOps0 (F := Ideal)).drop 63
abbrev r2a := (hostOps0_2 (F := Ideal)).take 4
abbrev r2b := ((hostOps0_2 (F := Ideal)).drop 4).take 29
abbrev r2c := (hostOps0_2 (F := Ideal)).drop 33

theorem rapp {l₁ l₂ : List (HloOp τ sig (Elt Ideal))} (V) : after (l₁ ++ l₂) V = after l₂ (after l₁ V) := by
  induction l₁ generalizing V with
  | nil => rfl
  | cons op l ih => exact ih _

theorem rcut0 : (hostOps0 (F := Ideal)) = rA ++ (rB ++ (rC ++ rD)) := rfl
theorem rcut2 : (hostOps0_2 (F := Ideal)) = r2a ++ (r2b ++ r2c) := rfl

variable (X : Valuation τ sig (Elt Ideal))

section B
variable (P : FVec Ideal S4x12288x85 .f32) (hP : X (Proc.devRef .tc main_v8) = P)
include hP

theorem b17 (b : Fin 4) (p : Fin 12288) (a : Fin 2) : (show FVec Ideal S4x12288x2 .f32 from after rB X (Proc.devRef .tc main_v17)) (ix3 b p a)
    = ctr P b p a := by
  after_reads_simp
  rw [hP]
  clean_types
  pointwise
  rfl

theorem b26 (b : Fin 4) (p : Fin 12288) (a : Fin 2) : (show FVec Ideal S4x12288x2 .f32 from after rB X (Proc.devRef .tc main_v26)) (ix3 b p a)
    = ext P b p a := by
  after_reads_simp
  rw [hP]
  clean_types
  pointwise
  rfl

theorem b33 (b : Fin 4) (p : Fin 12288)  : (show FVec Ideal S4x12288x1 .f32 from after rB X (Proc.devRef .tc main_v33)) (ix3 b p 0)
    = sg (P (ix3 b p ⟨4, by omega⟩)) := by
  after_reads_simp
  rw [hP]
  clean_types
  pointwise
  rfl

theorem b40 (b : Fin 4) (p : Fin 12288) (k : Fin 80) : (show FVec Ideal S4x12288x80 .f32 from after rB X (Proc.devRef .tc main_v40)) (ix3 b p k)
    = sg (P (ix3 b p ⟨5 + k.val, by omega⟩)) := by
  after_reads_simp
  rw [hP]
  clean_types
  pointwise
  rfl

end B

section C
variable (P : FVec Ideal S4x12288x85 .f32)
    (h17 : ∀ b p a, (show FVec Ideal S4x12288x2 .f32 from X (Proc.devRef .tc main_v17)) (ix3 b p a) = ctr P b p a)
    (h26 : ∀ b p a, (show FVec Ideal S4x12288x2 .f32 from X (Proc.devRef .tc main_v26)) (ix3 b p a) = ext P b p a)
    (h33 : ∀ b p, (show FVec Ideal S4x12288x1 .f32 from X (Proc.devRef .tc main_v33)) (ix3 b p 0) = sg (P (ix3 b p ⟨4, by omega⟩)))
    (h40 : ∀ b p k, (show FVec Ideal S4x12288x80 .f32 from X (Proc.devRef .tc main_v40)) (ix3 b p k) = sg (P (ix3 b p ⟨5 + k.val, by omega⟩)))
include h17 h26 h33 h40

theorem c41_0 (b : Fin 4) (p : Fin 12288) : (show FVec Ideal S4x12288x85 .f32 from after rC X (Proc.devRef .tc main_v41)) (ix3 b p 0)
    = ctr P b p 0 := by
  after_reads_simp
  clean_types
  pointwise
  exact h17 b p 0

theorem c41_1 (b : Fin 4) (p : Fin 12288) : (show FVec Ideal S4x12288x85 .f32 from after rC X (Proc.devRef .tc main_v41)) (ix3 b p 1)
    = ctr P b p 1 := by
  after_reads_simp
  clean_types
  pointwise
  exact h17 b p 1

theorem c41_2 (b : Fin 4) (p : Fin 12288) : (show FVec Ideal S4x12288x85 .f32 from after rC X (Proc.devRef .tc main_v41)) (ix3 b p 2)
    = ext P b p 0 := by
  after_reads_simp
  clean_types
  pointwise
  exact h26 b p 0

theorem c41_3 (b : Fin 4) (p : Fin 12288) : (show FVec Ideal S4x12288x85 .f32 from after rC X (Proc.devRef .tc main_v41)) (ix3 b p 3)
    = ext P b p 1 := by
  after_reads_simp
  clean_types
  pointwise
  exact h26 b p 1

theorem c45 (b : Fin 4) (p : Fin 12288) : (show IVec S4x12288 1 from after rC X (Proc.devRef .tc main_v45)) (ix2 b p)
    = Ideal.cmp .ogt (sg (P (ix3 b p ⟨4, by omega⟩))) thr := by
  after_reads_simp
  clean_types
  pointwise
  exact congrArg (fun t => Ideal.cmp .ogt t thr) (h33 b p)

theorem c49 : (show FVec Ideal S4x12288x80 .f32 from after rC X (Proc.devRef .tc main_v49)) = scT P := by
  funext i
  rw [eq_ix3 i]
  after_reads_simp
  clean_types
  pointwise
  rw [dif_neg (by omega), dif_neg (by omega), dif_neg (by omega)]
  refine congrArg₂ (fun x y : EReal => x * y) ?_ (h33 (i 0) (i 1))
  refine (congrArg (fun t => (show FVec Ideal S4x12288x80 .f32 from X (Proc.devRef .tc main_v40)) (ix3 (i 0) (i 1) t)) (?_ : _ = i 2)).trans (h40 (i 0) (i 1) (i 2))
  exact Fin.ext (by simp only []; omega)

end C

theorem d50 (P : FVec Ideal S4x12288x85 .f32) (h49 : X (Proc.devRef .tc main_v49) = scT P) :
    (show FVec Ideal S4x12288 .f32 from after rD X (Proc.devRef .tc main_v50)) = mxK P := by
  after_reads_simp
  rw [h49]
  rfl

theorem a51 (P : FVec Ideal S4x12288x85 .f32) (h49 : X (Proc.devRef .tc main_v49) = scT P) :
    (show IVec S4x12288 32 from after hostOps0_1 X (Proc.devRef .tc main_v51)) = amK P := by
  after_reads_simp
  simp -implicitDefEqProofs only [StableHlo.TRef.toBuf, StableHlo.TRef.ofBuf, cast_cast, cast_eq]
  rw [h49]
  rfl

theorem e54 (P : FVec Ideal S4x12288x85 .f32)
    (h45 : ∀ b p, (show IVec S4x12288 1 from X (Proc.devRef .tc main_v45)) (ix2 b p) = Ideal.cmp .ogt (sg (P (ix3 b p ⟨4, by omega⟩))) thr)
    (h50 : (show FVec Ideal S4x12288 .f32 from X (Proc.devRef .tc main_v50)) = mxK P)
    (b : Fin 4) (p : Fin 12288) : (show IVec S4x12288 1 from after r2a X (Proc.devRef .tc main_v54)) (ix2 b p)
    = IntOp.andi (Ideal.cmp .ogt (sg (P (ix3 b p ⟨4, by omega⟩))) thr) (Ideal.cmp .ogt (mxK P (ix2 b p)) thr) := by
  after_reads_simp
  generalize mxK P = M at h50 ⊢
  generalize X (Proc.devRef .tc main_v50) = z at h50 ⊢
  generalize X (Proc.devRef .tc main_v45) = y at h45 ⊢
  change z = M at h50
  subst h50
  change ∀ b p, y (ix2 b p) = _ at h45
  clean_types
  pointwise
  rw [h45]
  rfl

theorem two_f32 : Ideal.ofBits .f32 0x40000000#32 = ((2 : ℝ) : EReal) := by
  simp [Ideal.ofBits, Ideal.ieee, -EReal.coe_mul]; norm_num

theorem half_f32 : Ideal.ofBits .f32 0x3F000000#32 = (((2 : ℝ)⁻¹ : ℝ) : EReal) := by
  simp [Ideal.ofBits, Ideal.ieee, -EReal.coe_mul]; norm_num

theorem half_eq (x : EReal) : Ideal.div x (Ideal.ofBits .f32 0x40000000#32) = x * half := by
  unfold half Ideal.div
  rw [two_f32, half_f32, if_neg (by exact_mod_cast (two_ne_zero : (2 : ℝ) ≠ 0)), ← EReal.coe_inv]

section F
variable (P : FVec Ideal S4x12288x85 .f32)
    (h0 : ∀ b p, (show FVec Ideal S4x12288x85 .f32 from X (Proc.devRef .tc main_v41)) (ix3 b p 0) = ctr P b p 0)
    (h1 : ∀ b p, (show FVec Ideal S4x12288x85 .f32 from X (Proc.devRef .tc main_v41)) (ix3 b p 1) = ctr P b p 1)
    (h2 : ∀ b p, (show FVec Ideal S4x12288x85 .f32 from X (Proc.devRef .tc main_v41)) (ix3 b p 2) = ext P b p 0)
    (h3 : ∀ b p, (show FVec Ideal S4x12288x85 .f32 from X (Proc.devRef .tc main_v41)) (ix3 b p 3) = ext P b p 1)
include h0 h1 h2 h3

theorem f76 (b : Fin 4) (p : Fin 12288) : (show FVec Ideal S4x12288x1 .f32 from after r2b X (Proc.devRef .tc main_v76)) (ix3 b p 0)
    = corner P b p 0 := by
  have e0 := h0 b p
  have e1 := h2 b p
  after_reads_simp
  generalize X (Proc.devRef .tc main_v41) = y at e0 e1 ⊢
  change y (ix3 b p 0) = _ at e0
  change y (ix3 b p 2) = _ at e1
  clean_types
  pointwise
  rw [half_eq, e0, e1]
  rfl

theorem f77 (b : Fin 4) (p : Fin 12288) : (show FVec Ideal S4x12288x1 .f32 from after r2b X (Proc.devRef .tc main_v77)) (ix3 b p 0)
    = corner P b p 1 := by
  have e0 := h1 b p
  have e1 := h3 b p
  after_reads_simp
  generalize X (Proc.devRef .tc main_v41) = y at e0 e1 ⊢
  change y (ix3 b p 1) = _ at e0
  change y (ix3 b p 3) = _ at e1
  clean_types
  pointwise
  rw [half_eq, e0, e1]
  rfl

theorem f78 (b : Fin 4) (p : Fin 12288) : (show FVec Ideal S4x12288x1 .f32 from after r2b X (Proc.devRef .tc main_v78)) (ix3 b p 0)
    = corner P b p 2 := by
  have e0 := h0 b p
  have e1 := h2 b p
  after_reads_simp
  generalize X (Proc.devRef .tc main_v41) = y at e0 e1 ⊢
  change y (ix3 b p 0) = _ at e0
  change y (ix3 b p 2) = _ at e1
  clean_types
  pointwise
  rw [half_eq, e0, e1]
  rfl

theorem f79 (b : Fin 4) (p : Fin 12288) : (show FVec Ideal S4x12288x1 .f32 from after r2b X (Proc.devRef .tc main_v79)) (ix3 b p 0)
    = corner P b p 3 := by
  have e0 := h1 b p
  have e1 := h3 b p
  after_reads_simp
  generalize X (Proc.devRef .tc main_v41) = y at e0 e1 ⊢
  change y (ix3 b p 1) = _ at e0
  change y (ix3 b p 3) = _ at e1
  clean_types
  pointwise
  rw [half_eq, e0, e1]
  rfl

end F

theorem g80 (P : FVec Ideal S4x12288x85 .f32)
    (h76 : ∀ b p, (show FVec Ideal S4x12288x1 .f32 from X (Proc.devRef .tc main_v76)) (ix3 b p 0) = corner P b p 0)
    (h77 : ∀ b p, (show FVec Ideal S4x12288x1 .f32 from X (Proc.devRef .tc main_v77)) (ix3 b p 0) = corner P b p 1)
    (h78 : ∀ b p, (show FVec Ideal S4x12288x1 .f32 from X (Proc.devRef .tc main_v78)) (ix3 b p 0) = corner P b p 2)
    (h79 : ∀ b p, (show FVec Ideal S4x12288x1 .f32 from X (Proc.devRef .tc main_v79)) (ix3 b p 0) = corner P b p 3)
    (b : Fin 4) (p : Fin 12288) (k : Fin 4) : (show FVec Ideal S4x12288x4 .f32 from after r2c X (Proc.devRef .tc main_v80)) (ix3 b p k)
    = corner P b p k := by
  after_reads_simp
  clean_types
  match k with
  | 0 => pointwise; exact h76 b p
  | 1 => pointwise; exact h77 b p
  | 2 => pointwise; exact h78 b p
  | 3 => pointwise; exact h79 b p

theorem g18 : after r2c X (Proc.devRef .tc main_cst_18) = constant (F := Ideal) S_ .f32 0xBF800000#32 := by
  after_reads_simp

theorem m81 (P : FVec Ideal S4x12288x85 .f32)
    (h54 : ∀ b p, (show IVec S4x12288 1 from X (Proc.devRef .tc main_v54)) (ix2 b p)
      = IntOp.andi (Ideal.cmp .ogt (sg (P (ix3 b p ⟨4, by omega⟩))) thr) (Ideal.cmp .ogt (mxK P (ix2 b p)) thr))
    (h50 : (show FVec Ideal S4x12288 .f32 from X (Proc.devRef .tc main_v50)) = mxK P)
    (h18 : X (Proc.devRef .tc main_cst_18) = constant (F := Ideal) S_ .f32 0xBF800000#32)
    (b : Fin 4) (p : Fin 12288) : (show FVec Ideal S4x12288 .f32 from after hostOps0_3 X (Proc.devRef .tc main_v81)) (ix2 b p)
    = conf P (mxK P) b p := by
  after_reads_simp
  simp -implicitDefEqProofs only [StableHlo.TRef.toBuf, StableHlo.TRef.ofBuf, cast_cast, cast_eq]
  rw [h18]
  have h := h54 b p
  generalize mxK P = M at h h50 ⊢
  generalize X (Proc.devRef .tc main_v50) = z at h50 ⊢
  generalize X (Proc.devRef .tc main_v54) = y at h ⊢
  change z = M at h50
  subst h50
  change y (ix2 b p) = _ at h
  clean_types
  pointwise
  rw [h]
  rfl

section T
variable (P : FVec Ideal S4x12288x85 .f32)
  (h81 : ∀ b p, (show FVec Ideal S4x12288 .f32 from X (Proc.devRef .tc main_v81)) (ix2 b p) = conf P (mxK P) b p)
include h81

theorem t_val (b : Fin 4) (j : Fin 1024) : (show FVec Ideal S4x1024 .f32 from after hostOps0_4 X (Proc.devRef .tc main_values)) (ix2 b j)
    = sc P (mxK P) b j := by
  after_reads_simp
  generalize X (Proc.devRef .tc main_v81) = y at h81 ⊢
  refine (topK_val y _ b j (lift_lt j)).trans ?_
  have hf : (fun l => y (ix2 b l)) = conf P (mxK P) b := funext fun l => h81 b l
  rw [hf]
  exact h81 b _

theorem t_idx (b : Fin 4) (j : Fin 1024) : (show IVec S4x1024 32 from after hostOps0_4 X (Proc.devRef .tc main_indices)) (ix2 b j)
    = BitVec.ofNat 32 (rk P (mxK P) b j).val := by
  after_reads_simp
  generalize X (Proc.devRef .tc main_v81) = y at h81 ⊢
  refine (topK_idx y _ b j (lift_lt j)).trans ?_
  have hf : (fun l => y (ix2 b l)) = conf P (mxK P) b := funext fun l => h81 b l
  rw [hf]
  rfl

theorem t_82 (b : Fin 4) (j : Fin 1024) : (show IVec S4x1024x1 32 from after hostOps0_4 X (Proc.devRef .tc main_v82)) (ix3 b j 0)
    = BitVec.ofNat 32 (rk P (mxK P) b j).val := by
  after_reads_simp
  generalize X (Proc.devRef .tc main_v81) = y at h81 ⊢
  have hf : (fun l => y (ix2 b l)) = conf P (mxK P) b := funext fun l => h81 b l
  refine Eq.trans ?_ ((topK_idx y (k := j) (b := b) (hk := lift_lt j) sliceFits_S4x12288_S4x1024).trans ?_)
  · pointwise
  · rw [hf]
    rfl

end T

theorem h83 (q : Fin 4 → Fin 1024 → Fin 12288)
    (hI : ∀ b j, (show IVec S4x1024x1 32 from X (Proc.devRef .tc main_v82)) (ix3 b j 0) = BitVec.ofNat 32 (q b j).val)
    (b : Fin 4) (j : Fin 1024) (k : Fin 4) : (show FVec Ideal S4x1024x4 .f32 from after hostOps0_5 X (Proc.devRef .tc main_v83)) (ix3 b j k)
    = (show FVec Ideal S4x12288x4 .f32 from X (Proc.devRef .tc main_v80)) (ix3 b (q b j) k) := by
  after_reads_simp
  simp -implicitDefEqProofs only [StableHlo.TRef.toBuf, StableHlo.TRef.ofBuf, cast_cast, cast_eq]
  generalize X (Proc.devRef .tc main_v82) = y at hI ⊢
  generalize X (Proc.devRef .tc main_v80) = z
  change ∀ b j, y (ix3 b j 0) = _ at hI
  clean_types
  pointwise
  have hx : ∀ b j (x : Fin 1), y (ix3 b j x) = BitVec.ofNat 32 (q b j).val := fun b j x => by rw [Subsingleton.elim x 0]; exact hI b j
  simp only [hx, wrap_pos (q _ _) (by omega : 12288 < 2 ^ 31), show 12287#32 = BitVec.ofNat 32 12287 from rfl, mask_pos (q _ _) (by omega : 12288 < 2 ^ 31) 12287 rfl]
  rw [fold_one, sel_one]
  refine gather_batch_row _ z _ b j k (q b j) (by omega) ?_
  show Scalar.select (IntOp.cmpi .slt (y (ix3 b j 0)) 0#32) (IntOp.addi (y (ix3 b j 0)) 12288#32) (y (ix3 b j 0)) = _
  rw [hI, wrap_pos (q _ _) (by omega : 12288 < 2 ^ 31)]

theorem h84 (q : Fin 4 → Fin 1024 → Fin 12288)
    (hI : ∀ b j, (show IVec S4x1024 32 from X (Proc.devRef .tc main_indices)) (ix2 b j) = BitVec.ofNat 32 (q b j).val)
    (b : Fin 4) (j : Fin 1024) : (show IVec S4x1024 32 from after hostOps0_6 X (Proc.devRef .tc main_v84)) (ix2 b j)
    = (show IVec S4x12288 32 from X (Proc.devRef .tc main_v51)) (ix2 b (q b j)) := by
  after_reads_simp
  simp -implicitDefEqProofs only [StableHlo.TRef.toBuf, StableHlo.TRef.ofBuf, cast_cast, cast_eq]
  generalize X (Proc.devRef .tc main_indices) = y at hI ⊢
  generalize X (Proc.devRef .tc main_v51) = z
  change ∀ b j, y (ix2 b j) = _ at hI
  clean_types
  pointwise
  simp only [hI, wrap_pos (q _ _) (by omega : 12288 < 2 ^ 31), show 12287#32 = BitVec.ofNat 32 12287 from rfl, mask_pos (q _ _) (by omega : 12288 < 2 ^ 31) 12287 rfl]
  rw [fold_one, sel_one]
  refine gather_batch _ z _ b j (q b j) (by omega) ?_
  show Scalar.select (IntOp.cmpi .slt (y (ix2 b j)) 0#32) (IntOp.addi (y (ix2 b j)) 12288#32) (y (ix2 b j)) = _
  rw [hI, wrap_pos (q _ _) (by omega : 12288 < 2 ^ 31)]

abbrev r7a := (hostOps0_7 (F := Ideal)).take 10
abbrev r7b := (hostOps0_7 (F := Ideal)).drop 10
theorem rcut7 : (hostOps0_7 (F := Ideal)) = r7a ++ r7b := rfl

section I
variable (bxs : Fin 4 → Fin 1024 → Fin 4 → EReal) (cl : Fin 4 → Fin 1024 → BitVec 32) (o : Fin 4 → Fin 1024 → Fin 4 → EReal)

theorem i86 (b : Fin 4) (j : Fin 1024) : (show IVec S4x1024 1 from after r7a X (Proc.devRef .tc main_v86)) (ix2 b j)
    = Ideal.cmp .ogt ((show FVec Ideal S4x1024 .f32 from X (Proc.devRef .tc main_values)) (ix2 b j)) thr := by
  after_reads_simp
  generalize X (Proc.devRef .tc main_values) = y
  clean_types
  pointwise
  rfl

theorem i92
    (h83 : ∀ b j k, (show FVec Ideal S4x1024x4 .f32 from X (Proc.devRef .tc main_v83)) (ix3 b j k) = bxs b j k)
    (h84 : ∀ b j, (show IVec S4x1024 32 from X (Proc.devRef .tc main_v84)) (ix2 b j) = cl b j)
    (b : Fin 4) (j : Fin 1024) (k : Fin 4) : (show FVec Ideal S4x1024x4 .f32 from after r7a X (Proc.devRef .tc main_v92)) (ix3 b j k)
    = moved (bxs b) (cl b) j k := by
  have e1 := h83 b j k
  have e2 := h84 b j
  after_reads_simp
  generalize X (Proc.devRef .tc main_v83) = y at e1 ⊢
  generalize X (Proc.devRef .tc main_v84) = z at e2 ⊢
  change y (ix3 b j k) = _ at e1
  change z (ix2 b j) = _ at e2
  clean_types
  pointwise
  unfold moved
  rw [← e1, ← e2]
  rfl

section J
variable
    (h92 : ∀ b j k, (show FVec Ideal S4x1024x4 .f32 from X (Proc.devRef .tc main_v92)) (ix3 b j k) = o b j k)
include h92

theorem j103 (b : Fin 4) (j : Fin 1024) : (show FVec Ideal S4x1024 .f32 from after r7b X (Proc.devRef .tc main_v103)) (ix2 b j)
    = area (o b) j := by
  after_reads_simp
  generalize X (Proc.devRef .tc main_v92) = y at h92 ⊢
  change ∀ b j k, y (ix3 b j k) = _ at h92
  clean_types
  pointwise
  simp only [h92]
  rfl

theorem j114 (b : Fin 4) (j : Fin 1024) : (show FVec Ideal S4x1024 .f32 from after r7b X (Proc.devRef .tc main_v114)) (ix2 b j)
    = area (o b) j := by
  after_reads_simp
  generalize X (Proc.devRef .tc main_v92) = y at h92 ⊢
  change ∀ b j k, y (ix3 b j k) = _ at h92
  clean_types
  pointwise
  simp only [h92]
  rfl

theorem j129_0 (b : Fin 4) (i j : Fin 1024) : (show FVec Ideal S4x1024x1024x2 .f32 from after r7b X (Proc.devRef .tc main_v129)) (ix4 b i j 0)
    = min (o b i 2) (o b j 2) - max (o b i 0) (o b j 0) := by
  after_reads_simp
  generalize X (Proc.devRef .tc main_v92) = y at h92 ⊢
  change ∀ b j k, y (ix3 b j k) = _ at h92
  clean_types
  pointwise
  simp only [h92]

theorem j129_1 (b : Fin 4) (i j : Fin 1024) : (show FVec Ideal S4x1024x1024x2 .f32 from after r7b X (Proc.devRef .tc main_v129)) (ix4 b i j 1)
    = min (o b i 3) (o b j 3) - max (o b i 1) (o b j 1) := by
  after_reads_simp
  generalize X (Proc.devRef .tc main_v92) = y at h92 ⊢
  change ∀ b j k, y (ix3 b j k) = _ at h92
  clean_types
  pointwise
  simp only [h92]

theorem j21 : after r7b X (Proc.devRef .tc main_cst_21) = constant (F := Ideal) S_ .f32 0x00000000#32 := by
  after_reads_simp

end J

theorem k130 (h21 : X (Proc.devRef .tc main_cst_21) = constant (F := Ideal) S_ .f32 0x00000000#32)
    (b : Fin 4) (i j : Fin 1024) (k : Fin 2) : (show FVec Ideal S4x1024x1024x2 .f32 from after hostOps0_8 X (Proc.devRef .tc main_v130)) (ix4 b i j k)
    = max 0 ((show FVec Ideal S4x1024x1024x2 .f32 from X (Proc.devRef .tc main_v129)) (ix4 b i j k)) := by
  after_reads_simp
  simp -implicitDefEqProofs only [StableHlo.TRef.toBuf, StableHlo.TRef.ofBuf, cast_cast, cast_eq]
  rw [h21]
  generalize X (Proc.devRef .tc main_v129) = y
  simp only [id_eq]
  clean_types
  pointwise

theorem l144
    (h103 : ∀ b j, (show FVec Ideal S4x1024 .f32 from X (Proc.devRef .tc main_v103)) (ix2 b j) = area (o b) j)
    (h114 : ∀ b j, (show FVec Ideal S4x1024 .f32 from X (Proc.devRef .tc main_v114)) (ix2 b j) = area (o b) j)
    (h0 : ∀ b i j, (show FVec Ideal S4x1024x1024x2 .f32 from X (Proc.devRef .tc main_v130)) (ix4 b i j 0) = max 0 (min (o b i 2) (o b j 2) - max (o b i 0) (o b j 0)))
    (h1 : ∀ b i j, (show FVec Ideal S4x1024x1024x2 .f32 from X (Proc.devRef .tc main_v130)) (ix4 b i j 1) = max 0 (min (o b i 3) (o b j 3) - max (o b i 1) (o b j 1)))
    (b : Fin 4) (i j : Fin 1024) : (show FVec Ideal S4x1024x1024 .f32 from after hostOps0_9 X (Proc.devRef .tc main_v146_0)) (ix3 b i j)
    = iou (o b) i j := by
  have e0 := h0 b i j
  have e1 := h1 b i j
  have e2 := h103 b i
  have e3 := h114 b j
  after_reads_simp
  generalize X (Proc.devRef .tc main_v103) = y at e2 ⊢
  generalize X (Proc.devRef .tc main_v114) = z at e3 ⊢
  generalize X (Proc.devRef .tc main_v130) = w at e0 e1 ⊢
  change w (ix4 b i j 0) = _ at e0
  change w (ix4 b i j 1) = _ at e1
  change y (ix2 b i) = _ at e2
  change z (ix2 b j) = _ at e3
  simp only [id_eq]
  clean_types
  pointwise
  rw [e0, e1, e2, e3]
  rfl

theorem l1 : (show IVec S1024 32 from after hostOps0_9 X (Proc.devRef .tc main_v146_1)) = iotaInDim S1024 32 0 := by
  after_reads_simp
  rfl
theorem l4 : (show IVec S4x1024 1 from after hostOps0_9 X (Proc.devRef .tc main_v146_4)) = (show IVec S4x1024 1 from X (Proc.devRef .tc main_v86)) := by
  after_reads_simp
  rfl

end I

theorem rD_v41 : after rD X (Proc.devRef .tc main_v41) = X (Proc.devRef .tc main_v41) := by
  after_reads_simp

theorem o1_v41 : after hostOps0_1 X (Proc.devRef .tc main_v41) = X (Proc.devRef .tc main_v41) := by
  after_reads_simp

theorem r2a_v41 : after r2a X (Proc.devRef .tc main_v41) = X (Proc.devRef .tc main_v41) := by
  after_reads_simp

theorem rD_v45 : after rD X (Proc.devRef .tc main_v45) = X (Proc.devRef .tc main_v45) := by
  after_reads_simp

theorem o1_v45 : after hostOps0_1 X (Proc.devRef .tc main_v45) = X (Proc.devRef .tc main_v45) := by
  after_reads_simp

theorem rD_v49 : after rD X (Proc.devRef .tc main_v49) = X (Proc.devRef .tc main_v49) := by
  after_reads_simp

theorem o1_v50 : after hostOps0_1 X (Proc.devRef .tc main_v50) = X (Proc.devRef .tc main_v50) := by
  after_reads_simp

theorem r2a_v50 : after r2a X (Proc.devRef .tc main_v50) = X (Proc.devRef .tc main_v50) := by
  after_reads_simp

theorem r2b_v50 : after r2b X (Proc.devRef .tc main_v50) = X (Proc.devRef .tc main_v50) := by
  after_reads_simp

theorem r2c_v50 : after r2c X (Proc.devRef .tc main_v50) = X (Proc.devRef .tc main_v50) := by
  after_reads_simp

theorem r2a_v51 : after r2a X (Proc.devRef .tc main_v51) = X (Proc.devRef .tc main_v51) := by
  after_reads_simp

theorem r2b_v51 : after r2b X (Proc.devRef .tc main_v51) = X (Proc.devRef .tc main_v51) := by
  after_reads_simp

theorem r2c_v51 : after r2c X (Proc.devRef .tc main_v51) = X (Proc.devRef .tc main_v51) := by
  after_reads_simp

theorem o3_v51 : after hostOps0_3 X (Proc.devRef .tc main_v51) = X (Proc.devRef .tc main_v51) := by
  after_reads_simp

theorem o4_v51 : after hostOps0_4 X (Proc.devRef .tc main_v51) = X (Proc.devRef .tc main_v51) := by
  after_reads_simp

theorem o5_v51 : after hostOps0_5 X (Proc.devRef .tc main_v51) = X (Proc.devRef .tc main_v51) := by
  after_reads_simp

theorem r2b_v54 : after r2b X (Proc.devRef .tc main_v54) = X (Proc.devRef .tc main_v54) := by
  after_reads_simp

theorem r2c_v54 : after r2c X (Proc.devRef .tc main_v54) = X (Proc.devRef .tc main_v54) := by
  after_reads_simp

theorem o3_v80 : after hostOps0_3 X (Proc.devRef .tc main_v80) = X (Proc.devRef .tc main_v80) := by
  after_reads_simp

theorem o4_v80 : after hostOps0_4 X (Proc.devRef .tc main_v80) = X (Proc.devRef .tc main_v80) := by
  after_reads_simp

theorem o5_indices : after hostOps0_5 X (Proc.devRef .tc main_indices) = X (Proc.devRef .tc main_indices) := by
  after_reads_simp

theorem o5_values : after hostOps0_5 X (Proc.devRef .tc main_values) = X (Proc.devRef .tc main_values) := by
  after_reads_simp

theorem o6_values : after hostOps0_6 X (Proc.devRef .tc main_values) = X (Proc.devRef .tc main_values) := by
  after_reads_simp

theorem r7a_values : after r7a X (Proc.devRef .tc main_values) = X (Proc.devRef .tc main_values) := by
  after_reads_simp

theorem r7b_values : after r7b X (Proc.devRef .tc main_values) = X (Proc.devRef .tc main_values) := by
  after_reads_simp

theorem o8_values : after hostOps0_8 X (Proc.devRef .tc main_values) = X (Proc.devRef .tc main_values) := by
  after_reads_simp

theorem o9_values : after hostOps0_9 X (Proc.devRef .tc main_values) = X (Proc.devRef .tc main_values) := by
  after_reads_simp

theorem o6_v83 : after hostOps0_6 X (Proc.devRef .tc main_v83) = X (Proc.devRef .tc main_v83) := by
  after_reads_simp

theorem r7a_v83 : after r7a X (Proc.devRef .tc main_v83) = X (Proc.devRef .tc main_v83) := by
  after_reads_simp

theorem r7b_v83 : after r7b X (Proc.devRef .tc main_v83) = X (Proc.devRef .tc main_v83) := by
  after_reads_simp

theorem o8_v83 : after hostOps0_8 X (Proc.devRef .tc main_v83) = X (Proc.devRef .tc main_v83) := by
  after_reads_simp

theorem o9_v83 : after hostOps0_9 X (Proc.devRef .tc main_v83) = X (Proc.devRef .tc main_v83) := by
  after_reads_simp

theorem r7a_v84 : after r7a X (Proc.devRef .tc main_v84) = X (Proc.devRef .tc main_v84) := by
  after_reads_simp

theorem r7b_v84 : after r7b X (Proc.devRef .tc main_v84) = X (Proc.devRef .tc main_v84) := by
  after_reads_simp

theorem o8_v84 : after hostOps0_8 X (Proc.devRef .tc main_v84) = X (Proc.devRef .tc main_v84) := by
  after_reads_simp

theorem o9_v84 : after hostOps0_9 X (Proc.devRef .tc main_v84) = X (Proc.devRef .tc main_v84) := by
  after_reads_simp

theorem r7b_v86 : after r7b X (Proc.devRef .tc main_v86) = X (Proc.devRef .tc main_v86) := by
  after_reads_simp

theorem o8_v86 : after hostOps0_8 X (Proc.devRef .tc main_v86) = X (Proc.devRef .tc main_v86) := by
  after_reads_simp

theorem o8_v103 : after hostOps0_8 X (Proc.devRef .tc main_v103) = X (Proc.devRef .tc main_v103) := by
  after_reads_simp

theorem o8_v114 : after hostOps0_8 X (Proc.devRef .tc main_v114) = X (Proc.devRef .tc main_v114) := by
  after_reads_simp

/-! ## The whole line -/

/-- The head's raw predictions. -/
def rP : FVec Ideal S4x12288x85 .f32 := after rA X (Proc.devRef .tc main_v8)

def s1 : Valuation τ sig (Elt Ideal) := after rA X
def s2 : Valuation τ sig (Elt Ideal) := after rB (s1 X)
def s3 : Valuation τ sig (Elt Ideal) := after rC (s2 X)
def s4 : Valuation τ sig (Elt Ideal) := after rD (s3 X)
def s5 : Valuation τ sig (Elt Ideal) := after hostOps0_1 (s4 X)
def s6 : Valuation τ sig (Elt Ideal) := after r2a (s5 X)
def s7 : Valuation τ sig (Elt Ideal) := after r2b (s6 X)
def s8 : Valuation τ sig (Elt Ideal) := after r2c (s7 X)
def s9 : Valuation τ sig (Elt Ideal) := after hostOps0_3 (s8 X)
def s10 : Valuation τ sig (Elt Ideal) := after hostOps0_4 (s9 X)
def s11 : Valuation τ sig (Elt Ideal) := after hostOps0_5 (s10 X)
def s12 : Valuation τ sig (Elt Ideal) := after hostOps0_6 (s11 X)
def s13 : Valuation τ sig (Elt Ideal) := after r7a (s12 X)
def s14 : Valuation τ sig (Elt Ideal) := after r7b (s13 X)
def s15 : Valuation τ sig (Elt Ideal) := after hostOps0_8 (s14 X)
def s16 : Valuation τ sig (Elt Ideal) := after hostOps0_9 (s15 X)

theorem rwhole : afterL (preI (F := Ideal)) X = s16 X := by
  show after hostOps0_9 (after hostOps0_8 (after hostOps0_7 (after hostOps0_6 (after hostOps0_5 (after hostOps0_4 (after hostOps0_3
    (after hostOps0_2 (after hostOps0_1 (after hostOps0 X))))))))) = _
  rw [rcut0, rcut2, rcut7, rapp, rapp, rapp, rapp, rapp, rapp]
  rfl

/-- The boxes of image `b`, moved apart by class. -/
def mv (P : FVec Ideal S4x12288x85 .f32) (b : Fin 4) : Fin 1024 → Fin 4 → EReal := moved (bx P (mxK P) b) (clK P b)

theorem s3_49 : s3 X (Proc.devRef .tc main_v49) = scT (rP X) :=
  c49 _ _ (b17 _ _ rfl) (b26 _ _ rfl) (b33 _ _ rfl) (b40 _ _ rfl)

theorem s4_50 : s4 X (Proc.devRef .tc main_v50) = mxK (rP X) := d50 _ _ (s3_49 X)

theorem s5_51 : s5 X (Proc.devRef .tc main_v51) = amK (rP X) := a51 _ _ ((rD_v49 (s3 X)).trans (s3_49 X))

theorem s6_54 (b : Fin 4) (p : Fin 12288) : (show IVec S4x12288 1 from s6 X (Proc.devRef .tc main_v54)) (ix2 b p)
    = IntOp.andi (Ideal.cmp .ogt (sg (rP X (ix3 b p ⟨4, by omega⟩))) thr) (Ideal.cmp .ogt (mxK (rP X) (ix2 b p)) thr) :=
  e54 _ _ (fun b p => (congrFun (o1_v45 (s4 X)) _).trans ((congrFun (rD_v45 (s3 X)) _).trans (c45 _ _ (b17 _ _ rfl) (b26 _ _ rfl) (b33 _ _ rfl) (b40 _ _ rfl) b p))) ((o1_v50 (s4 X)).trans (s4_50 X)) b p

theorem s6_41_0 (b : Fin 4) (p : Fin 12288) : (show FVec Ideal S4x12288x85 .f32 from s6 X (Proc.devRef .tc main_v41)) (ix3 b p 0)
    = ctr (rP X) b p 0 :=
  (congrFun (r2a_v41 (s5 X)) _).trans ((congrFun (o1_v41 (s4 X)) _).trans ((congrFun (rD_v41 (s3 X)) _).trans (c41_0 _ _ (b17 _ _ rfl) (b26 _ _ rfl) (b33 _ _ rfl) (b40 _ _ rfl) b p)))

theorem s6_41_1 (b : Fin 4) (p : Fin 12288) : (show FVec Ideal S4x12288x85 .f32 from s6 X (Proc.devRef .tc main_v41)) (ix3 b p 1)
    = ctr (rP X) b p 1 :=
  (congrFun (r2a_v41 (s5 X)) _).trans ((congrFun (o1_v41 (s4 X)) _).trans ((congrFun (rD_v41 (s3 X)) _).trans (c41_1 _ _ (b17 _ _ rfl) (b26 _ _ rfl) (b33 _ _ rfl) (b40 _ _ rfl) b p)))

theorem s6_41_2 (b : Fin 4) (p : Fin 12288) : (show FVec Ideal S4x12288x85 .f32 from s6 X (Proc.devRef .tc main_v41)) (ix3 b p 2)
    = ext (rP X) b p 0 :=
  (congrFun (r2a_v41 (s5 X)) _).trans ((congrFun (o1_v41 (s4 X)) _).trans ((congrFun (rD_v41 (s3 X)) _).trans (c41_2 _ _ (b17 _ _ rfl) (b26 _ _ rfl) (b33 _ _ rfl) (b40 _ _ rfl) b p)))

theorem s6_41_3 (b : Fin 4) (p : Fin 12288) : (show FVec Ideal S4x12288x85 .f32 from s6 X (Proc.devRef .tc main_v41)) (ix3 b p 3)
    = ext (rP X) b p 1 :=
  (congrFun (r2a_v41 (s5 X)) _).trans ((congrFun (o1_v41 (s4 X)) _).trans ((congrFun (rD_v41 (s3 X)) _).trans (c41_3 _ _ (b17 _ _ rfl) (b26 _ _ rfl) (b33 _ _ rfl) (b40 _ _ rfl) b p)))

theorem s8_80 (b : Fin 4) (p : Fin 12288) (k : Fin 4) : (show FVec Ideal S4x12288x4 .f32 from s8 X (Proc.devRef .tc main_v80)) (ix3 b p k)
    = corner (rP X) b p k :=
  g80 _ _ (f76 _ _ (s6_41_0 X) (s6_41_1 X) (s6_41_2 X) (s6_41_3 X)) (f77 _ _ (s6_41_0 X) (s6_41_1 X) (s6_41_2 X) (s6_41_3 X)) (f78 _ _ (s6_41_0 X) (s6_41_1 X) (s6_41_2 X) (s6_41_3 X)) (f79 _ _ (s6_41_0 X) (s6_41_1 X) (s6_41_2 X) (s6_41_3 X)) b p k

theorem s9_81 (b : Fin 4) (p : Fin 12288) : (show FVec Ideal S4x12288 .f32 from s9 X (Proc.devRef .tc main_v81)) (ix2 b p)
    = conf (rP X) (mxK (rP X)) b p :=
  m81 _ _ (fun b p => (congrFun (r2c_v54 (s7 X)) _).trans ((congrFun (r2b_v54 (s6 X)) _).trans (s6_54 X b p))) ((r2c_v50 (s7 X)).trans ((r2b_v50 (s6 X)).trans ((r2a_v50 (s5 X)).trans ((o1_v50 (s4 X)).trans (s4_50 X))))) (g18 _) b p

theorem s11_83 (b : Fin 4) (j : Fin 1024) (k : Fin 4) : (show FVec Ideal S4x1024x4 .f32 from s11 X (Proc.devRef .tc main_v83)) (ix3 b j k)
    = bx (rP X) (mxK (rP X)) b j k :=
  (h83 _ _ (t_82 _ _ (s9_81 X)) b j k).trans ((congrFun (o4_v80 (s9 X)) _).trans ((congrFun (o3_v80 (s8 X)) _).trans (s8_80 X b _ k)))

theorem s12_84 (b : Fin 4) (j : Fin 1024) : (show IVec S4x1024 32 from s12 X (Proc.devRef .tc main_v84)) (ix2 b j)
    = clK (rP X) b j :=
  (h84 _ _ (fun b j => (congrFun (o5_indices (s10 X)) _).trans (t_idx _ _ (s9_81 X) b j)) b j).trans ((congrFun (o5_v51 (s10 X)) _).trans ((congrFun (o4_v51 (s9 X)) _).trans ((congrFun (o3_v51 (s8 X)) _).trans ((congrFun (r2c_v51 (s7 X)) _).trans ((congrFun (r2b_v51 (s6 X)) _).trans ((congrFun (r2a_v51 (s5 X)) _).trans (congrFun (s5_51 X) _)))))))

theorem s13_86 (b : Fin 4) (j : Fin 1024) : (show IVec S4x1024 1 from s13 X (Proc.devRef .tc main_v86)) (ix2 b j)
    = Ideal.cmp .ogt (sc (rP X) (mxK (rP X)) b j) thr :=
  (i86 _ b j).trans (congrArg (fun t => Ideal.cmp .ogt t thr) ((congrFun (o6_values (s11 X)) _).trans ((congrFun (o5_values (s10 X)) _).trans (t_val _ _ (s9_81 X) b j))))

theorem s13_92 (b : Fin 4) (j : Fin 1024) (k : Fin 4) : (show FVec Ideal S4x1024x4 .f32 from s13 X (Proc.devRef .tc main_v92)) (ix3 b j k)
    = mv (rP X) b j k :=
  i92 _ (bx (rP X) (mxK (rP X))) (clK (rP X)) (fun b j k => (congrFun (o6_v83 (s11 X)) _).trans (s11_83 X b j k)) (s12_84 X) b j k

theorem s15_0 (b : Fin 4) (i j : Fin 1024) : (show FVec Ideal S4x1024x1024x2 .f32 from s15 X (Proc.devRef .tc main_v130)) (ix4 b i j 0)
    = max 0 (min (mv (rP X) b i 2) (mv (rP X) b j 2) - max (mv (rP X) b i 0) (mv (rP X) b j 0)) :=
  (k130 _ (j21 _ _ (s13_92 X)) b i j 0).trans (congrArg (max 0) (j129_0 _ _ (s13_92 X) b i j))

theorem s15_1 (b : Fin 4) (i j : Fin 1024) : (show FVec Ideal S4x1024x1024x2 .f32 from s15 X (Proc.devRef .tc main_v130)) (ix4 b i j 1)
    = max 0 (min (mv (rP X) b i 3) (mv (rP X) b j 3) - max (mv (rP X) b i 1) (mv (rP X) b j 1)) :=
  (k130 _ (j21 _ _ (s13_92 X)) b i j 1).trans (congrArg (max 0) (j129_1 _ _ (s13_92 X) b i j))

theorem entry_iou (b : Fin 4) (i j : Fin 1024) :
    (show FVec Ideal S4x1024x1024 .f32 from afterL (preI (F := Ideal)) X (Proc.devRef .tc main_v146_0)) (ix3 b i j)
    = iou (mv (rP X) b) i j := by
  rw [rwhole]
  exact l144 _ (mv (rP X)) (fun b j => (congrFun (o8_v103 (s14 X)) _).trans (j103 _ _ (s13_92 X) b j)) (fun b j => (congrFun (o8_v114 (s14 X)) _).trans (j114 _ _ (s13_92 X) b j))
    (s15_0 X) (s15_1 X) b i j

theorem entry_iota : (show IVec S1024 32 from afterL (preI (F := Ideal)) X (Proc.devRef .tc main_v146_1)) = iotaInDim S1024 32 0 := by
  rw [rwhole]
  exact l1 _

theorem entry_keep (b : Fin 4) (j : Fin 1024) :
    (show IVec S4x1024 1 from afterL (preI (F := Ideal)) X (Proc.devRef .tc main_v146_4)) (ix2 b j)
    = Ideal.cmp .ogt (sc (rP X) (mxK (rP X)) b j) thr := by
  rw [rwhole]
  exact (congrFun (l4 (s15 X)) _).trans ((congrFun (o8_v86 (s14 X)) _).trans ((congrFun (r7b_v86 (s13 X)) _).trans (s13_86 X b j)))

theorem entry_values (b : Fin 4) (j : Fin 1024) :
    (show FVec Ideal S4x1024 .f32 from afterL (preI (F := Ideal)) X (Proc.devRef .tc main_values)) (ix2 b j)
    = sc (rP X) (mxK (rP X)) b j := by
  rw [rwhole]
  exact (congrFun (o9_values (s15 X)) _).trans ((congrFun (o8_values (s14 X)) _).trans ((congrFun (r7b_values (s13 X)) _).trans ((congrFun (r7a_values (s12 X)) _).trans ((congrFun (o6_values (s11 X)) _).trans ((congrFun (o5_values (s10 X)) _).trans (t_val _ _ (s9_81 X) b j))))))

theorem entry_boxes (b : Fin 4) (j : Fin 1024) (k : Fin 4) :
    (show FVec Ideal S4x1024x4 .f32 from afterL (preI (F := Ideal)) X (Proc.devRef .tc main_v83)) (ix3 b j k)
    = bx (rP X) (mxK (rP X)) b j k := by
  rw [rwhole]
  exact (congrFun (o9_v83 (s15 X)) _).trans ((congrFun (o8_v83 (s14 X)) _).trans ((congrFun (r7b_v83 (s13 X)) _).trans ((congrFun (r7a_v83 (s12 X)) _).trans ((congrFun (o6_v83 (s11 X)) _).trans (s11_83 X b j k)))))

theorem entry_classes (b : Fin 4) (j : Fin 1024) :
    (show IVec S4x1024 32 from afterL (preI (F := Ideal)) X (Proc.devRef .tc main_v84)) (ix2 b j)
    = clK (rP X) b j := by
  rw [rwhole]
  exact (congrFun (o9_v84 (s15 X)) _).trans ((congrFun (o8_v84 (s14 X)) _).trans ((congrFun (r7b_v84 (s13 X)) _).trans ((congrFun (r7a_v84 (s12 X)) _).trans (s12_84 X b j))))

/-- The two programs' raw predictions are the same function of the inputs. -/
theorem rP_eq (Y : Valuation Cert.KernelIdeal.τ Cert.KernelIdeal.sig (Elt Ideal))
    (h0 : (show FVec Ideal S4x3x512x512 .f32 from X (Proc.devRef .tc main_arg0)) = Y (Proc.devRef .tc Cert.KernelIdeal.main_arg0))
    (h1 : (show FVec Ideal S3x255 .f32 from X (Proc.devRef .tc main_arg1)) = Y (Proc.devRef .tc Cert.KernelIdeal.main_arg1))
    (h2 : (show FVec Ideal S255 .f32 from X (Proc.devRef .tc main_arg2)) = Y (Proc.devRef .tc Cert.KernelIdeal.main_arg2)) :
    rP X = Cert.KernelIdeal.Hand.kP Y := by
  unfold rP Cert.KernelIdeal.Hand.kP
  after_reads_simp
  simp -implicitDefEqProofs only [StableHlo.TRef.toBuf, StableHlo.TRef.ofBuf, cast_cast, cast_eq]
  generalize X (Proc.devRef .tc main_arg0) = x0 at h0 ⊢
  generalize X (Proc.devRef .tc main_arg1) = x1 at h1 ⊢
  generalize X (Proc.devRef .tc main_arg2) = x2 at h2 ⊢
  generalize Y (Proc.devRef .tc Cert.KernelIdeal.main_arg0) = y0 at h0 ⊢
  generalize Y (Proc.devRef .tc Cert.KernelIdeal.main_arg1) = y1 at h1 ⊢
  generalize Y (Proc.devRef .tc Cert.KernelIdeal.main_arg2) = y2 at h2 ⊢
  change x0 = y0 at h0
  change x1 = y1 at h1
  change x2 = y2 at h2
  subst h0 h1 h2
  rfl

end Cert.ReferenceIdeal.Hand

end
-- ==== Proof.Hand.RLoop.lean ====
/-
  The reference's loop: after `k` trips its mask is the recurrence's.
-/
module

public import proofs.«01_k».proof.Proof.Hand.RHead
public import proofs.«01_k».proof.Proof.Hand.RFrame

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Cert.Nms
open Cert.KernelIdeal.Hand (mxK amK clK)

theorem row3 (I : FVec Ideal S4x1024x1024 .f32) (F : Fin 3 → Int) (k : Fin 1024) (h) (hc)
    (h0 : F 0 = ((0 : ℕ) : Int)) (h1 : F 1 = ((k.val : ℕ) : Int)) (h2 : F 2 = ((0 : ℕ) : Int)) :
    shapeCast S4x1024 (Host.dynamicSlice S4x1x1024 I F h) hc = fun i => I (ix3 (i 0) k (i 1)) := by
  funext i
  rw [eq_ix2 i]
  pointwise
  congr 2
  · exact Fin.ext ((congrArg (· + (i 0).val) (Host.clampedStart_of_le (s := S4x1024x1024) (t := S4x1x1024) h.1 F 0 0 h0 (by show 0 + 4 ≤ 4; omega))).trans (Nat.zero_add _))
  · exact Fin.ext (Host.clampedStart_of_le (s := S4x1024x1024) (t := S4x1x1024) h.1 F 1 k.val h1 (by have := k.isLt; show k.val + 1 ≤ 1024; omega))
  · exact Fin.ext ((congrArg (· + (i 1).val) (Host.clampedStart_of_le (s := S4x1024x1024) (t := S4x1x1024) h.1 F 2 0 h2 (by show 0 + 1024 ≤ 1024; omega))).trans (Nat.zero_add _))

theorem row2 (K : IVec S4x1024 1) (F : Fin 2 → Int) (k : Fin 1024) (h)
    (h0 : F 0 = ((0 : ℕ) : Int)) (h1 : F 1 = ((k.val : ℕ) : Int)) :
    Host.dynamicSlice S4x1 K F h = fun i => K (ix2 (i 0) k) := by
  funext i
  rw [eq_ix2 i]
  pointwise
  congr 2
  · exact Fin.ext ((congrArg (· + (i 0).val) (Host.clampedStart_of_le (s := S4x1024) (t := S4x1) h.1 F 0 0 h0 (by show 0 + 4 ≤ 4; omega))).trans (Nat.zero_add _))
  · exact Fin.ext (Host.clampedStart_of_le (s := S4x1024) (t := S4x1) h.1 F 1 k.val h1 (by have := k.isLt; show k.val + 1 ≤ 1024; omega))

theorem start_eq (k : Fin 1024) (i : S_.Idx) : (select (cmpi .slt (fun _ => BitVec.ofNat 32 k.val) (constantI S_ 32 0#32))
    (addi (fun _ => BitVec.ofNat 32 k.val) (constantI S_ 32 1024#32)) (fun _ => BitVec.ofNat 32 k.val) i).toInt = ((k.val : ℕ) : Int) := by
  refine (congrArg BitVec.toInt (wrap_pos k (by omega : 1024 < 2 ^ 31) _)).trans (toInt_small k.val (by omega))

theorem trip_keep (V : Valuation τ sig (Elt Ideal)) (k : Fin 1024)
    (I : FVec Ideal S4x1024x1024 .f32) (K : IVec S4x1024 1)
    (h0 : V (Proc.devRef .tc main_v146_0) = I)
    (h1 : V (Proc.devRef .tc main_v146_1) = iotaInDim S1024 32 0)
    (h3 : V (Proc.devRef .tc main_v146_3) = fun _ => BitVec.ofNat 32 k.val)
    (h4 : V (Proc.devRef .tc main_v146_4) = K) (b : Fin 4) (j : Fin 1024) :
    (show IVec S4x1024 1 from afterL bodyI V (Proc.devRef .tc main_v146_4)) (ix2 b j)
      = IntOp.andi (K (ix2 b j)) (~~~ (IntOp.andi (IntOp.andi (Ideal.cmp .ogt (I (ix3 b k j)) (Ideal.ofBits .f32 0x3EE66666#32)) (K (ix2 b k)))
        (IntOp.cmpi .sgt (BitVec.ofNat 32 j.val) (BitVec.ofNat 32 k.val)))) := by
  rw [trip_main_v146_4, h0, h1, h3, h4]
  clean_types
  simp only [id_eq]
  rw [row3 I _ k _ _ rfl (start_eq k _) rfl, row2 K _ k _ rfl (start_eq k _)]
  pointwise

variable (m : (ℓ : Loc nD τ sig) → Buf (Elt Ideal) ℓ) (c : Dev nD)

/-- Core `c`'s inputs. -/
abbrev inp : Valuation τ sig (Elt Ideal) := fun b => m (c, b)

theorem bool_trip : ∀ p q d l : Bool, (p && !((d && q) && l)) = (p && !(q && (d && l))) := by decide

theorem atK_step (k : ℕ) (r : Ref sig .tc) (hr : r ∉ condOps_W) :
    after condOps (atK m k c) (Proc.devRef .tc r) = atK m k c (Proc.devRef .tc r) :=
  after_of_writes_sub condOps _ condOps_writes hr

theorem atK_0 (k : ℕ) : atK m k c (Proc.devRef .tc main_v146_0) = afterL preI (inp m c) (Proc.devRef .tc main_v146_0) := by
  induction k with
  | zero => rfl
  | succ k ih =>
    rw [show atK m (k + 1) c = afterL bodyI (after condOps (atK m k c)) from rfl, trip_main_v146_0, atK_step m c k _ (by decide), ih]

theorem atK_1 (k : ℕ) : atK m k c (Proc.devRef .tc main_v146_1) = iotaInDim S1024 32 0 := by
  induction k with
  | zero => exact entry_iota (inp m c)
  | succ k ih =>
    rw [show atK m (k + 1) c = afterL bodyI (after condOps (atK m k c)) from rfl, trip_main_v146_1, atK_step m c k _ (by decide), ih]

theorem l3 (X : Valuation τ sig (Elt Ideal)) : (show IVec S_ 32 from after hostOps0_9 X (Proc.devRef .tc main_v146_3)) = fun _ => 0#32 := by
  after_reads_simp
  rfl

theorem atK_3 (k : ℕ) : atK m k c (Proc.devRef .tc main_v146_3) = fun _ => BitVec.ofNat 32 k := by
  induction k with
  | zero =>
    show afterL preI (inp m c) (Proc.devRef .tc main_v146_3) = _
    rw [rwhole]
    exact l3 _
  | succ k ih =>
    rw [show atK m (k + 1) c = afterL bodyI (after condOps (atK m k c)) from rfl, trip_main_v146_3, atK_step m c k _ (by decide), ih]
    funext i
    show BitVec.ofNat 32 k + 1#32 = _
    exact (BitVec.ofNat_add k 1).symm

/-- Which candidates of image `b` are kept. -/
def keptR (P : FVec Ideal S4x12288x85 .f32) (b : Fin 4) : Fin 1024 → Bool := kept (supp (mv P b)) (keep0 (sc P (mxK P) b))

theorem atK_4 (k : ℕ) (hk : k ≤ 1024) (b : Fin 4) (j : Fin 1024) :
    (show IVec S4x1024 1 from atK m k c (Proc.devRef .tc main_v146_4)) (ix2 b j)
      = BitVec.ofBool (kp (supp (mv (rP (inp m c)) b)) (keep0 (sc (rP (inp m c)) (mxK (rP (inp m c))) b)) k j) := by
  induction k generalizing j with
  | zero => exact entry_keep (inp m c) b j
  | succ k ih =>
    have hk' : k < 1024 := hk
    rw [show atK m (k + 1) c = afterL bodyI (after condOps (atK m k c)) from rfl]
    refine (trip_keep (after condOps (atK m k c)) ⟨k, hk'⟩ (afterL preI (inp m c) (Proc.devRef .tc main_v146_0)) (atK m k c (Proc.devRef .tc main_v146_4))
      ?_ ?_ ?_ ?_ b j).trans ?_
    · rw [atK_step m c k _ (by decide), atK_0]
    · rw [atK_step m c k _ (by decide), atK_1]
    · rw [atK_step m c k _ (by decide), atK_3]
    · rw [atK_step m c k _ (by decide)]
    · rw [kp_succ _ _ ⟨k, hk'⟩ j]
      have e1 := ih hk'.le j
      have e2 := ih hk'.le ⟨k, hk'⟩
      have e3 := entry_iou (inp m c) b ⟨k, hk'⟩ j
      generalize atK m k c (Proc.devRef .tc main_v146_4) = K at e1 e2 ⊢
      generalize afterL preI (inp m c) (Proc.devRef .tc main_v146_0) = I at e3 ⊢
      change K (ix2 b j) = _ at e1
      change K (ix2 b ⟨k, hk'⟩) = _ at e2
      change I (ix3 b ⟨k, hk'⟩ j) = _ at e3
      rw [e1, e2, e3, sgt_small k j.val (by omega) (by omega)]
      rw [show Ideal.cmp .ogt (iou (mv (rP (inp m c)) b) ⟨k, hk'⟩ j) (Ideal.ofBits .f32 0x3EE66666#32)
        = BitVec.ofBool (decide (t45 < iou (mv (rP (inp m c)) b) ⟨k, hk'⟩ j)) from rfl]
      rw [andi_bool, andi_bool, not_bool, andi_bool]
      exact congrArg BitVec.ofBool (bool_trip _ _ _ _)

theorem loop_keep (b : Fin 4) (j : Fin 1024) :
    (show IVec S4x1024 1 from loopEnd m c (Proc.devRef .tc main_v146_4)) (ix2 b j) = BitVec.ofBool (keptR (rP (inp m c)) b j) := by
  unfold keptR
  rw [← kp_end _ _ (supp_lt _)]
  exact (congrFun (atK_step m c 1024 main_v146_4 (by decide)) _).trans (atK_4 m c 1024 le_rfl b j)

end Cert.ReferenceIdeal.Hand

end
-- ==== Proof.Hand.RPost.lean ====
/-
  What the reference's straight lines after its loop leave, row by row.
-/
module

public import proofs.«01_k».proof.Proof.Hand.RLoop
public import proofs.«01_k».proof.Proof.Hand.Post
public import proofs.«01_k».proof.Proof.Hand.Nms

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Cert.Nms
open Cert.KernelIdeal.Hand (mxK amK clK)

variable (X : Valuation τ sig (Elt Ideal))

theorem q24 : (show FVec Ideal S_ .f32 from after hostOps0_10 X (Proc.devRef .tc main_cst_24)) = constant S_ .f32 0xBF800000#32 := by
  after_reads_simp

theorem q147 (K : Fin 4 → Fin 1024 → Bool) (sv : Fin 4 → Fin 1024 → EReal)
    (hc : (show FVec Ideal S_ .f32 from X (Proc.devRef .tc main_cst_24)) = constant S_ .f32 0xBF800000#32)
    (hK : ∀ b j, (show IVec S4x1024 1 from X (Proc.devRef .tc main_v146_4)) (ix2 b j) = BitVec.ofBool (K b j))
    (hs : ∀ b j, (show FVec Ideal S4x1024 .f32 from X (Proc.devRef .tc main_values)) (ix2 b j) = sv b j)
    (b : Fin 4) (j : Fin 1024) : (show FVec Ideal S4x1024 .f32 from after hostOps0_11 X (Proc.devRef .tc main_v147)) (ix2 b j)
    = msc (K b) (sv b) mone j := by
  after_reads_simp
  simp -implicitDefEqProofs only [StableHlo.TRef.toBuf, StableHlo.TRef.ofBuf, cast_cast, cast_eq]
  generalize X (Proc.devRef .tc main_cst_24) = y at hc ⊢
  generalize X (Proc.devRef .tc main_v146_4) = z at hK ⊢
  generalize X (Proc.devRef .tc main_values) = w at hs ⊢
  change y = _ at hc
  change ∀ b j, z (ix2 b j) = _ at hK
  change ∀ b j, w (ix2 b j) = _ at hs
  subst hc
  simp only [id_eq]
  clean_types
  pointwise
  rw [hK, hs]
  unfold msc
  cases K b j <;> rfl

section Take

variable (M : Fin 4 → Fin 1024 → EReal)

theorem lift3 (r : Fin 300) : r.val < 1024 := by omega

/-- The candidate that row `r` of image `b` takes. -/
def qpos (b : Fin 4) (r : Fin 300) : Fin 1024 := pos (M b) ⟨r.val, lift3 r⟩

variable (hM : ∀ b j, (show FVec Ideal S4x1024 .f32 from X (Proc.devRef .tc main_v147)) (ix2 b j) = M b j)
include hM

theorem q_val (b : Fin 4) (r : Fin 300) : (show FVec Ideal S4x300 .f32 from after hostOps0_12 X (Proc.devRef .tc main_values_25)) (ix2 b r)
    = M b (qpos M b r) := by
  after_reads_simp
  generalize X (Proc.devRef .tc main_v147) = y at hM ⊢
  refine (topK_val y _ b r (lift3 r)).trans ?_
  have hf : (fun l => y (ix2 b l)) = M b := funext fun l => hM b l
  rw [hf]
  exact hM b _

theorem q_idx (b : Fin 4) (r : Fin 300) : (show IVec S4x300 32 from after hostOps0_12 X (Proc.devRef .tc main_indices_26)) (ix2 b r)
    = BitVec.ofNat 32 (qpos M b r).val := by
  after_reads_simp
  generalize X (Proc.devRef .tc main_v147) = y at hM ⊢
  refine (topK_idx y _ b r (lift3 r)).trans ?_
  have hf : (fun l => y (ix2 b l)) = M b := funext fun l => hM b l
  rw [hf]
  rfl

theorem q_148 (b : Fin 4) (r : Fin 300) : (show IVec S4x300x1 32 from after hostOps0_12 X (Proc.devRef .tc main_v148)) (ix3 b r 0)
    = BitVec.ofNat 32 (qpos M b r).val := by
  after_reads_simp
  generalize X (Proc.devRef .tc main_v147) = y at hM ⊢
  have hf : (fun l => y (ix2 b l)) = M b := funext fun l => hM b l
  refine Eq.trans ?_ ((topK_idx y (k := r) (b := b) (hk := lift3 r) sliceFits_S4x1024_S4x300).trans ?_)
  · pointwise
  · rw [hf]
    rfl

end Take

theorem q149 (q : Fin 4 → Fin 300 → Fin 1024)
    (hI : ∀ b j, (show IVec S4x300x1 32 from X (Proc.devRef .tc main_v148)) (ix3 b j 0) = BitVec.ofNat 32 (q b j).val)
    (b : Fin 4) (j : Fin 300) (k : Fin 4) : (show FVec Ideal S4x300x4 .f32 from after hostOps0_13 X (Proc.devRef .tc main_v149)) (ix3 b j k)
    = (show FVec Ideal S4x1024x4 .f32 from X (Proc.devRef .tc main_v83)) (ix3 b (q b j) k) := by
  after_reads_simp
  simp -implicitDefEqProofs only [StableHlo.TRef.toBuf, StableHlo.TRef.ofBuf, cast_cast, cast_eq]
  generalize X (Proc.devRef .tc main_v148) = y at hI ⊢
  generalize X (Proc.devRef .tc main_v83) = z
  change ∀ b j, y (ix3 b j 0) = _ at hI
  clean_types
  pointwise
  have hx : ∀ b j (x : Fin 1), y (ix3 b j x) = BitVec.ofNat 32 (q b j).val := fun b j x => by rw [Subsingleton.elim x 0]; exact hI b j
  simp only [hx, wrap_pos (q _ _) (by omega : 1024 < 2 ^ 31), show 1023#32 = BitVec.ofNat 32 1023 from rfl, mask_pos (q _ _) (by omega : 1024 < 2 ^ 31) 1023 rfl]
  rw [fold_one, sel_one]
  refine gather_batch_row _ z _ b j k (q b j) (by omega) ?_
  show Scalar.select (IntOp.cmpi .slt (y (ix3 b j 0)) 0#32) (IntOp.addi (y (ix3 b j 0)) 1024#32) (y (ix3 b j 0)) = _
  rw [hI, wrap_pos (q _ _) (by omega : 1024 < 2 ^ 31)]

theorem q150 (q : Fin 4 → Fin 300 → Fin 1024)
    (hI : ∀ b j, (show IVec S4x300 32 from X (Proc.devRef .tc main_indices_26)) (ix2 b j) = BitVec.ofNat 32 (q b j).val)
    (b : Fin 4) (j : Fin 300) : (show IVec S4x300 32 from after hostOps0_14 X (Proc.devRef .tc main_v150)) (ix2 b j)
    = (show IVec S4x1024 32 from X (Proc.devRef .tc main_v84)) (ix2 b (q b j)) := by
  after_reads_simp
  simp -implicitDefEqProofs only [StableHlo.TRef.toBuf, StableHlo.TRef.ofBuf, cast_cast, cast_eq]
  generalize X (Proc.devRef .tc main_indices_26) = y at hI ⊢
  generalize X (Proc.devRef .tc main_v84) = z
  change ∀ b j, y (ix2 b j) = _ at hI
  clean_types
  pointwise
  simp only [hI, wrap_pos (q _ _) (by omega : 1024 < 2 ^ 31), show 1023#32 = BitVec.ofNat 32 1023 from rfl, mask_pos (q _ _) (by omega : 1024 < 2 ^ 31) 1023 rfl]
  rw [fold_one, sel_one]
  refine gather_batch _ z _ b j (q b j) (by omega) ?_
  show Scalar.select (IntOp.cmpi .slt (y (ix2 b j)) 0#32) (IntOp.addi (y (ix2 b j)) 1024#32) (y (ix2 b j)) = _
  rw [hI, wrap_pos (q _ _) (by omega : 1024 < 2 ^ 31)]

theorem q152 (b : Fin 4) (r : Fin 300) : (show IVec S4x300 1 from after hostOps0_15 X (Proc.devRef .tc main_v152)) (ix2 b r)
    = Ideal.cmp .ogt ((show FVec Ideal S4x300 .f32 from X (Proc.devRef .tc main_values_25)) (ix2 b r)) 0 := by
  after_reads_simp
  generalize X (Proc.devRef .tc main_values_25) = y
  clean_types
  pointwise

theorem q154 (b : Fin 4) (r : Fin 300) : (show FVec Ideal S4x300 .f32 from after hostOps0_15 X (Proc.devRef .tc main_v154)) (ix2 b r)
    = (show FVec Ideal S4x300x4 .f32 from X (Proc.devRef .tc main_v149)) (ix3 b r 0) := by
  after_reads_simp
  generalize X (Proc.devRef .tc main_v149) = y
  clean_types
  pointwise

theorem q154c : (show FVec Ideal S_ .f32 from after hostOps0_15 X (Proc.devRef .tc main_cst_28)) = constant S_ .f32 0x00000000#32 := by
  after_reads_simp

theorem q154d : (show FVec Ideal S_ .f32 from after hostOps0_15 X (Proc.devRef .tc main_cst_29)) = constant S_ .f32 0x44000000#32 := by
  after_reads_simp

theorem q155 (hc : (show FVec Ideal S_ .f32 from X (Proc.devRef .tc main_cst_28)) = constant S_ .f32 0x00000000#32)
    (hd : (show FVec Ideal S_ .f32 from X (Proc.devRef .tc main_cst_29)) = constant S_ .f32 0x44000000#32)
    (b : Fin 4) (r : Fin 300) : (show FVec Ideal S4x300 .f32 from after hostOps0_16 X (Proc.devRef .tc main_v155)) (ix2 b r)
    = clip ((show FVec Ideal S4x300 .f32 from X (Proc.devRef .tc main_v154)) (ix2 b r)) := by
  after_reads_simp
  simp -implicitDefEqProofs only [StableHlo.TRef.toBuf, StableHlo.TRef.ofBuf, cast_cast, cast_eq]
  generalize X (Proc.devRef .tc main_cst_28) = y at hc ⊢
  generalize X (Proc.devRef .tc main_cst_29) = z at hd ⊢
  generalize X (Proc.devRef .tc main_v154) = w
  change y = _ at hc
  change z = _ at hd
  subst hc hd
  simp only [id_eq]
  clean_types
  pointwise
  rfl

theorem q157 (b : Fin 4) (r : Fin 300) : (show FVec Ideal S4x300 .f32 from after hostOps0_17 X (Proc.devRef .tc main_v157)) (ix2 b r)
    = (show FVec Ideal S4x300x4 .f32 from X (Proc.devRef .tc main_v149)) (ix3 b r 1) := by
  after_reads_simp
  generalize X (Proc.devRef .tc main_v149) = y
  clean_types
  pointwise

theorem q157c : (show FVec Ideal S_ .f32 from after hostOps0_17 X (Proc.devRef .tc main_cst_30)) = constant S_ .f32 0x00000000#32 := by
  after_reads_simp

theorem q157d : (show FVec Ideal S_ .f32 from after hostOps0_17 X (Proc.devRef .tc main_cst_31)) = constant S_ .f32 0x44000000#32 := by
  after_reads_simp

theorem q158 (hc : (show FVec Ideal S_ .f32 from X (Proc.devRef .tc main_cst_30)) = constant S_ .f32 0x00000000#32)
    (hd : (show FVec Ideal S_ .f32 from X (Proc.devRef .tc main_cst_31)) = constant S_ .f32 0x44000000#32)
    (b : Fin 4) (r : Fin 300) : (show FVec Ideal S4x300 .f32 from after hostOps0_18 X (Proc.devRef .tc main_v158)) (ix2 b r)
    = clip ((show FVec Ideal S4x300 .f32 from X (Proc.devRef .tc main_v157)) (ix2 b r)) := by
  after_reads_simp
  simp -implicitDefEqProofs only [StableHlo.TRef.toBuf, StableHlo.TRef.ofBuf, cast_cast, cast_eq]
  generalize X (Proc.devRef .tc main_cst_30) = y at hc ⊢
  generalize X (Proc.devRef .tc main_cst_31) = z at hd ⊢
  generalize X (Proc.devRef .tc main_v157) = w
  change y = _ at hc
  change z = _ at hd
  subst hc hd
  simp only [id_eq]
  clean_types
  pointwise
  rfl

theorem q160 (b : Fin 4) (r : Fin 300) : (show FVec Ideal S4x300 .f32 from after hostOps0_19 X (Proc.devRef .tc main_v160)) (ix2 b r)
    = (show FVec Ideal S4x300x4 .f32 from X (Proc.devRef .tc main_v149)) (ix3 b r 2) := by
  after_reads_simp
  generalize X (Proc.devRef .tc main_v149) = y
  clean_types
  pointwise

theorem q160c : (show FVec Ideal S_ .f32 from after hostOps0_19 X (Proc.devRef .tc main_cst_32)) = constant S_ .f32 0x00000000#32 := by
  after_reads_simp

theorem q160d : (show FVec Ideal S_ .f32 from after hostOps0_19 X (Proc.devRef .tc main_cst_33)) = constant S_ .f32 0x44000000#32 := by
  after_reads_simp

theorem q161 (hc : (show FVec Ideal S_ .f32 from X (Proc.devRef .tc main_cst_32)) = constant S_ .f32 0x00000000#32)
    (hd : (show FVec Ideal S_ .f32 from X (Proc.devRef .tc main_cst_33)) = constant S_ .f32 0x44000000#32)
    (b : Fin 4) (r : Fin 300) : (show FVec Ideal S4x300 .f32 from after hostOps0_20 X (Proc.devRef .tc main_v161)) (ix2 b r)
    = clip ((show FVec Ideal S4x300 .f32 from X (Proc.devRef .tc main_v160)) (ix2 b r)) := by
  after_reads_simp
  simp -implicitDefEqProofs only [StableHlo.TRef.toBuf, StableHlo.TRef.ofBuf, cast_cast, cast_eq]
  generalize X (Proc.devRef .tc main_cst_32) = y at hc ⊢
  generalize X (Proc.devRef .tc main_cst_33) = z at hd ⊢
  generalize X (Proc.devRef .tc main_v160) = w
  change y = _ at hc
  change z = _ at hd
  subst hc hd
  simp only [id_eq]
  clean_types
  pointwise
  rfl

theorem q163 (b : Fin 4) (r : Fin 300) : (show FVec Ideal S4x300 .f32 from after hostOps0_21 X (Proc.devRef .tc main_v163)) (ix2 b r)
    = (show FVec Ideal S4x300x4 .f32 from X (Proc.devRef .tc main_v149)) (ix3 b r 3) := by
  after_reads_simp
  generalize X (Proc.devRef .tc main_v149) = y
  clean_types
  pointwise

theorem q163c : (show FVec Ideal S_ .f32 from after hostOps0_21 X (Proc.devRef .tc main_cst_34)) = constant S_ .f32 0x00000000#32 := by
  after_reads_simp

theorem q163d : (show FVec Ideal S_ .f32 from after hostOps0_21 X (Proc.devRef .tc main_cst_35)) = constant S_ .f32 0x44000000#32 := by
  after_reads_simp

theorem q164 (hc : (show FVec Ideal S_ .f32 from X (Proc.devRef .tc main_cst_34)) = constant S_ .f32 0x00000000#32)
    (hd : (show FVec Ideal S_ .f32 from X (Proc.devRef .tc main_cst_35)) = constant S_ .f32 0x44000000#32)
    (b : Fin 4) (r : Fin 300) : (show FVec Ideal S4x300 .f32 from after hostOps0_22 X (Proc.devRef .tc main_v164)) (ix2 b r)
    = clip ((show FVec Ideal S4x300 .f32 from X (Proc.devRef .tc main_v163)) (ix2 b r)) := by
  after_reads_simp
  simp -implicitDefEqProofs only [StableHlo.TRef.toBuf, StableHlo.TRef.ofBuf, cast_cast, cast_eq]
  generalize X (Proc.devRef .tc main_cst_34) = y at hc ⊢
  generalize X (Proc.devRef .tc main_cst_35) = z at hd ⊢
  generalize X (Proc.devRef .tc main_v163) = w
  change y = _ at hc
  change z = _ at hd
  subst hc hd
  simp only [id_eq]
  clean_types
  pointwise
  rfl

theorem q176 (A : Fin 4 → Fin 300 → Fin 4 → EReal)
    (h0 : ∀ b r, (show FVec Ideal S4x300 .f32 from X (Proc.devRef .tc main_v155)) (ix2 b r) = A b r 0)
    (h1 : ∀ b r, (show FVec Ideal S4x300 .f32 from X (Proc.devRef .tc main_v158)) (ix2 b r) = A b r 1)
    (h2 : ∀ b r, (show FVec Ideal S4x300 .f32 from X (Proc.devRef .tc main_v161)) (ix2 b r) = A b r 2)
    (h3 : ∀ b r, (show FVec Ideal S4x300 .f32 from X (Proc.devRef .tc main_v164)) (ix2 b r) = A b r 3)
    (sv : Fin 4 → Fin 300 → EReal)
    (hv : ∀ b r, (show IVec S4x300 1 from X (Proc.devRef .tc main_v152)) (ix2 b r) = Ideal.cmp .ogt (sv b r) 0)
    (b : Fin 4) (r : Fin 300) : (show IVec S4x300 1 from after hostOps0_23 X (Proc.devRef .tc main_v176)) (ix2 b r)
    = okB (sv b r) (A b r) := by
  after_reads_simp
  generalize X (Proc.devRef .tc main_v155) = y0 at h0 ⊢
  generalize X (Proc.devRef .tc main_v158) = y1 at h1 ⊢
  generalize X (Proc.devRef .tc main_v161) = y2 at h2 ⊢
  generalize X (Proc.devRef .tc main_v164) = y3 at h3 ⊢
  generalize X (Proc.devRef .tc main_v152) = y4 at hv ⊢
  change ∀ b r, y0 (ix2 b r) = _ at h0
  change ∀ b r, y1 (ix2 b r) = _ at h1
  change ∀ b r, y2 (ix2 b r) = _ at h2
  change ∀ b r, y3 (ix2 b r) = _ at h3
  change ∀ b r, y4 (ix2 b r) = _ at hv
  clean_types
  pointwise
  rw [h0, h1, h2, h3, hv]
  rfl

theorem q38 : (show IVec S_ 32 from after (hostOps0_23 (F := Ideal)) X (Proc.devRef .tc main_c_38)) = constantI S_ 32 0#32 := by
  after_reads_simp

theorem q39 : (show IVec S_ 32 from after (hostOps0_23 (F := Ideal)) X (Proc.devRef .tc main_c_39)) = constantI S_ 32 19#32 := by
  after_reads_simp

/-- A label cut to the classes there are. -/
def lclip (x : BitVec 32) : BitVec 32 := IntOp.minsi 19#32 (IntOp.maxsi 0#32 x)

theorem q177 (hc : (show IVec S_ 32 from X (Proc.devRef .tc main_c_38)) = constantI S_ 32 0#32)
    (hd : (show IVec S_ 32 from X (Proc.devRef .tc main_c_39)) = constantI S_ 32 19#32)
    (b : Fin 4) (r : Fin 300) : (show IVec S4x300 32 from after (hostOps0_24 (F := Ideal)) X (Proc.devRef .tc main_v177)) (ix2 b r)
    = lclip ((show IVec S4x300 32 from X (Proc.devRef .tc main_v150)) (ix2 b r)) := by
  after_reads_simp
  simp -implicitDefEqProofs only [StableHlo.TRef.toBuf, StableHlo.TRef.ofBuf, cast_cast, cast_eq]
  generalize X (Proc.devRef .tc main_c_38) = y at hc ⊢
  generalize X (Proc.devRef .tc main_c_39) = z at hd ⊢
  generalize X (Proc.devRef .tc main_v150) = w
  change y = _ at hc
  change z = _ at hd
  subst hc hd
  simp only [id_eq]
  clean_types
  pointwise
  rfl

theorem q180_0 (b : Fin 4) (r : Fin 300) : (show FVec Ideal S4x300x2 .f32 from after hostOps0_25 X (Proc.devRef .tc main_v180)) (ix3 b r 0)
    = (show FVec Ideal S4x300 .f32 from X (Proc.devRef .tc main_v155)) (ix2 b r) := by
  after_reads_simp
  clean_types
  pointwise

theorem q180_1 (b : Fin 4) (r : Fin 300) : (show FVec Ideal S4x300x2 .f32 from after hostOps0_25 X (Proc.devRef .tc main_v180)) (ix3 b r 1)
    = (show FVec Ideal S4x300 .f32 from X (Proc.devRef .tc main_v161)) (ix2 b r) := by
  after_reads_simp
  clean_types
  pointwise

theorem q181_0 (b : Fin 4) (r : Fin 300) : (show FVec Ideal S4x300x2 .f32 from after hostOps0_26 X (Proc.devRef .tc main_v181)) (ix3 b r 0)
    = min ((show FVec Ideal S4x300x2 .f32 from X (Proc.devRef .tc main_v180)) (ix3 b r 0)) ((show FVec Ideal S4x300x2 .f32 from X (Proc.devRef .tc main_v180)) (ix3 b r 1)) := by
  after_reads_simp
  simp -implicitDefEqProofs only [StableHlo.TRef.toBuf, StableHlo.TRef.ofBuf, cast_cast, cast_eq]
  generalize X (Proc.devRef .tc main_v180) = y
  exact (sort2 y b r).1

theorem q181_1 (b : Fin 4) (r : Fin 300) : (show FVec Ideal S4x300x2 .f32 from after hostOps0_26 X (Proc.devRef .tc main_v181)) (ix3 b r 1)
    = max ((show FVec Ideal S4x300x2 .f32 from X (Proc.devRef .tc main_v180)) (ix3 b r 0)) ((show FVec Ideal S4x300x2 .f32 from X (Proc.devRef .tc main_v180)) (ix3 b r 1)) := by
  after_reads_simp
  simp -implicitDefEqProofs only [StableHlo.TRef.toBuf, StableHlo.TRef.ofBuf, cast_cast, cast_eq]
  generalize X (Proc.devRef .tc main_v180) = y
  exact (sort2 y b r).2

theorem q184_0 (b : Fin 4) (r : Fin 300) : (show FVec Ideal S4x300x2 .f32 from after hostOps0_27 X (Proc.devRef .tc main_v184)) (ix3 b r 0)
    = (show FVec Ideal S4x300 .f32 from X (Proc.devRef .tc main_v158)) (ix2 b r) := by
  after_reads_simp
  clean_types
  pointwise

theorem q184_1 (b : Fin 4) (r : Fin 300) : (show FVec Ideal S4x300x2 .f32 from after hostOps0_27 X (Proc.devRef .tc main_v184)) (ix3 b r 1)
    = (show FVec Ideal S4x300 .f32 from X (Proc.devRef .tc main_v164)) (ix2 b r) := by
  after_reads_simp
  clean_types
  pointwise

theorem q185_0 (b : Fin 4) (r : Fin 300) : (show FVec Ideal S4x300x2 .f32 from after hostOps0_28 X (Proc.devRef .tc main_v185)) (ix3 b r 0)
    = min ((show FVec Ideal S4x300x2 .f32 from X (Proc.devRef .tc main_v184)) (ix3 b r 0)) ((show FVec Ideal S4x300x2 .f32 from X (Proc.devRef .tc main_v184)) (ix3 b r 1)) := by
  after_reads_simp
  simp -implicitDefEqProofs only [StableHlo.TRef.toBuf, StableHlo.TRef.ofBuf, cast_cast, cast_eq]
  generalize X (Proc.devRef .tc main_v184) = y
  exact (sort2 y b r).1

theorem q185_1 (b : Fin 4) (r : Fin 300) : (show FVec Ideal S4x300x2 .f32 from after hostOps0_28 X (Proc.devRef .tc main_v185)) (ix3 b r 1)
    = max ((show FVec Ideal S4x300x2 .f32 from X (Proc.devRef .tc main_v184)) (ix3 b r 0)) ((show FVec Ideal S4x300x2 .f32 from X (Proc.devRef .tc main_v184)) (ix3 b r 1)) := by
  after_reads_simp
  simp -implicitDefEqProofs only [StableHlo.TRef.toBuf, StableHlo.TRef.ofBuf, cast_cast, cast_eq]
  generalize X (Proc.devRef .tc main_v184) = y
  exact (sort2 y b r).2

abbrev o29a := (hostOps0_29 (F := Ideal)).take 12
abbrev o29b := (hostOps0_29 (F := Ideal)).drop 12
theorem rcut29 : (hostOps0_29 (F := Ideal)) = o29a ++ o29b := rfl

theorem q194 (b : Fin 4) (r : Fin 300) : (show FVec Ideal S4x300x1 .f32 from after o29a X (Proc.devRef .tc main_v194)) (ix3 b r 0)
    = (show FVec Ideal S4x300x2 .f32 from X (Proc.devRef .tc main_v181)) (ix3 b r 0) := by
  after_reads_simp
  generalize X (Proc.devRef .tc main_v181) = y
  clean_types
  pointwise

theorem q195 (b : Fin 4) (r : Fin 300) : (show FVec Ideal S4x300x1 .f32 from after o29a X (Proc.devRef .tc main_v195)) (ix3 b r 0)
    = (show FVec Ideal S4x300x2 .f32 from X (Proc.devRef .tc main_v185)) (ix3 b r 0) := by
  after_reads_simp
  generalize X (Proc.devRef .tc main_v185) = y
  clean_types
  pointwise

theorem q196 (b : Fin 4) (r : Fin 300) : (show FVec Ideal S4x300x1 .f32 from after o29a X (Proc.devRef .tc main_v196)) (ix3 b r 0)
    = (show FVec Ideal S4x300x2 .f32 from X (Proc.devRef .tc main_v181)) (ix3 b r 1) := by
  after_reads_simp
  generalize X (Proc.devRef .tc main_v181) = y
  clean_types
  pointwise

theorem q197 (b : Fin 4) (r : Fin 300) : (show FVec Ideal S4x300x1 .f32 from after o29a X (Proc.devRef .tc main_v197)) (ix3 b r 0)
    = (show FVec Ideal S4x300x2 .f32 from X (Proc.devRef .tc main_v185)) (ix3 b r 1) := by
  after_reads_simp
  generalize X (Proc.devRef .tc main_v185) = y
  clean_types
  pointwise

theorem q202 (A : Fin 4 → Fin 300 → Fin 4 → EReal)
    (h0 : ∀ b r, (show FVec Ideal S4x300x1 .f32 from X (Proc.devRef .tc main_v194)) (ix3 b r 0) = A b r 0)
    (h1 : ∀ b r, (show FVec Ideal S4x300x1 .f32 from X (Proc.devRef .tc main_v195)) (ix3 b r 0) = A b r 1)
    (h2 : ∀ b r, (show FVec Ideal S4x300x1 .f32 from X (Proc.devRef .tc main_v196)) (ix3 b r 0) = A b r 2)
    (h3 : ∀ b r, (show FVec Ideal S4x300x1 .f32 from X (Proc.devRef .tc main_v197)) (ix3 b r 0) = A b r 3)
    (b : Fin 4) (r : Fin 300) (k : Fin 4) : (show FVec Ideal S4x300x4 .f32 from after o29b X (Proc.devRef .tc main_v202)) (ix3 b r k)
    = A b r k * ((((show IVec S4x300 1 from X (Proc.devRef .tc main_v176)) (ix2 b r)).toNat : ℝ) : EReal) := by
  after_reads_simp
  change ∀ b r, X (Proc.devRef .tc main_v194) (ix3 b r 0) = _ at h0
  change ∀ b r, X (Proc.devRef .tc main_v195) (ix3 b r 0) = _ at h1
  change ∀ b r, X (Proc.devRef .tc main_v196) (ix3 b r 0) = _ at h2
  change ∀ b r, X (Proc.devRef .tc main_v197) (ix3 b r 0) = _ at h3
  generalize X (Proc.devRef .tc main_v176) = z
  fin_cases k
  · clean_types
    pointwise
    exact congrArg₂ (· * ·) (h0 b r) rfl
  · clean_types
    pointwise
    exact congrArg₂ (· * ·) (h1 b r) rfl
  · clean_types
    pointwise
    exact congrArg₂ (· * ·) (h2 b r) rfl
  · clean_types
    pointwise
    exact congrArg₂ (· * ·) (h3 b r) rfl

theorem q40 : (show FVec Ideal S_ .f32 from after o29b X (Proc.devRef .tc main_cst_40)) = constant S_ .f32 0x00000000#32 := by
  after_reads_simp

theorem q203 (hc : (show FVec Ideal S_ .f32 from X (Proc.devRef .tc main_cst_40)) = constant S_ .f32 0x00000000#32)
    (b : Fin 4) (r : Fin 300) : (show FVec Ideal S4x300 .f32 from after hostOps0_30 X (Proc.devRef .tc main_v203)) (ix2 b r)
    = Scalar.select ((show IVec S4x300 1 from X (Proc.devRef .tc main_v176)) (ix2 b r)) ((show FVec Ideal S4x300 .f32 from X (Proc.devRef .tc main_values_25)) (ix2 b r))
        0 := by
  after_reads_simp
  simp -implicitDefEqProofs only [StableHlo.TRef.toBuf, StableHlo.TRef.ofBuf, cast_cast, cast_eq]
  generalize X (Proc.devRef .tc main_cst_40) = y at hc ⊢
  generalize X (Proc.devRef .tc main_v176) = z
  generalize X (Proc.devRef .tc main_values_25) = w
  change y = _ at hc
  subst hc
  simp only [id_eq]
  clean_types
  pointwise

theorem q41 : (show IVec S_ 32 from after (hostOps0_31 (F := Ideal)) X (Proc.devRef .tc main_c_41)) = constantI S_ 32 0#32 := by
  after_reads_simp

theorem q204 (hc : (show IVec S_ 32 from X (Proc.devRef .tc main_c_41)) = constantI S_ 32 0#32)
    (b : Fin 4) (r : Fin 300) : (show IVec S4x300 32 from after (hostOps0_32 (F := Ideal)) X (Proc.devRef .tc main_v204)) (ix2 b r)
    = Scalar.select ((show IVec S4x300 1 from X (Proc.devRef .tc main_v176)) (ix2 b r)) ((show IVec S4x300 32 from X (Proc.devRef .tc main_v177)) (ix2 b r)) 0#32 := by
  after_reads_simp
  simp -implicitDefEqProofs only [StableHlo.TRef.toBuf, StableHlo.TRef.ofBuf, cast_cast, cast_eq]
  generalize X (Proc.devRef .tc main_c_41) = y at hc ⊢
  generalize X (Proc.devRef .tc main_v176) = z
  generalize X (Proc.devRef .tc main_v177) = w
  change y = _ at hc
  subst hc
  simp only [id_eq]
  clean_types
  pointwise

theorem k10_v146_4 : after (hostOps0_10 (F := Ideal)) X (Proc.devRef .tc main_v146_4) = X (Proc.devRef .tc main_v146_4) := by
  after_reads_simp

theorem k10_values : after (hostOps0_10 (F := Ideal)) X (Proc.devRef .tc main_values) = X (Proc.devRef .tc main_values) := by
  after_reads_simp

theorem k10_v83 : after (hostOps0_10 (F := Ideal)) X (Proc.devRef .tc main_v83) = X (Proc.devRef .tc main_v83) := by
  after_reads_simp

theorem k11_v83 : after (hostOps0_11 (F := Ideal)) X (Proc.devRef .tc main_v83) = X (Proc.devRef .tc main_v83) := by
  after_reads_simp

theorem k12_v83 : after (hostOps0_12 (F := Ideal)) X (Proc.devRef .tc main_v83) = X (Proc.devRef .tc main_v83) := by
  after_reads_simp

theorem k10_v84 : after (hostOps0_10 (F := Ideal)) X (Proc.devRef .tc main_v84) = X (Proc.devRef .tc main_v84) := by
  after_reads_simp

theorem k11_v84 : after (hostOps0_11 (F := Ideal)) X (Proc.devRef .tc main_v84) = X (Proc.devRef .tc main_v84) := by
  after_reads_simp

theorem k12_v84 : after (hostOps0_12 (F := Ideal)) X (Proc.devRef .tc main_v84) = X (Proc.devRef .tc main_v84) := by
  after_reads_simp

theorem k13_v84 : after (hostOps0_13 (F := Ideal)) X (Proc.devRef .tc main_v84) = X (Proc.devRef .tc main_v84) := by
  after_reads_simp

theorem k13_values_25 : after (hostOps0_13 (F := Ideal)) X (Proc.devRef .tc main_values_25) = X (Proc.devRef .tc main_values_25) := by
  after_reads_simp

theorem k14_values_25 : after (hostOps0_14 (F := Ideal)) X (Proc.devRef .tc main_values_25) = X (Proc.devRef .tc main_values_25) := by
  after_reads_simp

theorem k15_values_25 : after (hostOps0_15 (F := Ideal)) X (Proc.devRef .tc main_values_25) = X (Proc.devRef .tc main_values_25) := by
  after_reads_simp

theorem k16_values_25 : after (hostOps0_16 (F := Ideal)) X (Proc.devRef .tc main_values_25) = X (Proc.devRef .tc main_values_25) := by
  after_reads_simp

theorem k17_values_25 : after (hostOps0_17 (F := Ideal)) X (Proc.devRef .tc main_values_25) = X (Proc.devRef .tc main_values_25) := by
  after_reads_simp

theorem k18_values_25 : after (hostOps0_18 (F := Ideal)) X (Proc.devRef .tc main_values_25) = X (Proc.devRef .tc main_values_25) := by
  after_reads_simp

theorem k19_values_25 : after (hostOps0_19 (F := Ideal)) X (Proc.devRef .tc main_values_25) = X (Proc.devRef .tc main_values_25) := by
  after_reads_simp

theorem k20_values_25 : after (hostOps0_20 (F := Ideal)) X (Proc.devRef .tc main_values_25) = X (Proc.devRef .tc main_values_25) := by
  after_reads_simp

theorem k21_values_25 : after (hostOps0_21 (F := Ideal)) X (Proc.devRef .tc main_values_25) = X (Proc.devRef .tc main_values_25) := by
  after_reads_simp

theorem k22_values_25 : after (hostOps0_22 (F := Ideal)) X (Proc.devRef .tc main_values_25) = X (Proc.devRef .tc main_values_25) := by
  after_reads_simp

theorem k23_values_25 : after (hostOps0_23 (F := Ideal)) X (Proc.devRef .tc main_values_25) = X (Proc.devRef .tc main_values_25) := by
  after_reads_simp

theorem k24_values_25 : after (hostOps0_24 (F := Ideal)) X (Proc.devRef .tc main_values_25) = X (Proc.devRef .tc main_values_25) := by
  after_reads_simp

theorem k25_values_25 : after (hostOps0_25 (F := Ideal)) X (Proc.devRef .tc main_values_25) = X (Proc.devRef .tc main_values_25) := by
  after_reads_simp

theorem k26_values_25 : after (hostOps0_26 (F := Ideal)) X (Proc.devRef .tc main_values_25) = X (Proc.devRef .tc main_values_25) := by
  after_reads_simp

theorem k27_values_25 : after (hostOps0_27 (F := Ideal)) X (Proc.devRef .tc main_values_25) = X (Proc.devRef .tc main_values_25) := by
  after_reads_simp

theorem k28_values_25 : after (hostOps0_28 (F := Ideal)) X (Proc.devRef .tc main_values_25) = X (Proc.devRef .tc main_values_25) := by
  after_reads_simp

theorem k29a_values_25 : after o29a X (Proc.devRef .tc main_values_25) = X (Proc.devRef .tc main_values_25) := by
  after_reads_simp

theorem k29b_values_25 : after o29b X (Proc.devRef .tc main_values_25) = X (Proc.devRef .tc main_values_25) := by
  after_reads_simp

theorem k30_values_25 : after (hostOps0_30 (F := Ideal)) X (Proc.devRef .tc main_values_25) = X (Proc.devRef .tc main_values_25) := by
  after_reads_simp

theorem k13_indices_26 : after (hostOps0_13 (F := Ideal)) X (Proc.devRef .tc main_indices_26) = X (Proc.devRef .tc main_indices_26) := by
  after_reads_simp

theorem k14_v149 : after (hostOps0_14 (F := Ideal)) X (Proc.devRef .tc main_v149) = X (Proc.devRef .tc main_v149) := by
  after_reads_simp

theorem k15_v149 : after (hostOps0_15 (F := Ideal)) X (Proc.devRef .tc main_v149) = X (Proc.devRef .tc main_v149) := by
  after_reads_simp

theorem k16_v149 : after (hostOps0_16 (F := Ideal)) X (Proc.devRef .tc main_v149) = X (Proc.devRef .tc main_v149) := by
  after_reads_simp

theorem k17_v149 : after (hostOps0_17 (F := Ideal)) X (Proc.devRef .tc main_v149) = X (Proc.devRef .tc main_v149) := by
  after_reads_simp

theorem k18_v149 : after (hostOps0_18 (F := Ideal)) X (Proc.devRef .tc main_v149) = X (Proc.devRef .tc main_v149) := by
  after_reads_simp

theorem k19_v149 : after (hostOps0_19 (F := Ideal)) X (Proc.devRef .tc main_v149) = X (Proc.devRef .tc main_v149) := by
  after_reads_simp

theorem k20_v149 : after (hostOps0_20 (F := Ideal)) X (Proc.devRef .tc main_v149) = X (Proc.devRef .tc main_v149) := by
  after_reads_simp

theorem k15_v150 : after (hostOps0_15 (F := Ideal)) X (Proc.devRef .tc main_v150) = X (Proc.devRef .tc main_v150) := by
  after_reads_simp

theorem k16_v150 : after (hostOps0_16 (F := Ideal)) X (Proc.devRef .tc main_v150) = X (Proc.devRef .tc main_v150) := by
  after_reads_simp

theorem k17_v150 : after (hostOps0_17 (F := Ideal)) X (Proc.devRef .tc main_v150) = X (Proc.devRef .tc main_v150) := by
  after_reads_simp

theorem k18_v150 : after (hostOps0_18 (F := Ideal)) X (Proc.devRef .tc main_v150) = X (Proc.devRef .tc main_v150) := by
  after_reads_simp

theorem k19_v150 : after (hostOps0_19 (F := Ideal)) X (Proc.devRef .tc main_v150) = X (Proc.devRef .tc main_v150) := by
  after_reads_simp

theorem k20_v150 : after (hostOps0_20 (F := Ideal)) X (Proc.devRef .tc main_v150) = X (Proc.devRef .tc main_v150) := by
  after_reads_simp

theorem k21_v150 : after (hostOps0_21 (F := Ideal)) X (Proc.devRef .tc main_v150) = X (Proc.devRef .tc main_v150) := by
  after_reads_simp

theorem k22_v150 : after (hostOps0_22 (F := Ideal)) X (Proc.devRef .tc main_v150) = X (Proc.devRef .tc main_v150) := by
  after_reads_simp

theorem k23_v150 : after (hostOps0_23 (F := Ideal)) X (Proc.devRef .tc main_v150) = X (Proc.devRef .tc main_v150) := by
  after_reads_simp

theorem k16_v152 : after (hostOps0_16 (F := Ideal)) X (Proc.devRef .tc main_v152) = X (Proc.devRef .tc main_v152) := by
  after_reads_simp

theorem k17_v152 : after (hostOps0_17 (F := Ideal)) X (Proc.devRef .tc main_v152) = X (Proc.devRef .tc main_v152) := by
  after_reads_simp

theorem k18_v152 : after (hostOps0_18 (F := Ideal)) X (Proc.devRef .tc main_v152) = X (Proc.devRef .tc main_v152) := by
  after_reads_simp

theorem k19_v152 : after (hostOps0_19 (F := Ideal)) X (Proc.devRef .tc main_v152) = X (Proc.devRef .tc main_v152) := by
  after_reads_simp

theorem k20_v152 : after (hostOps0_20 (F := Ideal)) X (Proc.devRef .tc main_v152) = X (Proc.devRef .tc main_v152) := by
  after_reads_simp

theorem k21_v152 : after (hostOps0_21 (F := Ideal)) X (Proc.devRef .tc main_v152) = X (Proc.devRef .tc main_v152) := by
  after_reads_simp

theorem k22_v152 : after (hostOps0_22 (F := Ideal)) X (Proc.devRef .tc main_v152) = X (Proc.devRef .tc main_v152) := by
  after_reads_simp

theorem k17_v155 : after (hostOps0_17 (F := Ideal)) X (Proc.devRef .tc main_v155) = X (Proc.devRef .tc main_v155) := by
  after_reads_simp

theorem k18_v155 : after (hostOps0_18 (F := Ideal)) X (Proc.devRef .tc main_v155) = X (Proc.devRef .tc main_v155) := by
  after_reads_simp

theorem k19_v155 : after (hostOps0_19 (F := Ideal)) X (Proc.devRef .tc main_v155) = X (Proc.devRef .tc main_v155) := by
  after_reads_simp

theorem k20_v155 : after (hostOps0_20 (F := Ideal)) X (Proc.devRef .tc main_v155) = X (Proc.devRef .tc main_v155) := by
  after_reads_simp

theorem k21_v155 : after (hostOps0_21 (F := Ideal)) X (Proc.devRef .tc main_v155) = X (Proc.devRef .tc main_v155) := by
  after_reads_simp

theorem k22_v155 : after (hostOps0_22 (F := Ideal)) X (Proc.devRef .tc main_v155) = X (Proc.devRef .tc main_v155) := by
  after_reads_simp

theorem k23_v155 : after (hostOps0_23 (F := Ideal)) X (Proc.devRef .tc main_v155) = X (Proc.devRef .tc main_v155) := by
  after_reads_simp

theorem k24_v155 : after (hostOps0_24 (F := Ideal)) X (Proc.devRef .tc main_v155) = X (Proc.devRef .tc main_v155) := by
  after_reads_simp

theorem k25_v155 : after (hostOps0_25 (F := Ideal)) X (Proc.devRef .tc main_v155) = X (Proc.devRef .tc main_v155) := by
  after_reads_simp

theorem k19_v158 : after (hostOps0_19 (F := Ideal)) X (Proc.devRef .tc main_v158) = X (Proc.devRef .tc main_v158) := by
  after_reads_simp

theorem k20_v158 : after (hostOps0_20 (F := Ideal)) X (Proc.devRef .tc main_v158) = X (Proc.devRef .tc main_v158) := by
  after_reads_simp

theorem k21_v158 : after (hostOps0_21 (F := Ideal)) X (Proc.devRef .tc main_v158) = X (Proc.devRef .tc main_v158) := by
  after_reads_simp

theorem k22_v158 : after (hostOps0_22 (F := Ideal)) X (Proc.devRef .tc main_v158) = X (Proc.devRef .tc main_v158) := by
  after_reads_simp

theorem k23_v158 : after (hostOps0_23 (F := Ideal)) X (Proc.devRef .tc main_v158) = X (Proc.devRef .tc main_v158) := by
  after_reads_simp

theorem k24_v158 : after (hostOps0_24 (F := Ideal)) X (Proc.devRef .tc main_v158) = X (Proc.devRef .tc main_v158) := by
  after_reads_simp

theorem k25_v158 : after (hostOps0_25 (F := Ideal)) X (Proc.devRef .tc main_v158) = X (Proc.devRef .tc main_v158) := by
  after_reads_simp

theorem k26_v158 : after (hostOps0_26 (F := Ideal)) X (Proc.devRef .tc main_v158) = X (Proc.devRef .tc main_v158) := by
  after_reads_simp

theorem k21_v161 : after (hostOps0_21 (F := Ideal)) X (Proc.devRef .tc main_v161) = X (Proc.devRef .tc main_v161) := by
  after_reads_simp

theorem k22_v161 : after (hostOps0_22 (F := Ideal)) X (Proc.devRef .tc main_v161) = X (Proc.devRef .tc main_v161) := by
  after_reads_simp

theorem k23_v161 : after (hostOps0_23 (F := Ideal)) X (Proc.devRef .tc main_v161) = X (Proc.devRef .tc main_v161) := by
  after_reads_simp

theorem k24_v161 : after (hostOps0_24 (F := Ideal)) X (Proc.devRef .tc main_v161) = X (Proc.devRef .tc main_v161) := by
  after_reads_simp

theorem k25_v161 : after (hostOps0_25 (F := Ideal)) X (Proc.devRef .tc main_v161) = X (Proc.devRef .tc main_v161) := by
  after_reads_simp

theorem k23_v164 : after (hostOps0_23 (F := Ideal)) X (Proc.devRef .tc main_v164) = X (Proc.devRef .tc main_v164) := by
  after_reads_simp

theorem k24_v164 : after (hostOps0_24 (F := Ideal)) X (Proc.devRef .tc main_v164) = X (Proc.devRef .tc main_v164) := by
  after_reads_simp

theorem k25_v164 : after (hostOps0_25 (F := Ideal)) X (Proc.devRef .tc main_v164) = X (Proc.devRef .tc main_v164) := by
  after_reads_simp

theorem k26_v164 : after (hostOps0_26 (F := Ideal)) X (Proc.devRef .tc main_v164) = X (Proc.devRef .tc main_v164) := by
  after_reads_simp

theorem k24_v176 : after (hostOps0_24 (F := Ideal)) X (Proc.devRef .tc main_v176) = X (Proc.devRef .tc main_v176) := by
  after_reads_simp

theorem k25_v176 : after (hostOps0_25 (F := Ideal)) X (Proc.devRef .tc main_v176) = X (Proc.devRef .tc main_v176) := by
  after_reads_simp

theorem k26_v176 : after (hostOps0_26 (F := Ideal)) X (Proc.devRef .tc main_v176) = X (Proc.devRef .tc main_v176) := by
  after_reads_simp

theorem k27_v176 : after (hostOps0_27 (F := Ideal)) X (Proc.devRef .tc main_v176) = X (Proc.devRef .tc main_v176) := by
  after_reads_simp

theorem k28_v176 : after (hostOps0_28 (F := Ideal)) X (Proc.devRef .tc main_v176) = X (Proc.devRef .tc main_v176) := by
  after_reads_simp

theorem k29a_v176 : after o29a X (Proc.devRef .tc main_v176) = X (Proc.devRef .tc main_v176) := by
  after_reads_simp

theorem k29b_v176 : after o29b X (Proc.devRef .tc main_v176) = X (Proc.devRef .tc main_v176) := by
  after_reads_simp

theorem k30_v176 : after (hostOps0_30 (F := Ideal)) X (Proc.devRef .tc main_v176) = X (Proc.devRef .tc main_v176) := by
  after_reads_simp

theorem k31_v176 : after (hostOps0_31 (F := Ideal)) X (Proc.devRef .tc main_v176) = X (Proc.devRef .tc main_v176) := by
  after_reads_simp

theorem k25_v177 : after (hostOps0_25 (F := Ideal)) X (Proc.devRef .tc main_v177) = X (Proc.devRef .tc main_v177) := by
  after_reads_simp

theorem k26_v177 : after (hostOps0_26 (F := Ideal)) X (Proc.devRef .tc main_v177) = X (Proc.devRef .tc main_v177) := by
  after_reads_simp

theorem k27_v177 : after (hostOps0_27 (F := Ideal)) X (Proc.devRef .tc main_v177) = X (Proc.devRef .tc main_v177) := by
  after_reads_simp

theorem k28_v177 : after (hostOps0_28 (F := Ideal)) X (Proc.devRef .tc main_v177) = X (Proc.devRef .tc main_v177) := by
  after_reads_simp

theorem k29a_v177 : after o29a X (Proc.devRef .tc main_v177) = X (Proc.devRef .tc main_v177) := by
  after_reads_simp

theorem k29b_v177 : after o29b X (Proc.devRef .tc main_v177) = X (Proc.devRef .tc main_v177) := by
  after_reads_simp

theorem k30_v177 : after (hostOps0_30 (F := Ideal)) X (Proc.devRef .tc main_v177) = X (Proc.devRef .tc main_v177) := by
  after_reads_simp

theorem k31_v177 : after (hostOps0_31 (F := Ideal)) X (Proc.devRef .tc main_v177) = X (Proc.devRef .tc main_v177) := by
  after_reads_simp

theorem k27_v181 : after (hostOps0_27 (F := Ideal)) X (Proc.devRef .tc main_v181) = X (Proc.devRef .tc main_v181) := by
  after_reads_simp

theorem k28_v181 : after (hostOps0_28 (F := Ideal)) X (Proc.devRef .tc main_v181) = X (Proc.devRef .tc main_v181) := by
  after_reads_simp

theorem k30_v202 : after (hostOps0_30 (F := Ideal)) X (Proc.devRef .tc main_v202) = X (Proc.devRef .tc main_v202) := by
  after_reads_simp

theorem k31_v202 : after (hostOps0_31 (F := Ideal)) X (Proc.devRef .tc main_v202) = X (Proc.devRef .tc main_v202) := by
  after_reads_simp

theorem k32_v202 : after (hostOps0_32 (F := Ideal)) X (Proc.devRef .tc main_v202) = X (Proc.devRef .tc main_v202) := by
  after_reads_simp

theorem k31_v203 : after (hostOps0_31 (F := Ideal)) X (Proc.devRef .tc main_v203) = X (Proc.devRef .tc main_v203) := by
  after_reads_simp

theorem k32_v203 : after (hostOps0_32 (F := Ideal)) X (Proc.devRef .tc main_v203) = X (Proc.devRef .tc main_v203) := by
  after_reads_simp

/-! ## The whole line -/

def p9 : Valuation τ sig (Elt Ideal) := X
def p10 : Valuation τ sig (Elt Ideal) := after (hostOps0_10 (F := Ideal)) (p9 X)
def p11 : Valuation τ sig (Elt Ideal) := after (hostOps0_11 (F := Ideal)) (p10 X)
def p12 : Valuation τ sig (Elt Ideal) := after (hostOps0_12 (F := Ideal)) (p11 X)
def p13 : Valuation τ sig (Elt Ideal) := after (hostOps0_13 (F := Ideal)) (p12 X)
def p14 : Valuation τ sig (Elt Ideal) := after (hostOps0_14 (F := Ideal)) (p13 X)
def p15 : Valuation τ sig (Elt Ideal) := after (hostOps0_15 (F := Ideal)) (p14 X)
def p16 : Valuation τ sig (Elt Ideal) := after (hostOps0_16 (F := Ideal)) (p15 X)
def p17 : Valuation τ sig (Elt Ideal) := after (hostOps0_17 (F := Ideal)) (p16 X)
def p18 : Valuation τ sig (Elt Ideal) := after (hostOps0_18 (F := Ideal)) (p17 X)
def p19 : Valuation τ sig (Elt Ideal) := after (hostOps0_19 (F := Ideal)) (p18 X)
def p20 : Valuation τ sig (Elt Ideal) := after (hostOps0_20 (F := Ideal)) (p19 X)
def p21 : Valuation τ sig (Elt Ideal) := after (hostOps0_21 (F := Ideal)) (p20 X)
def p22 : Valuation τ sig (Elt Ideal) := after (hostOps0_22 (F := Ideal)) (p21 X)
def p23 : Valuation τ sig (Elt Ideal) := after (hostOps0_23 (F := Ideal)) (p22 X)
def p24 : Valuation τ sig (Elt Ideal) := after (hostOps0_24 (F := Ideal)) (p23 X)
def p25 : Valuation τ sig (Elt Ideal) := after (hostOps0_25 (F := Ideal)) (p24 X)
def p26 : Valuation τ sig (Elt Ideal) := after (hostOps0_26 (F := Ideal)) (p25 X)
def p27 : Valuation τ sig (Elt Ideal) := after (hostOps0_27 (F := Ideal)) (p26 X)
def p28 : Valuation τ sig (Elt Ideal) := after (hostOps0_28 (F := Ideal)) (p27 X)
def p29a : Valuation τ sig (Elt Ideal) := after o29a (p28 X)
def p29b : Valuation τ sig (Elt Ideal) := after o29b (p29a X)
def p30 : Valuation τ sig (Elt Ideal) := after (hostOps0_30 (F := Ideal)) (p29b X)
def p31 : Valuation τ sig (Elt Ideal) := after (hostOps0_31 (F := Ideal)) (p30 X)
def p32 : Valuation τ sig (Elt Ideal) := after (hostOps0_32 (F := Ideal)) (p31 X)

theorem pwhole : afterL (postI (F := Ideal)) X = p32 X := by
  show after hostOps0_32 (after hostOps0_31 (after hostOps0_30 (after hostOps0_29 (after hostOps0_28 (after hostOps0_27 (after hostOps0_26 (after hostOps0_25
    (after hostOps0_24 (after hostOps0_23 (after hostOps0_22 (after hostOps0_21 (after hostOps0_20 (after hostOps0_19 (after hostOps0_18 (after hostOps0_17
    (after hostOps0_16 (after hostOps0_15 (after hostOps0_14 (after hostOps0_13 (after hostOps0_12 (after hostOps0_11 (after hostOps0_10 X)))))))))))))))))))))) = _
  rw [rcut29, rapp]
  rfl

section Rows

variable (K : Fin 4 → Fin 1024 → Bool) (sv : Fin 4 → Fin 1024 → EReal) (B : Fin 4 → Fin 1024 → Fin 4 → EReal) (C : Fin 4 → Fin 1024 → BitVec 32)

/-- The candidate of row `r`, its score, corners and label. -/
def rq (b : Fin 4) (r : Fin 300) : Fin 1024 := qpos (fun b => msc (K b) (sv b) mone) b r
def rs (b : Fin 4) (r : Fin 300) : EReal := msc (K b) (sv b) mone (rq K sv b r)
def ra (b : Fin 4) (r : Fin 300) (k : Fin 4) : EReal := clip (B b (rq K sv b r) k)

variable
    (hK : ∀ b j, (show IVec S4x1024 1 from X (Proc.devRef .tc main_v146_4)) (ix2 b j) = BitVec.ofBool (K b j))
    (hs : ∀ b j, (show FVec Ideal S4x1024 .f32 from X (Proc.devRef .tc main_values)) (ix2 b j) = sv b j)
    (hB : ∀ b j k, (show FVec Ideal S4x1024x4 .f32 from X (Proc.devRef .tc main_v83)) (ix3 b j k) = B b j k)
    (hC : ∀ b j, (show IVec S4x1024 32 from X (Proc.devRef .tc main_v84)) (ix2 b j) = C b j)

include hK hs in
theorem z147 (b : Fin 4) (j : Fin 1024) : (show FVec Ideal S4x1024 .f32 from p11 X (Proc.devRef .tc main_v147)) (ix2 b j) = msc (K b) (sv b) mone j :=
  q147 _ K sv (q24 _) (fun b j => (congrFun (k10_v146_4 (p9 X)) _).trans (hK b j)) (fun b j => (congrFun (k10_values (p9 X)) _).trans (hs b j)) b j

include hK hs in
theorem z25 (b : Fin 4) (r : Fin 300) : (show FVec Ideal S4x300 .f32 from p12 X (Proc.devRef .tc main_values_25)) (ix2 b r) = rs K sv b r :=
  q_val _ _ (z147 X K sv hK hs) b r

include hK hs hB in
theorem z149 (b : Fin 4) (r : Fin 300) (k : Fin 4) : (show FVec Ideal S4x300x4 .f32 from p13 X (Proc.devRef .tc main_v149)) (ix3 b r k) = B b (rq K sv b r) k :=
  (q149 _ (rq K sv) (q_148 _ _ (z147 X K sv hK hs)) b r k).trans ((congrFun (k12_v83 (p11 X)) _).trans ((congrFun (k11_v83 (p10 X)) _).trans ((congrFun (k10_v83 (p9 X)) _).trans (hB b _ k))))

include hK hs hC in
theorem z150 (b : Fin 4) (r : Fin 300) : (show IVec S4x300 32 from p14 X (Proc.devRef .tc main_v150)) (ix2 b r) = C b (rq K sv b r) :=
  (q150 _ (rq K sv) (fun b r => (congrFun (k13_indices_26 (p12 X)) _).trans (q_idx _ _ (z147 X K sv hK hs) b r)) b r).trans ((congrFun (k13_v84 (p12 X)) _).trans ((congrFun (k12_v84 (p11 X)) _).trans ((congrFun (k11_v84 (p10 X)) _).trans ((congrFun (k10_v84 (p9 X)) _).trans (hC b _)))))

include hK hs in
theorem z152 (b : Fin 4) (r : Fin 300) : (show IVec S4x300 1 from p15 X (Proc.devRef .tc main_v152)) (ix2 b r) = Ideal.cmp .ogt (rs K sv b r) 0 :=
  (q152 _ b r).trans (congrArg (fun t => Ideal.cmp .ogt t 0) ((congrFun (k14_values_25 (p13 X)) _).trans ((congrFun (k13_values_25 (p12 X)) _).trans (z25 X K sv hK hs b r))))

include hK hs hB in
theorem z155 (b : Fin 4) (r : Fin 300) : (show FVec Ideal S4x300 .f32 from p16 X (Proc.devRef .tc main_v155)) (ix2 b r) = ra K sv B b r 0 :=
  (q155 _ (q154c _) (q154d _) b r).trans (congrArg clip ((q154 _ b r).trans ((congrFun (k14_v149 (p13 X)) _).trans (z149 X K sv B hK hs hB b r 0))))

include hK hs hB in
theorem z158 (b : Fin 4) (r : Fin 300) : (show FVec Ideal S4x300 .f32 from p18 X (Proc.devRef .tc main_v158)) (ix2 b r) = ra K sv B b r 1 :=
  (q158 _ (q157c _) (q157d _) b r).trans (congrArg clip ((q157 _ b r).trans ((congrFun (k16_v149 (p15 X)) _).trans ((congrFun (k15_v149 (p14 X)) _).trans ((congrFun (k14_v149 (p13 X)) _).trans (z149 X K sv B hK hs hB b r 1))))))

include hK hs hB in
theorem z161 (b : Fin 4) (r : Fin 300) : (show FVec Ideal S4x300 .f32 from p20 X (Proc.devRef .tc main_v161)) (ix2 b r) = ra K sv B b r 2 :=
  (q161 _ (q160c _) (q160d _) b r).trans (congrArg clip ((q160 _ b r).trans ((congrFun (k18_v149 (p17 X)) _).trans ((congrFun (k17_v149 (p16 X)) _).trans ((congrFun (k16_v149 (p15 X)) _).trans ((congrFun (k15_v149 (p14 X)) _).trans ((congrFun (k14_v149 (p13 X)) _).trans (z149 X K sv B hK hs hB b r 2))))))))

include hK hs hB in
theorem z164 (b : Fin 4) (r : Fin 300) : (show FVec Ideal S4x300 .f32 from p22 X (Proc.devRef .tc main_v164)) (ix2 b r) = ra K sv B b r 3 :=
  (q164 _ (q163c _) (q163d _) b r).trans (congrArg clip ((q163 _ b r).trans ((congrFun (k20_v149 (p19 X)) _).trans ((congrFun (k19_v149 (p18 X)) _).trans ((congrFun (k18_v149 (p17 X)) _).trans ((congrFun (k17_v149 (p16 X)) _).trans ((congrFun (k16_v149 (p15 X)) _).trans ((congrFun (k15_v149 (p14 X)) _).trans ((congrFun (k14_v149 (p13 X)) _).trans (z149 X K sv B hK hs hB b r 3))))))))))

include hK hs hB in
theorem z176 (b : Fin 4) (r : Fin 300) : (show IVec S4x300 1 from p23 X (Proc.devRef .tc main_v176)) (ix2 b r) = okB (rs K sv b r) (ra K sv B b r) :=
  q176 _ (ra K sv B) (fun b r => (congrFun (k22_v155 (p21 X)) _).trans ((congrFun (k21_v155 (p20 X)) _).trans ((congrFun (k20_v155 (p19 X)) _).trans ((congrFun (k19_v155 (p18 X)) _).trans ((congrFun (k18_v155 (p17 X)) _).trans ((congrFun (k17_v155 (p16 X)) _).trans (z155 X K sv B hK hs hB b r))))))) (fun b r => (congrFun (k22_v158 (p21 X)) _).trans ((congrFun (k21_v158 (p20 X)) _).trans ((congrFun (k20_v158 (p19 X)) _).trans ((congrFun (k19_v158 (p18 X)) _).trans (z158 X K sv B hK hs hB b r))))) (fun b r => (congrFun (k22_v161 (p21 X)) _).trans ((congrFun (k21_v161 (p20 X)) _).trans (z161 X K sv B hK hs hB b r))) (z164 X K sv B hK hs hB) (rs K sv) (fun b r => (congrFun (k22_v152 (p21 X)) _).trans ((congrFun (k21_v152 (p20 X)) _).trans ((congrFun (k20_v152 (p19 X)) _).trans ((congrFun (k19_v152 (p18 X)) _).trans ((congrFun (k18_v152 (p17 X)) _).trans ((congrFun (k17_v152 (p16 X)) _).trans ((congrFun (k16_v152 (p15 X)) _).trans (z152 X K sv hK hs b r)))))))) b r

include hK hs hC in
theorem z177 (b : Fin 4) (r : Fin 300) : (show IVec S4x300 32 from p24 X (Proc.devRef .tc main_v177)) (ix2 b r) = lclip (C b (rq K sv b r)) :=
  (q177 _ (q38 _) (q39 _) b r).trans (congrArg lclip ((congrFun (k23_v150 (p22 X)) _).trans ((congrFun (k22_v150 (p21 X)) _).trans ((congrFun (k21_v150 (p20 X)) _).trans ((congrFun (k20_v150 (p19 X)) _).trans ((congrFun (k19_v150 (p18 X)) _).trans ((congrFun (k18_v150 (p17 X)) _).trans ((congrFun (k17_v150 (p16 X)) _).trans ((congrFun (k16_v150 (p15 X)) _).trans ((congrFun (k15_v150 (p14 X)) _).trans (z150 X K sv C hK hs hC b r)))))))))))

include hK hs hB in
theorem z181_0 (b : Fin 4) (r : Fin 300) : (show FVec Ideal S4x300x2 .f32 from p26 X (Proc.devRef .tc main_v181)) (ix3 b r 0) = srt (ra K sv B b r) 0 :=
  (q181_0 _ b r).trans (congrArg₂ min ((q180_0 _ b r).trans ((congrFun (k24_v155 (p23 X)) _).trans ((congrFun (k23_v155 (p22 X)) _).trans ((congrFun (k22_v155 (p21 X)) _).trans ((congrFun (k21_v155 (p20 X)) _).trans ((congrFun (k20_v155 (p19 X)) _).trans ((congrFun (k19_v155 (p18 X)) _).trans ((congrFun (k18_v155 (p17 X)) _).trans ((congrFun (k17_v155 (p16 X)) _).trans (z155 X K sv B hK hs hB b r)))))))))) ((q180_1 _ b r).trans ((congrFun (k24_v161 (p23 X)) _).trans ((congrFun (k23_v161 (p22 X)) _).trans ((congrFun (k22_v161 (p21 X)) _).trans ((congrFun (k21_v161 (p20 X)) _).trans (z161 X K sv B hK hs hB b r)))))))

include hK hs hB in
theorem z185_0 (b : Fin 4) (r : Fin 300) : (show FVec Ideal S4x300x2 .f32 from p28 X (Proc.devRef .tc main_v185)) (ix3 b r 0) = srt (ra K sv B b r) 1 :=
  (q185_0 _ b r).trans (congrArg₂ min ((q184_0 _ b r).trans ((congrFun (k26_v158 (p25 X)) _).trans ((congrFun (k25_v158 (p24 X)) _).trans ((congrFun (k24_v158 (p23 X)) _).trans ((congrFun (k23_v158 (p22 X)) _).trans ((congrFun (k22_v158 (p21 X)) _).trans ((congrFun (k21_v158 (p20 X)) _).trans ((congrFun (k20_v158 (p19 X)) _).trans ((congrFun (k19_v158 (p18 X)) _).trans (z158 X K sv B hK hs hB b r)))))))))) ((q184_1 _ b r).trans ((congrFun (k26_v164 (p25 X)) _).trans ((congrFun (k25_v164 (p24 X)) _).trans ((congrFun (k24_v164 (p23 X)) _).trans ((congrFun (k23_v164 (p22 X)) _).trans (z164 X K sv B hK hs hB b r)))))))

include hK hs hB in
theorem z181_1 (b : Fin 4) (r : Fin 300) : (show FVec Ideal S4x300x2 .f32 from p26 X (Proc.devRef .tc main_v181)) (ix3 b r 1) = srt (ra K sv B b r) 2 :=
  (q181_1 _ b r).trans (congrArg₂ max ((q180_0 _ b r).trans ((congrFun (k24_v155 (p23 X)) _).trans ((congrFun (k23_v155 (p22 X)) _).trans ((congrFun (k22_v155 (p21 X)) _).trans ((congrFun (k21_v155 (p20 X)) _).trans ((congrFun (k20_v155 (p19 X)) _).trans ((congrFun (k19_v155 (p18 X)) _).trans ((congrFun (k18_v155 (p17 X)) _).trans ((congrFun (k17_v155 (p16 X)) _).trans (z155 X K sv B hK hs hB b r)))))))))) ((q180_1 _ b r).trans ((congrFun (k24_v161 (p23 X)) _).trans ((congrFun (k23_v161 (p22 X)) _).trans ((congrFun (k22_v161 (p21 X)) _).trans ((congrFun (k21_v161 (p20 X)) _).trans (z161 X K sv B hK hs hB b r)))))))

include hK hs hB in
theorem z185_1 (b : Fin 4) (r : Fin 300) : (show FVec Ideal S4x300x2 .f32 from p28 X (Proc.devRef .tc main_v185)) (ix3 b r 1) = srt (ra K sv B b r) 3 :=
  (q185_1 _ b r).trans (congrArg₂ max ((q184_0 _ b r).trans ((congrFun (k26_v158 (p25 X)) _).trans ((congrFun (k25_v158 (p24 X)) _).trans ((congrFun (k24_v158 (p23 X)) _).trans ((congrFun (k23_v158 (p22 X)) _).trans ((congrFun (k22_v158 (p21 X)) _).trans ((congrFun (k21_v158 (p20 X)) _).trans ((congrFun (k20_v158 (p19 X)) _).trans ((congrFun (k19_v158 (p18 X)) _).trans (z158 X K sv B hK hs hB b r)))))))))) ((q184_1 _ b r).trans ((congrFun (k26_v164 (p25 X)) _).trans ((congrFun (k25_v164 (p24 X)) _).trans ((congrFun (k24_v164 (p23 X)) _).trans ((congrFun (k23_v164 (p22 X)) _).trans (z164 X K sv B hK hs hB b r)))))))

include hK hs hB in
theorem post_boxes (b : Fin 4) (r : Fin 300) (k : Fin 4) : (show FVec Ideal S4x300x4 .f32 from afterL (postI (F := Ideal)) X (Proc.devRef .tc main_v202)) (ix3 b r k)
    = srt (ra K sv B b r) k * (((okB (rs K sv b r) (ra K sv B b r)).toNat : ℝ) : EReal) := by
  rw [pwhole]
  exact (congrFun (k32_v202 (p31 X)) _).trans ((congrFun (k31_v202 (p30 X)) _).trans ((congrFun (k30_v202 (p29b X)) _).trans ((q202 _ (fun b r => srt (ra K sv B b r)) (fun b r => (q194 _ b r).trans ((congrFun (k28_v181 (p27 X)) _).trans ((congrFun (k27_v181 (p26 X)) _).trans (z181_0 X K sv B hK hs hB b r)))) (fun b r => (q195 _ b r).trans (z185_0 X K sv B hK hs hB b r)) (fun b r => (q196 _ b r).trans ((congrFun (k28_v181 (p27 X)) _).trans ((congrFun (k27_v181 (p26 X)) _).trans (z181_1 X K sv B hK hs hB b r)))) (fun b r => (q197 _ b r).trans (z185_1 X K sv B hK hs hB b r)) b r k).trans (congrArg (fun t : BitVec 1 => srt (ra K sv B b r) k * ((t.toNat : ℝ) : EReal)) ((congrFun (k29a_v176 (p28 X)) _).trans ((congrFun (k28_v176 (p27 X)) _).trans ((congrFun (k27_v176 (p26 X)) _).trans ((congrFun (k26_v176 (p25 X)) _).trans ((congrFun (k25_v176 (p24 X)) _).trans ((congrFun (k24_v176 (p23 X)) _).trans (z176 X K sv B hK hs hB b r)))))))))))

include hK hs hB in
theorem post_scores (b : Fin 4) (r : Fin 300) : (show FVec Ideal S4x300 .f32 from afterL (postI (F := Ideal)) X (Proc.devRef .tc main_v203)) (ix2 b r)
    = Scalar.select (okB (rs K sv b r) (ra K sv B b r)) (rs K sv b r) 0 := by
  rw [pwhole]
  exact (congrFun (k32_v203 (p31 X)) _).trans ((congrFun (k31_v203 (p30 X)) _).trans ((q203 _ (q40 _) b r).trans (congrArg₂ (fun (t : BitVec 1) u => Scalar.select t u 0) ((congrFun (k29b_v176 (p29a X)) _).trans ((congrFun (k29a_v176 (p28 X)) _).trans ((congrFun (k28_v176 (p27 X)) _).trans ((congrFun (k27_v176 (p26 X)) _).trans ((congrFun (k26_v176 (p25 X)) _).trans ((congrFun (k25_v176 (p24 X)) _).trans ((congrFun (k24_v176 (p23 X)) _).trans (z176 X K sv B hK hs hB b r)))))))) ((congrFun (k29b_values_25 (p29a X)) _).trans ((congrFun (k29a_values_25 (p28 X)) _).trans ((congrFun (k28_values_25 (p27 X)) _).trans ((congrFun (k27_values_25 (p26 X)) _).trans ((congrFun (k26_values_25 (p25 X)) _).trans ((congrFun (k25_values_25 (p24 X)) _).trans ((congrFun (k24_values_25 (p23 X)) _).trans ((congrFun (k23_values_25 (p22 X)) _).trans ((congrFun (k22_values_25 (p21 X)) _).trans ((congrFun (k21_values_25 (p20 X)) _).trans ((congrFun (k20_values_25 (p19 X)) _).trans ((congrFun (k19_values_25 (p18 X)) _).trans ((congrFun (k18_values_25 (p17 X)) _).trans ((congrFun (k17_values_25 (p16 X)) _).trans ((congrFun (k16_values_25 (p15 X)) _).trans ((congrFun (k15_values_25 (p14 X)) _).trans ((congrFun (k14_values_25 (p13 X)) _).trans ((congrFun (k13_values_25 (p12 X)) _).trans (z25 X K sv hK hs b r))))))))))))))))))))))

include hK hs hB hC in
theorem post_labels (b : Fin 4) (r : Fin 300) : (show IVec S4x300 32 from afterL (postI (F := Ideal)) X (Proc.devRef .tc main_v204)) (ix2 b r)
    = Scalar.select (okB (rs K sv b r) (ra K sv B b r)) (lclip (C b (rq K sv b r))) 0#32 := by
  rw [pwhole]
  exact (q204 _ (q41 _) b r).trans (congrArg₂ (fun (t : BitVec 1) (u : BitVec 32) => Scalar.select t u 0#32) ((congrFun (k31_v176 (p30 X)) _).trans ((congrFun (k30_v176 (p29b X)) _).trans ((congrFun (k29b_v176 (p29a X)) _).trans ((congrFun (k29a_v176 (p28 X)) _).trans ((congrFun (k28_v176 (p27 X)) _).trans ((congrFun (k27_v176 (p26 X)) _).trans ((congrFun (k26_v176 (p25 X)) _).trans ((congrFun (k25_v176 (p24 X)) _).trans ((congrFun (k24_v176 (p23 X)) _).trans (z176 X K sv B hK hs hB b r)))))))))) ((congrFun (k31_v177 (p30 X)) _).trans ((congrFun (k30_v177 (p29b X)) _).trans ((congrFun (k29b_v177 (p29a X)) _).trans ((congrFun (k29a_v177 (p28 X)) _).trans ((congrFun (k28_v177 (p27 X)) _).trans ((congrFun (k27_v177 (p26 X)) _).trans ((congrFun (k26_v177 (p25 X)) _).trans ((congrFun (k25_v177 (p24 X)) _).trans (z177 X K sv C hK hs hC b r))))))))))

end Rows

end Cert.ReferenceIdeal.Hand

end
-- ==== Proof.Hand.Rows.lean ====
/-
  One row of the answer, from the candidate it holds (if any), and that both programs compute it.
-/
module

public import proofs.«01_k».proof.Proof.Hand.KVal
public import proofs.«01_k».proof.Proof.Hand.RPost

@[expose] public section

set_option maxRecDepth 16384

noncomputable section

namespace Cert.Nms

open Idealize.ShloMosaic
open Cert.ReferenceIdeal.Hand (lclip rq rs ra qpos lift3)

section Rows

variable (s : Fin 1024 → EReal) (B : Fin 1024 → Fin 4 → EReal) (C : Fin 1024 → BitVec 32)

/-- Whether candidate `i` makes a valid row. -/
def okC (i : Fin 1024) : BitVec 1 := okB (s i) fun k => clip (B i k)

def rowBox (t : Option (Fin 1024)) (k : Fin 4) : EReal :=
  t.elim 0 fun i => srt (fun k => clip (B i k)) k * (((okC s B i).toNat : ℝ) : EReal)

def rowScore (t : Option (Fin 1024)) : EReal := t.elim 0 fun i => Scalar.select (okC s B i) (s i) 0

def rowLabel (t : Option (Fin 1024)) : BitVec 32 := t.elim 0#32 fun i => Scalar.select (okC s B i) (lclip (C i)) 0#32

end Rows

theorem ogt_neg (x : EReal) (h : x ≤ 0) (a : Fin 4 → EReal) : okB x a = 0#1 := by
  unfold okB
  rw [show Ideal.cmp .ogt x 0 = 0#1 from by
    show BitVec.ofBool (decide (0 < x)) = _
    rw [decide_eq_false (not_lt.mpr h)]
    rfl]
  exact BitVec.zero_and

theorem mul_zero_bit (x : EReal) : x * ((((0#1 : BitVec 1).toNat : ℝ)) : EReal) = 0 := by
  rw [show (0#1 : BitVec 1).toNat = 0 from rfl, Nat.cast_zero, EReal.coe_zero, mul_zero]

theorem mul_one_bit (x : EReal) : x * ((((1#1 : BitVec 1).toNat : ℝ)) : EReal) = x := by
  rw [show (1#1 : BitVec 1).toNat = 1 from rfl, Nat.cast_one, EReal.coe_one, mul_one]

theorem bit_cases (b : BitVec 1) : b = 0#1 ∨ b = 1#1 := by
  revert b
  decide

theorem mul_bit (b : BitVec 1) (x : EReal) : x * (((b.toNat : ℝ)) : EReal) = Scalar.select b x 0 := by
  rcases bit_cases b with rfl | rfl
  · rw [mul_zero_bit, sel_zero]
  · rw [mul_one_bit, sel_one]

theorem mone_val : mone = (((-1 : ℝ)) : EReal) := by
  unfold mone
  simp [Ideal.ofBits, Ideal.ieee, -EReal.coe_mul, -EReal.coe_neg]
  norm_num

theorem mone_neg : mone ≤ 0 := by
  rw [mone_val, ← EReal.coe_zero]
  exact EReal.coe_le_coe_iff.mpr (by norm_num)

theorem mone_thr : mone < thr := by
  refine lt_of_lt_of_le (b := 0) ?_ ?_
  · rw [mone_val, ← EReal.coe_zero]
    exact EReal.coe_lt_coe_iff.mpr (by norm_num)
  · unfold thr
    simp [Ideal.ofBits, Ideal.ieee, -EReal.coe_mul]

section Reference

variable (K : Fin 4 → Fin 1024 → Bool) (sv : Fin 4 → Fin 1024 → EReal) (B : Fin 4 → Fin 1024 → Fin 4 → EReal) (C : Fin 4 → Fin 1024 → BitVec 32)
  (hs : ∀ b i j, i ≤ j → sv b j ≤ sv b i) (hK : ∀ b i, K b i = true → thr < sv b i)
include hs hK

theorem rq_some (b : Fin 4) (r : Fin 300) (i : Fin 1024) (h : tbl (K b) 1024 r.val = some i) : rq K sv b r = i ∧ rs K sv b r = sv b i := by
  obtain ⟨e, k⟩ := sorted_some (K b) (sv b) (hs b) mone (fun i hi => mone_thr.trans (hK b i hi)) ⟨r.val, lift3 r⟩ i h
  have e' : rq K sv b r = i := e
  refine ⟨e', ?_⟩
  unfold rs
  rw [e', msc, if_pos k]

theorem rs_none (b : Fin 4) (r : Fin 300) (h : tbl (K b) 1024 r.val = none) : rs K sv b r = mone := by
  have k : K b (rq K sv b r) = false := sorted_none (K b) (sv b) (hs b) mone (fun i hi => mone_thr.trans (hK b i hi)) ⟨r.val, lift3 r⟩ h
  unfold rs
  rw [msc, k]
  rfl

theorem ref_box (b : Fin 4) (r : Fin 300) (k : Fin 4) :
    srt (ra K sv B b r) k * (((okB (rs K sv b r) (ra K sv B b r)).toNat : ℝ) : EReal) = rowBox (sv b) (B b) (tbl (K b) 1024 r.val) k := by
  cases h : tbl (K b) 1024 r.val with
  | none =>
    rw [rs_none K sv hs hK b r h, ogt_neg _ mone_neg, mul_zero_bit]
    rfl
  | some i =>
    obtain ⟨e1, e2⟩ := rq_some K sv hs hK b r i h
    have e3 : ra K sv B b r = fun k => clip (B b i k) := by
      funext k
      unfold ra
      rw [e1]
    rw [e2, e3]
    rfl

theorem ref_score (b : Fin 4) (r : Fin 300) :
    Scalar.select (okB (rs K sv b r) (ra K sv B b r)) (rs K sv b r) 0 = rowScore (sv b) (B b) (tbl (K b) 1024 r.val) := by
  cases h : tbl (K b) 1024 r.val with
  | none =>
    rw [rs_none K sv hs hK b r h, ogt_neg _ mone_neg, sel_zero]
    rfl
  | some i =>
    obtain ⟨e1, e2⟩ := rq_some K sv hs hK b r i h
    have e3 : ra K sv B b r = fun k => clip (B b i k) := by
      funext k
      unfold ra
      rw [e1]
    rw [e2, e3]
    rfl

theorem ref_label (b : Fin 4) (r : Fin 300) :
    Scalar.select (okB (rs K sv b r) (ra K sv B b r)) (lclip (C b (rq K sv b r))) 0#32 = rowLabel (sv b) (B b) (C b) (tbl (K b) 1024 r.val) := by
  cases h : tbl (K b) 1024 r.val with
  | none =>
    rw [rs_none K sv hs hK b r h, ogt_neg _ mone_neg, sel_zero]
    rfl
  | some i =>
    obtain ⟨e1, e2⟩ := rq_some K sv hs hK b r i h
    have e3 : ra K sv B b r = fun k => clip (B b i k) := by
      funext k
      unfold ra
      rw [e1]
    rw [e2, e3, e1]
    rfl

end Reference

section Kernel

variable (s : Fin 1024 → EReal) (B : Fin 1024 → Fin 4 → EReal) (C : Fin 1024 → BitVec 32)

theorem ker_box (t : Option (Fin 1024)) (q : Fin 4) :
    srt (fun k => clip (t.elim 0 fun i => B i k)) q * (((okB (t.elim 0 s) fun k => clip (t.elim 0 fun i => B i k)).toNat : ℝ) : EReal)
      = rowBox s B t q := by
  cases t with
  | none =>
    rw [show (Option.elim (none : Option (Fin 1024)) 0 s) = 0 from rfl, ogt_neg 0 le_rfl, mul_zero_bit]
    rfl
  | some i => rfl

theorem ker_score (t : Option (Fin 1024)) :
    (t.elim 0 s : EReal) * (((okB (t.elim 0 s) fun k => clip (t.elim 0 fun i => B i k)).toNat : ℝ) : EReal) = rowScore s B t := by
  cases t with
  | none =>
    rw [show (Option.elim (none : Option (Fin 1024)) 0 s) = 0 from rfl, ogt_neg 0 le_rfl, mul_zero_bit]
    rfl
  | some i => exact mul_bit _ _

theorem coe_max' (a b : ℝ) : ((max a b : ℝ) : EReal) = max (a : EReal) b := EReal.coe_strictMono.monotone.map_max

theorem coe_min' (a b : ℝ) : ((min a b : ℝ) : EReal) = min (a : EReal) b := EReal.coe_strictMono.monotone.map_min

theorem nineteen : Ideal.ofBits .f32 1100480512#32 = (((19 : ℝ)) : EReal) := by
  simp [Ideal.ofBits, Ideal.ieee, -EReal.coe_mul]
  norm_num

theorem fptosi_int (z : ℤ) (h0 : 0 ≤ z) (h1 : z ≤ 19) : Ideal.fptosi 32 (((z : ℝ)) : EReal) = BitVec.ofInt 32 z := by
  unfold Ideal.fptosi
  rw [Ideal.toIntClamped_coe, if_pos (by exact_mod_cast h0), Int.floor_intCast]
  congr 1
  rw [min_eq_right (by norm_num; omega), max_eq_right (by norm_num; omega)]

theorem lclip_int (x : BitVec 32) : lclip x = BitVec.ofInt 32 (min 19 (max 0 x.toInt)) := by
  have h19 : (19#32 : BitVec 32).toInt = 19 := by decide
  have h0 : (0#32 : BitVec 32).toInt = 0 := by decide
  have e : ∀ y : BitVec 32, BitVec.ofInt 32 y.toInt = y := fun y => BitVec.ofInt_toInt
  have hx : (IntOp.maxsi 0#32 x).toInt = max 0 x.toInt := by
    unfold IntOp.maxsi
    rw [BitVec.slt_eq_decide, h0]
    by_cases h : x.toInt < 0
    · rw [if_pos (by simpa using h), h0, max_eq_left h.le]
    · rw [if_neg (by simpa using h), max_eq_right (not_lt.mp h)]
  unfold lclip IntOp.minsi
  rw [BitVec.slt_eq_decide, h19, hx]
  by_cases h : 19 < max 0 x.toInt
  · rw [if_pos (by simpa using h), min_eq_left h.le, ← h19, e]
  · rw [if_neg (by simpa using h), min_eq_right (not_lt.mp h), ← hx, e]

theorem ker_label (t : Option (Fin 1024)) :
    Ideal.fptosi 32 (min (Ideal.ofBits .f32 1100480512#32) (max 0 (t.elim 0 fun i => (((C i).toInt : ℝ) : EReal)))
      * (((okB (t.elim 0 s) fun k => clip (t.elim 0 fun i => B i k)).toNat : ℝ) : EReal)) = rowLabel s B C t := by
  have hz : Ideal.fptosi 32 (0 : EReal) = 0#32 := by
    have := fptosi_int 0 le_rfl (by norm_num)
    rw [Int.cast_zero, EReal.coe_zero] at this
    exact this
  cases t with
  | none =>
    rw [show (Option.elim (none : Option (Fin 1024)) 0 s) = 0 from rfl, ogt_neg 0 le_rfl, mul_zero_bit, hz]
    rfl
  | some i =>
    have hm : min (Ideal.ofBits .f32 1100480512#32) (max 0 (((C i).toInt : ℝ) : EReal)) = (((min 19 (max 0 (C i).toInt) : ℤ) : ℝ) : EReal) := by
      rw [nineteen, ← EReal.coe_zero, ← coe_max', ← coe_min']
      push_cast
      rfl
    show Ideal.fptosi 32 (min (Ideal.ofBits .f32 1100480512#32) (max 0 (((C i).toInt : ℝ) : EReal)) * (((okC s B i).toNat : ℝ) : EReal))
      = Scalar.select (okC s B i) (lclip (C i)) 0#32
    rw [hm]
    rcases bit_cases (okC s B i) with e | e
    · rw [e, mul_zero_bit, hz, sel_zero]
    · rw [e, mul_one_bit, sel_one, lclip_int]
      exact fptosi_int _ (by omega) (by omega)

end Kernel

end Cert.Nms

end
-- ==== Proof.Hand.KOut.lean ====
/-
  The three result windows after the kernel's last stores, row by row.
-/
module

public import proofs.«01_k».proof.Proof.Hand.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Nms

section Out

variable (c : Dev nD)
  (arg1 : Memref sig .tc .vmem S1x1x1024 .f32) (arg2 : Memref sig .tc .vmem S1x4x1024 .f32)
  (arg3 : Memref sig .tc .vmem S1x1024x4 .f32) (arg4 : Memref sig .tc .vmem S1x1x1024 .f32)
  (arg5 : Memref sig .tc .vmem S1x1024x1 .f32) (arg6 : Memref sig .tc .vmem S1x300x4 .f32)
  (arg7 : Memref sig .tc .vmem S1x300x1 .f32) (arg8 : Memref sig .tc .vmem S1x300x1 .f32)
  (arg9 : Memref sig .tc .vmem S1024x1024 .f32) (arg10 : Memref sig .tc .vmem S1x1024 .f32)
  (x1 : Vec Ideal S1x1x1024 .f32) (x2 : Vec Ideal S1x4x1024 .f32) (x3 : Vec Ideal S1x1024x4 .f32)
  (x4 : Vec Ideal S1x1x1024 .f32) (x5 : Vec Ideal S1x1024x1 .f32)
  (sv : Fin 1024 → EReal) (B : Fin 1024 → Fin 4 → EReal) (cl : Fin 1024 → BitVec 32)
  (h1 : ∀ j, x1 (ix3 0 0 j) = sv j) (h2 : ∀ j k, x2 (ix3 0 k j) = B j k) (h3 : ∀ j k, x3 (ix3 0 j k) = B j k)
  (h4 : ∀ j, x4 (ix3 0 0 j) = (((cl j).toInt : ℝ) : EReal)) (h5 : ∀ j, x5 (ix3 0 j 0) = (((cl j).toInt : ℝ) : EReal))

/-- The candidate in row `r` at the end. -/
def tbK (r : Fin 300) : Option (Fin 1024) := tbl (keptK sv B cl) 1024 r.val

include h1 h2 h3 h4 h5

theorem inv_end : Inv c arg6 arg7 arg8 arg10 sv B cl 1024 (lst c arg1 arg2 arg3 arg4 arg5 arg6 arg7 arg8 arg9 arg10 (arg1.view.rep x1) (arg2.view.rep x2) (arg3.view.rep x3) (arg4.view.rep x4) (arg5.view.rep x5) k0_t1_loop.trips) := by
  rw [trips_eq]
  exact inv_at c arg1 arg2 arg3 arg4 arg5 arg6 arg7 arg8 arg9 arg10 x1 x2 x3 x4 x5 sv B cl h1 h2 h3 h4 h5 1024 le_rfl

theorem lb_at (r : Fin 300) (q : Fin 4) : lb c arg1 arg2 arg3 arg4 arg5 arg6 arg7 arg8 arg9 arg10 (arg1.view.rep x1) (arg2.view.rep x2) (arg3.view.rep x3) (arg4.view.rep x4) (arg5.view.rep x5) (ix3 0 r q) = (tbK sv B cl r).elim 0 fun i => B i q := by
  unfold lb
  rw [View.readAt_full]
  exact (inv_end c arg1 arg2 arg3 arg4 arg5 arg6 arg7 arg8 arg9 arg10 x1 x2 x3 x4 x5 sv B cl h1 h2 h3 h4 h5).ob r q

theorem ls_at (r : Fin 300) : ls c arg1 arg2 arg3 arg4 arg5 arg6 arg7 arg8 arg9 arg10 (arg1.view.rep x1) (arg2.view.rep x2) (arg3.view.rep x3) (arg4.view.rep x4) (arg5.view.rep x5) (ix3 0 r 0) = (tbK sv B cl r).elim 0 sv := by
  unfold ls
  rw [View.readAt_full]
  exact (inv_end c arg1 arg2 arg3 arg4 arg5 arg6 arg7 arg8 arg9 arg10 x1 x2 x3 x4 x5 sv B cl h1 h2 h3 h4 h5).os r

theorem ll_at (r : Fin 300) : ll c arg1 arg2 arg3 arg4 arg5 arg6 arg7 arg8 arg9 arg10 (arg1.view.rep x1) (arg2.view.rep x2) (arg3.view.rep x3) (arg4.view.rep x4) (arg5.view.rep x5) (ix3 0 r 0) = (tbK sv B cl r).elim 0 fun i => (((cl i).toInt : ℝ) : EReal) := by
  unfold ll
  rw [View.readAt_full]
  exact (inv_end c arg1 arg2 arg3 arg4 arg5 arg6 arg7 arg8 arg9 arg10 x1 x2 x3 x4 x5 sv B cl h1 h2 h3 h4 h5).ol r

theorem o6_at (r : Fin 300) (q : Fin 4) : arg6.view.read (Elt Ideal) (o6 c arg1 arg2 arg3 arg4 arg5 arg6 arg7 arg8 arg9 arg10 (arg1.view.rep x1) (arg2.view.rep x2) (arg3.view.rep x3) (arg4.view.rep x4) (arg5.view.rep x5)) (ix3 0 r q) = rowBox sv B (tbK sv B cl r) q := by
  unfold o6
  refine (congrFun (View.read_writes_full arg6.view _ _ _ _) (ix3 0 r q)).trans ((pay72_at _ _ r q).trans ?_)
  rw [show (fun k => clip (lb c arg1 arg2 arg3 arg4 arg5 arg6 arg7 arg8 arg9 arg10 (arg1.view.rep x1) (arg2.view.rep x2) (arg3.view.rep x3) (arg4.view.rep x4) (arg5.view.rep x5) (ix3 0 r k))) = fun k => clip ((tbK sv B cl r).elim 0 fun i => B i k) from
    funext fun k => by rw [lb_at c arg1 arg2 arg3 arg4 arg5 arg6 arg7 arg8 arg9 arg10 x1 x2 x3 x4 x5 sv B cl h1 h2 h3 h4 h5], ls_at c arg1 arg2 arg3 arg4 arg5 arg6 arg7 arg8 arg9 arg10 x1 x2 x3 x4 x5 sv B cl h1 h2 h3 h4 h5]
  exact ker_box sv B (tbK sv B cl r) q

theorem o7_at (r : Fin 300) : arg7.view.read (Elt Ideal) (o7 c arg1 arg2 arg3 arg4 arg5 arg6 arg7 arg8 arg9 arg10 (arg1.view.rep x1) (arg2.view.rep x2) (arg3.view.rep x3) (arg4.view.rep x4) (arg5.view.rep x5)) (ix3 0 r 0) = rowScore sv B (tbK sv B cl r) := by
  unfold o7
  refine (congrFun (View.read_writes_full arg7.view _ _ _ _) (ix3 0 r 0)).trans ((pay73_at _ _ r).trans ?_)
  rw [show (fun k => clip (lb c arg1 arg2 arg3 arg4 arg5 arg6 arg7 arg8 arg9 arg10 (arg1.view.rep x1) (arg2.view.rep x2) (arg3.view.rep x3) (arg4.view.rep x4) (arg5.view.rep x5) (ix3 0 r k))) = fun k => clip ((tbK sv B cl r).elim 0 fun i => B i k) from
    funext fun k => by rw [lb_at c arg1 arg2 arg3 arg4 arg5 arg6 arg7 arg8 arg9 arg10 x1 x2 x3 x4 x5 sv B cl h1 h2 h3 h4 h5], ls_at c arg1 arg2 arg3 arg4 arg5 arg6 arg7 arg8 arg9 arg10 x1 x2 x3 x4 x5 sv B cl h1 h2 h3 h4 h5]
  exact ker_score sv B (tbK sv B cl r)

/-- The label column before the conversion to integers. -/
def labV (sv : Fin 1024 → EReal) (B : Fin 1024 → Fin 4 → EReal) (cl : Fin 1024 → BitVec 32) (t : Option (Fin 1024)) : EReal :=
  min (Ideal.ofBits .f32 1100480512#32) (max 0 (t.elim 0 fun i => (((cl i).toInt : ℝ) : EReal)))
    * (((okB (t.elim 0 sv) fun k => clip (t.elim 0 fun i => B i k)).toNat : ℝ) : EReal)

theorem o8_at (r : Fin 300) : arg8.view.read (Elt Ideal) (o8 c arg1 arg2 arg3 arg4 arg5 arg6 arg7 arg8 arg9 arg10 (arg1.view.rep x1) (arg2.view.rep x2) (arg3.view.rep x3) (arg4.view.rep x4) (arg5.view.rep x5)) (ix3 0 r 0) = labV sv B cl (tbK sv B cl r) := by
  unfold o8
  refine (congrFun (View.read_writes_full arg8.view _ _ _ _) (ix3 0 r 0)).trans ((pay1_at _ _ _ r).trans ?_)
  rw [show (fun k => clip (lb c arg1 arg2 arg3 arg4 arg5 arg6 arg7 arg8 arg9 arg10 (arg1.view.rep x1) (arg2.view.rep x2) (arg3.view.rep x3) (arg4.view.rep x4) (arg5.view.rep x5) (ix3 0 r k))) = fun k => clip ((tbK sv B cl r).elim 0 fun i => B i k) from
    funext fun k => by rw [lb_at c arg1 arg2 arg3 arg4 arg5 arg6 arg7 arg8 arg9 arg10 x1 x2 x3 x4 x5 sv B cl h1 h2 h3 h4 h5], ls_at c arg1 arg2 arg3 arg4 arg5 arg6 arg7 arg8 arg9 arg10 x1 x2 x3 x4 x5 sv B cl h1 h2 h3 h4 h5,
    ll_at c arg1 arg2 arg3 arg4 arg5 arg6 arg7 arg8 arg9 arg10 x1 x2 x3 x4 x5 sv B cl h1 h2 h3 h4 h5]
  rfl

end Out

end Cert.KernelIdeal.Hand

end
-- ==== Proof.Hand.KArr.lean ====
/-
  The kernel's three result arrays: each grid point treats one image of the batch and writes one block of each array.
-/
module

public import proofs.«01_k».proof.Proof.Hand.KOut
public import proofs.«01_k».proof.Proof.Hand.KRun
public import proofs.«01_k».proof.Proof.Hand.KHead
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Cert.Nms

/-- Each window's block at point `t` is image `t` of its array. -/
theorem widx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] :=
  (by decide +kernel : ∀ t : Fin grid0.N, _)

/-- The image that point `t` treats. -/
def im (t : Fin cfg0.N) : Fin 4 := ⟨t.val, t.isLt⟩

variable (t : Fin cfg0.N)

theorem rd0 (A : FVec Ideal S4x1x1024 .f32) (j : Fin 1024) :
    (show FVec Ideal S1x1x1024 .f32 from ((cfg0.win 0).blk t).view.read (Elt Ideal) A) (ix3 0 0 j) = A (ix3 (im t) 0 j) := by
  blk_ext [widx t, im]
theorem rd1 (A : FVec Ideal S4x4x1024 .f32) (k : Fin 4) (j : Fin 1024) :
    (show FVec Ideal S1x4x1024 .f32 from ((cfg0.win 1).blk t).view.read (Elt Ideal) A) (ix3 0 k j) = A (ix3 (im t) k j) := by
  blk_ext [widx t, im]
theorem rd2 (A : FVec Ideal S4x1024x4 .f32) (k : Fin 4) (j : Fin 1024) :
    (show FVec Ideal S1x1024x4 .f32 from ((cfg0.win 2).blk t).view.read (Elt Ideal) A) (ix3 0 j k) = A (ix3 (im t) j k) := by
  blk_ext [widx t, im]
theorem rd3 (A : FVec Ideal S4x1x1024 .f32) (j : Fin 1024) :
    (show FVec Ideal S1x1x1024 .f32 from ((cfg0.win 3).blk t).view.read (Elt Ideal) A) (ix3 0 0 j) = A (ix3 (im t) 0 j) := by
  blk_ext [widx t, im]
theorem rd4 (A : FVec Ideal S4x1024x1 .f32) (j : Fin 1024) :
    (show FVec Ideal S1x1024x1 .f32 from ((cfg0.win 4).blk t).view.read (Elt Ideal) A) (ix3 0 j 0) = A (ix3 (im t) j 0) := by
  blk_ext [widx t, im]

/-- The candidate in row `r` of image `b`. -/
def tb (P : FVec Ideal S4x12288x85 .f32) (b : Fin 4) (r : Fin 300) : Option (Fin 1024) :=
  tbK (sc P (mxK P) b) (bx P (mxK P) b) (clK P b) r

def resBox (P : FVec Ideal S4x12288x85 .f32) : FVec Ideal S4x300x4 .f32 := fun i =>
  rowBox (sc P (mxK P) (i 0)) (bx P (mxK P) (i 0)) (tb P (i 0) (i 1)) (i 2)
def resScore (P : FVec Ideal S4x12288x85 .f32) : FVec Ideal S4x300x1 .f32 := fun i =>
  rowScore (sc P (mxK P) (i 0)) (bx P (mxK P) (i 0)) (tb P (i 0) (i 1))
def resLab (P : FVec Ideal S4x12288x85 .f32) : FVec Ideal S4x300x1 .f32 := fun i =>
  labV (sc P (mxK P) (i 0)) (bx P (mxK P) (i 0)) (clK P (i 0)) (tb P (i 0) (i 1))

variable (m : (ℓ : Loc nD τ sig) → Buf (Elt Ideal) ℓ) (c : Dev nD)

/-- The predictions of the launched arguments. -/
def preds : FVec Ideal S4x12288x85 .f32 := kP (fun b => m (c, b))

theorem V0_eq : V0 m c = StableHlo.after (hostOps0 (F := Ideal)) (fun b => m (c, b)) := by
  show StableHlo.after (List.flatten [hostOps0]) _ = _
  rw [List.flatten_cons, List.flatten_nil, List.append_nil]

theorem ib0 (j : Fin 1024) : (show FVec Ideal S1x1x1024 .f32 from iblk m c 0 t) (ix3 0 0 j) = sc (preds m c) (mxK (preds m c)) (im t) j := by
  unfold iblk V
  rw [V0_eq]
  exact (rd0 t _ j).trans (head98 _ _ j)
theorem ib1 (j : Fin 1024) (k : Fin 4) : (show FVec Ideal S1x4x1024 .f32 from iblk m c 1 t) (ix3 0 k j) = bx (preds m c) (mxK (preds m c)) (im t) j k := by
  unfold iblk V
  rw [V0_eq]
  exact (rd1 t _ k j).trans (head96 _ _ j k)
theorem ib2 (j : Fin 1024) (k : Fin 4) : (show FVec Ideal S1x1024x4 .f32 from iblk m c 2 t) (ix3 0 j k) = bx (preds m c) (mxK (preds m c)) (im t) j k := by
  unfold iblk V
  rw [V0_eq]
  exact (rd2 t _ k j).trans (head91 _ _ j k)
theorem ib3 (j : Fin 1024) : (show FVec Ideal S1x1x1024 .f32 from iblk m c 3 t) (ix3 0 0 j) = (((clK (preds m c) (im t) j).toInt : ℝ) : EReal) := by
  unfold iblk V
  rw [V0_eq]
  exact (rd3 t _ j).trans (head99 _ _ j)
theorem ib4 (j : Fin 1024) : (show FVec Ideal S1x1024x1 .f32 from iblk m c 4 t) (ix3 0 j 0) = (((clK (preds m c) (im t) j).toInt : ℝ) : EReal) := by
  unfold iblk V
  rw [V0_eq]
  exact (rd4 t _ j).trans (head97 _ _ j)

theorem ob5 (r : Fin 300) (q : Fin 4) : (show FVec Ideal S1x300x4 .f32 from oblk5 m c t) (ix3 0 r q) = resBox (preds m c) (ix3 (im t) r q) := by
  unfold oblk5
  exact o6_at _ _ _ _ _ _ _ _ _ _ _ _ _ _ _ _ _ _ _ (ib0 t m c) (ib1 t m c) (ib2 t m c) (ib3 t m c) (ib4 t m c) r q
theorem ob6 (r : Fin 300) : (show FVec Ideal S1x300x1 .f32 from oblk6 m c t) (ix3 0 r 0) = resScore (preds m c) (ix3 (im t) r 0) := by
  unfold oblk6
  exact o7_at _ _ _ _ _ _ _ _ _ _ _ _ _ _ _ _ _ _ _ (ib0 t m c) (ib1 t m c) (ib2 t m c) (ib3 t m c) (ib4 t m c) r
theorem ob7 (r : Fin 300) : (show FVec Ideal S1x300x1 .f32 from oblk7 m c t) (ix3 0 r 0) = resLab (preds m c) (ix3 (im t) r 0) := by
  unfold oblk7
  exact o8_at _ _ _ _ _ _ _ _ _ _ _ _ _ _ _ _ _ _ _ (ib0 t m c) (ib1 t m c) (ib2 t m c) (ib3 t m c) (ib4 t m c) r

theorem fin5 : (dats m 0 c).arrAt 5 cfg0.N = resBox (preds m c) := by
  refine (dats m 0 c).arrAt_eq_of_covers 5 _ (by decide +kernel) fun t hf y => ?_
  blk_simp
  rw [after_w5]
  have hy : (y : S1x300x4.Idx) = ix3 0 (y 1) (y 2) := by
    funext a; fin_cases a
    · exact Subsingleton.elim (α := Fin 1) _ _
    · rfl
    · rfl
  refine (congrArg (show FVec Ideal S1x300x4 .f32 from oblk5 m c t) hy).trans ((ob5 t m c (y 1) (y 2)).trans (congrArg (resBox (preds m c)) ?_))
  blk_ext [widx t, im]

theorem fin6 : (dats m 0 c).arrAt 6 cfg0.N = resScore (preds m c) := by
  refine (dats m 0 c).arrAt_eq_of_covers 6 _ (by decide +kernel) fun t hf y => ?_
  blk_simp
  rw [after_w6]
  have hy : (y : S1x300x1.Idx) = ix3 0 (y 1) 0 := by
    funext a; fin_cases a
    · exact Subsingleton.elim (α := Fin 1) _ _
    · rfl
    · exact Subsingleton.elim (α := Fin 1) _ _
  refine (congrArg (show FVec Ideal S1x300x1 .f32 from oblk6 m c t) hy).trans ((ob6 t m c (y 1)).trans (congrArg (resScore (preds m c)) ?_))
  blk_ext [widx t, im]

theorem fin7 : (dats m 0 c).arrAt 7 cfg0.N = resLab (preds m c) := by
  refine (dats m 0 c).arrAt_eq_of_covers 7 _ (by decide +kernel) fun t hf y => ?_
  blk_simp
  rw [after_w7]
  have hy : (y : S1x300x1.Idx) = ix3 0 (y 1) 0 := by
    funext a; fin_cases a
    · exact Subsingleton.elim (α := Fin 1) _ _
    · rfl
    · exact Subsingleton.elim (α := Fin 1) _ _
  refine (congrArg (show FVec Ideal S1x300x1 .f32 from oblk7 m c t) hy).trans ((ob7 t m c (y 1)).trans (congrArg (resLab (preds m c)) ?_))
  blk_ext [widx t, im]

/-! ## The host's last lines -/

theorem tail_score (X : Valuation τ sig (Elt Ideal)) (A : FVec Ideal S4x300x1 .f32) (h : X (Proc.devRef .tc main_call0_v100_1) = A) (b : Fin 4) (r : Fin 300) :
    (show FVec Ideal S4x300 .f32 from StableHlo.after (hostOps1 (F := Ideal)) X (Proc.devRef .tc main_v0_2)) (ix2 b r) = A (ix3 b r 0) := by
  after_reads_simp
  generalize X (Proc.devRef .tc main_call0_v100_1) = y at h ⊢
  have h' := congrFun h (ix3 b r 0)
  change y (ix3 b r 0) = _ at h'
  clean_types
  pointwise
  rw [h']

theorem tail_label (X : Valuation τ sig (Elt Ideal)) (A : FVec Ideal S4x300x1 .f32) (h : X (Proc.devRef .tc main_call0_v100_2) = A) (b : Fin 4) (r : Fin 300) :
    (show IVec S4x300 32 from StableHlo.after (hostOps1 (F := Ideal)) X (Proc.devRef .tc main_v0_1)) (ix2 b r) = Ideal.fptosi 32 (A (ix3 b r 0)) := by
  after_reads_simp
  simp -implicitDefEqProofs only [StableHlo.TRef.toBuf, StableHlo.TRef.ofBuf, cast_cast, cast_eq]
  generalize X (Proc.devRef .tc main_call0_v100_2) = y at h ⊢
  have h' := congrFun h (ix3 b r 0)
  change y (ix3 b r 0) = _ at h'
  clean_types
  pointwise
  rw [h']
  rfl

/-- The three results, in the rows' terms. -/
def outBox (P : FVec Ideal S4x12288x85 .f32) : FVec Ideal S4x300x4 .f32 := resBox P
def outScore (P : FVec Ideal S4x12288x85 .f32) : FVec Ideal S4x300 .f32 := fun i =>
  rowScore (sc P (mxK P) (i 0)) (bx P (mxK P) (i 0)) (tb P (i 0) (i 1))
def outLabel (P : FVec Ideal S4x12288x85 .f32) : IVec S4x300 32 := fun i =>
  rowLabel (sc P (mxK P) (i 0)) (bx P (mxK P) (i 0)) (clK P (i 0)) (tb P (i 0) (i 1))

theorem ix2_eta (i : S4x300.Idx) : i = ix2 (i 0) (i 1) := by
  funext a; fin_cases a <;> rfl

theorem exit_score : Pipeline.afterTail₀ cfgs (dats m) 0 (V0 m) [hostOps1] c main_v0_2 = outScore (preds m c) := by
  unfold Pipeline.afterTail₀
  funext i
  refine (congrArg (fun i => (show FVec Ideal S4x300 .f32 from _) i) (ix2_eta i)).trans ((tail_score _ (resScore (preds m c)) ?_ (i 0) (i 1)).trans ?_)
  · exact (Pipeline.withArrays_arr spec0 (by decide) c _ _ 6).trans (fin6 m c)
  · rfl

theorem exit_label : Pipeline.afterTail₀ cfgs (dats m) 0 (V0 m) [hostOps1] c main_v0_1 = outLabel (preds m c) := by
  unfold Pipeline.afterTail₀
  funext i
  refine (congrArg (fun i => (show IVec S4x300 32 from _) i) (ix2_eta i)).trans ((tail_label _ (resLab (preds m c)) ?_ (i 0) (i 1)).trans ?_)
  · exact (Pipeline.withArrays_arr spec0 (by decide) c _ _ 7).trans (fin7 m c)
  · exact ker_label _ _ _ _

/-- Every run of the kernel ends with the three results, its arguments as launched. -/
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = outBox (preds m c)
      ∧ r.2.mem ((c.tc : Thread nD τ).loc main_v0_1) = outLabel (preds m c)
      ∧ r.2.mem ((c.tc : Thread nD τ).loc main_v0_2) = outScore (preds m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (fin5 m c),
      ((h.1 c).2 main_v0_1 (Pipeline.mem_restRefs_of main_v0_1 (by decide) (by decide))).trans (exit_label m c),
      ((h.1 c).2 main_v0_2 (Pipeline.mem_restRefs_of main_v0_2 (by decide) (by decide))).trans (exit_score m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩) (run_main m ρ)

end Cert.KernelIdeal.Hand

end
-- ==== Proof.Hand.Algebraic.lean ====
/-
  The reference's three results are the kernel's, whenever the arguments are the same.
-/
module

public import proofs.«01_k».proof.Proof.Hand.KArr
public import proofs.«01_k».proof.Proof.Hand.RLoop

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo
open Cert.Nms
open Cert.KernelIdeal.Hand (mxK amK clK kP tb tbK keptK outBox outScore outLabel)

variable (m : (ℓ : Loc nD τ sig) → Buf (Elt Ideal) ℓ) (c : Dev nD)

/-- The predictions of the launched arguments. -/
def preds : FVec Ideal S4x12288x85 .f32 := rP (inp m c)

theorem keptR_keep (P : FVec Ideal S4x12288x85 .f32) (b : Fin 4) (i : Fin 1024) (h : keptR P b i = true) : thr < sc P (mxK P) b i :=
  of_decide_eq_true (kp_sub _ _ _ i h)

/-- The reference's rows are filled from the same table as the kernel's. -/
theorem tb_eq (P : FVec Ideal S4x12288x85 .f32) (b : Fin 4) (r : Fin 300) : tbl (keptR P b) 1024 r.val = tb P b r := rfl

theorem lp_values (b : Fin 4) (j : Fin 1024) : (show FVec Ideal S4x1024 .f32 from loopEnd m c (Proc.devRef .tc main_values)) (ix2 b j)
    = sc (preds m c) (mxK (preds m c)) b j :=
  (congrFun (loopEnd_keep m c main_values (by decide +kernel) (by decide +kernel)) (ix2 b j)).trans (entry_values (inp m c) b j)
theorem lp_boxes (b : Fin 4) (j : Fin 1024) (k : Fin 4) : (show FVec Ideal S4x1024x4 .f32 from loopEnd m c (Proc.devRef .tc main_v83)) (ix3 b j k)
    = bx (preds m c) (mxK (preds m c)) b j k :=
  (congrFun (loopEnd_keep m c main_v83 (by decide +kernel) (by decide +kernel)) (ix3 b j k)).trans (entry_boxes (inp m c) b j k)
theorem lp_classes (b : Fin 4) (j : Fin 1024) : (show IVec S4x1024 32 from loopEnd m c (Proc.devRef .tc main_v84)) (ix2 b j)
    = clK (preds m c) b j :=
  (congrFun (loopEnd_keep m c main_v84 (by decide +kernel) (by decide +kernel)) (ix2 b j)).trans (entry_classes (inp m c) b j)

theorem hs (b : Fin 4) (i j : Fin 1024) (h : i ≤ j) : sc (preds m c) (mxK (preds m c)) b j ≤ sc (preds m c) (mxK (preds m c)) b i :=
  sc_antitone _ _ b i j h

theorem ix3_eta (i : S4x300x4.Idx) : i = ix3 (i 0) (i 1) (i 2) := by
  funext a; fin_cases a <;> rfl
theorem ix2_eta (i : S4x300.Idx) : i = ix2 (i 0) (i 1) := by
  funext a; fin_cases a <;> rfl

theorem end_boxes : finalContents condOps preI bodyI postI 1024 m c (Proc.devRef .tc main_v202) = outBox (preds m c) := by
  rw [final_eq]
  funext i
  refine (congrArg (show FVec Ideal S4x300x4 .f32 from afterL postI (loopEnd m c) (Proc.devRef .tc main_v202)) (ix3_eta i)).trans ?_
  refine (post_boxes (loopEnd m c) (keptR (preds m c)) (sc (preds m c) (mxK (preds m c))) (bx (preds m c) (mxK (preds m c)))
    (loop_keep m c) (lp_values m c) (lp_boxes m c) (i 0) (i 1) (i 2)).trans ?_
  exact ref_box _ _ _ (hs m c) (keptR_keep (preds m c)) (i 0) (i 1) (i 2)

theorem end_scores : finalContents condOps preI bodyI postI 1024 m c (Proc.devRef .tc main_v203) = outScore (preds m c) := by
  rw [final_eq]
  funext i
  refine (congrArg (show FVec Ideal S4x300 .f32 from afterL postI (loopEnd m c) (Proc.devRef .tc main_v203)) (ix2_eta i)).trans ?_
  refine (post_scores (loopEnd m c) (keptR (preds m c)) (sc (preds m c) (mxK (preds m c))) (bx (preds m c) (mxK (preds m c)))
    (loop_keep m c) (lp_values m c) (lp_boxes m c) (i 0) (i 1)).trans ?_
  exact ref_score _ _ _ (hs m c) (keptR_keep (preds m c)) (i 0) (i 1)

theorem end_labels : finalContents condOps preI bodyI postI 1024 m c (Proc.devRef .tc main_v204) = outLabel (preds m c) := by
  rw [final_eq]
  funext i
  refine (congrArg (show IVec S4x300 32 from afterL postI (loopEnd m c) (Proc.devRef .tc main_v204)) (ix2_eta i)).trans ?_
  refine (post_labels (loopEnd m c) (keptR (preds m c)) (sc (preds m c) (mxK (preds m c))) (bx (preds m c) (mxK (preds m c))) (clK (preds m c))
    (loop_keep m c) (lp_values m c) (lp_boxes m c) (lp_classes m c) (i 0) (i 1)).trans ?_
  exact ref_label _ _ _ _ (hs m c) (keptR_keep (preds m c)) (i 0) (i 1)

/-- Every run of the reference ends with the three results, its arguments as launched. -/
theorem run_value (ρ : Dev nD → PrngReg) : θ_run (defs (F := Ideal)) (onTc (τ := τ) (main (F := Ideal))) ⟨m, fun _ => 0, ρ⟩
    (fun r => ∀ c : Dev nD,
      r.2.mem ((c.tc : Thread nD τ).loc main_v202) = outBox (preds m c)
      ∧ r.2.mem ((c.tc : Thread nD τ).loc main_v204) = outLabel (preds m c)
      ∧ r.2.mem ((c.tc : Thread nD τ).loc main_v203) = outScore (preds m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c main_v202 rfl).trans (end_boxes m c), (h c main_v204 rfl).trans (end_labels m c),
      (h c main_v203 rfl).trans (end_scores m c), (h c main_arg0 rfl).trans (final_arg0 m c),
      (h c main_arg1 rfl).trans (final_arg1 m c), (h c main_arg2 rfl).trans (final_arg2 m c)⟩) (run_fold (F := Ideal) m ρ)

end Cert.ReferenceIdeal.Hand

namespace Cert.Proof

open Idealize.ShloMosaic

/-- The kernel and the reference leave the same three results, over exact arithmetic. -/
theorem algebraic : Cert.algebraic_KernelIdeal_ReferenceIdeal := by
  intro m g m' g' _ hm
  have hP : ∀ c, Cert.ReferenceIdeal.Hand.preds m' c = Cert.KernelIdeal.Hand.preds m c := fun c =>
    Cert.ReferenceIdeal.Hand.rP_eq _ _ (hm c).1 (hm c).2.1 (hm c).2.2
  refine ⟨fun c => Cert.KernelIdeal.Hand.outBox (Cert.KernelIdeal.Hand.preds m c), fun c => Cert.KernelIdeal.Hand.outLabel (Cert.KernelIdeal.Hand.preds m c),
    fun c => Cert.KernelIdeal.Hand.outScore (Cert.KernelIdeal.Hand.preds m c), Cert.KernelIdeal.Hand.run_value m g, ?_⟩
  have h := Cert.ReferenceIdeal.Hand.run_value m' g'
  simp only [hP] at h
  exact h

end Cert.Proof

end
-- ==== Proof.lean ====
/-
  The proof of the certificate's claim, from the runs of the two kernel programs and of the reference,
  and the equality of the kernel's and the reference's results.
-/
module

public import proofs.«01_k».proof.Defs
public import proofs.«01_k».proof.Proof.Hand.KRun
public import proofs.«01_k».proof.Proof.HandK.KRun
public import proofs.«01_k».proof.Proof.Hand.RFrame
public import proofs.«01_k».proof.Proof.Hand.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts,
    fun m g _ => Cert.Kernel.Hand.run_frame m g,
    fun m g _ => Cert.KernelIdeal.Hand.run_frame m g,
    fun m g _ => Cert.ReferenceIdeal.Hand.run_frame m g,
    trivial,
    algebraic⟩

end Cert.Proof

end
